-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "fifteenth" .f32 0x3D888889#32 ((15⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S20000x3 : Shape := ⟨2, ![20000, 3]⟩
abbrev S2x300000 : Shape := ⟨2, ![2, 300000]⟩
abbrev S20000 : Shape := ⟨1, ![20000]⟩
abbrev S10x5x3 : Shape := ⟨3, ![10, 5, 3]⟩
abbrev S33x20 : Shape := ⟨2, ![33, 20]⟩
abbrev S20 : Shape := ⟨1, ![20]⟩
abbrev S20x20 : Shape := ⟨2, ![20, 20]⟩
abbrev S60x64 : Shape := ⟨2, ![60, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S_ : Shape := ⟨0, ![]⟩
abbrev S3x20 : Shape := ⟨2, ![3, 20]⟩

class Facts : Prop where
  bcast_S_S20000x3 : S_.BroadcastsInDim S20000x3 (![] : Fin 0 → Fin S20000x3.rank)
  reducesTo_S20000x3_S_d0_1 : S20000x3.ReducesTo [0, 1] S_
  h_S_ : 0 < S_.numel
  slices_S33x20_S3x20_30_0 : S33x20.Slices ![30, 0] S3x20
  bcast_S_S3x20 : S_.BroadcastsInDim S3x20 (![] : Fin 0 → Fin S3x20.rank)
  reducesTo_S3x20_S_d0_1 : S3x20.ReducesTo [0, 1] S_

variable [Facts]

def fn {F : FTy → Type} [FloatOps F] (main_arg0 : FVec F S20000x3 .f32) (main_arg1 : IVec S2x300000 32) (main_arg2 : IVec S20000 32) (main_arg3 : FVec F S10x5x3 .f32) (main_arg4 : FVec F S33x20 .f32) (main_arg5 : FVec F S20 .f32) (main_arg6 : FVec F S20x20 .f32) (main_arg7 : FVec F S20 .f32) (main_arg8 : FVec F S60x64 .f32) (main_arg9 : FVec F S64 .f32) (main_arg10 : FVec F S64x32 .f32) (main_arg11 : FVec F S32 .f32) (main_arg12 : FVec F S32x256 .f32) (main_arg13 : FVec F S256 .f32) (main_arg14 : FVec F S256x40 .f32) (main_arg15 : FVec F S40 .f32) : IVec S_ 1 :=
  let main_v0 : FVec F S20000x3 .f32 := Host.absf main_arg0
  let main_cst : FVec F S_ .f32 := constant S_ .f32 0x7F800000#32
  let main_v1 : FVec F S20000x3 .f32 := broadcastInDim S20000x3 ![] bcast_S_S20000x3 main_cst
  let main_v2 : IVec S20000x3 1 := cmpf .olt main_v0 main_v1
  let main_c : IVec S_ 1 := constantI S_ 1 1#1
  let main_v3 : IVec S_ 1 := (fun x v => Host.reduce IntOp.andi x v reducesTo_S20000x3_S_d0_1 h_S_) main_v2 main_c
  let main_v4 : FVec F S3x20 .f32 := (extractStridedSlice S3x20 ![30, 0] · slices_S33x20_S3x20_30_0) main_arg4
  let main_v5 : FVec F S3x20 .f32 := Host.absf main_v4
  let main_cst_0 : FVec F S_ .f32 := constant S_ .f32 0x7F800000#32
  let main_v6 : FVec F S3x20 .f32 := broadcastInDim S3x20 ![] bcast_S_S3x20 main_cst_0
  let main_v7 : IVec S3x20 1 := cmpf .olt main_v5 main_v6
  let main_c_1 : IVec S_ 1 := constantI S_ 1 1#1
  let main_v8 : IVec S_ 1 := (fun x v => Host.reduce IntOp.andi x v reducesTo_S3x20_S_d0_1 h_S_) main_v7 main_c_1
  let main_v9 : IVec S_ 1 := andi main_v3 main_v8
  main_v9
-- ==== Kernel.lean ====
abbrev S20000x3 : Shape := ⟨2, ![20000, 3]⟩
abbrev S2x300000 : Shape := ⟨2, ![2, 300000]⟩
abbrev S20000 : Shape := ⟨1, ![20000]⟩
abbrev S10x5x3 : Shape := ⟨3, ![10, 5, 3]⟩
abbrev S33x20 : Shape := ⟨2, ![33, 20]⟩
abbrev S20 : Shape := ⟨1, ![20]⟩
abbrev S20x20 : Shape := ⟨2, ![20, 20]⟩
abbrev S60x64 : Shape := ⟨2, ![60, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S20x1000x3 : Shape := ⟨3, ![20, 1000, 3]⟩
abbrev S4x1000x3 : Shape := ⟨3, ![4, 1000, 3]⟩
abbrev S3x20x1000 : Shape := ⟨3, ![3, 20, 1000]⟩
abbrev S3x4x1000 : Shape := ⟨3, ![3, 4, 1000]⟩
abbrev S3x4x1x1000 : Shape := ⟨4, ![3, 4, 1, 1000]⟩
abbrev S3x5x10 : Shape := ⟨3, ![3, 5, 10]⟩
abbrev S3x5x10x1 : Shape := ⟨4, ![3, 5, 10, 1]⟩
abbrev S3x3 : Shape := ⟨2, ![3, 3]⟩
abbrev S_ : Shape := ⟨0, ![]⟩
abbrev S3x1x1x3 : Shape := ⟨4, ![3, 1, 1, 3]⟩
abbrev S3x5x10x3 : Shape := ⟨4, ![3, 5, 10, 3]⟩
abbrev S15x30 : Shape := ⟨2, ![15, 30]⟩
abbrev S1x20 : Shape := ⟨2, ![1, 20]⟩
abbrev S1x64 : Shape := ⟨2, ![1, 64]⟩
abbrev S1x32 : Shape := ⟨2, ![1, 32]⟩
abbrev S1x256 : Shape := ⟨2, ![1, 256]⟩
abbrev S1x40 : Shape := ⟨2, ![1, 40]⟩
abbrev S20x40 : Shape := ⟨2, ![20, 40]⟩
abbrev S1x1000x3 : Shape := ⟨3, ![1, 1000, 3]⟩
abbrev S3x1x1x1000 : Shape := ⟨4, ![3, 1, 1, 1000]⟩
abbrev S4000x20 : Shape := ⟨2, ![4000, 20]⟩
abbrev S20x200 : Shape := ⟨2, ![20, 200]⟩
abbrev S20x32 : Shape := ⟨2, ![20, 32]⟩
abbrev S1000x3 : Shape := ⟨2, ![1000, 3]⟩
abbrev S3x1000 : Shape := ⟨2, ![3, 1000]⟩
abbrev S1000x1000 : Shape := ⟨2, ![1000, 1000]⟩
abbrev S1000x1 : Shape := ⟨2, ![1000, 1]⟩
abbrev S1x1000 : Shape := ⟨2, ![1, 1000]⟩
abbrev S1x15 : Shape := ⟨2, ![1, 15]⟩
abbrev S3x15 : Shape := ⟨2, ![3, 15]⟩
abbrev S1000x30 : Shape := ⟨2, ![1000, 30]⟩
abbrev S1000 : Shape := ⟨1, ![1000]⟩
abbrev S1000x15 : Shape := ⟨2, ![1000, 15]⟩
abbrev S30x20 : Shape := ⟨2, ![30, 20]⟩
abbrev S1000x20 : Shape := ⟨2, ![1000, 20]⟩
abbrev S3x20 : Shape := ⟨2, ![3, 20]⟩
abbrev S1x20x1000 : Shape := ⟨3, ![1, 20, 1000]⟩
abbrev S20x1000 : Shape := ⟨2, ![20, 1000]⟩
abbrev S60x1000 : Shape := ⟨2, ![60, 1000]⟩
abbrev S20x1 : Shape := ⟨2, ![20, 1]⟩
abbrev S60 : Shape := ⟨1, ![60]⟩
abbrev S60x1 : Shape := ⟨2, ![60, 1]⟩
abbrev S200 : Shape := ⟨1, ![200]⟩
abbrev S1x200 : Shape := ⟨2, ![1, 200]⟩
abbrev S200x200 : Shape := ⟨2, ![200, 200]⟩
abbrev S200x1 : Shape := ⟨2, ![200, 1]⟩
abbrev S200x20 : Shape := ⟨2, ![200, 20]⟩
abbrev S200x60 : Shape := ⟨2, ![200, 60]⟩
abbrev S200x64 : Shape := ⟨2, ![200, 64]⟩
abbrev S200x32 : Shape := ⟨2, ![200, 32]⟩
abbrev S20x256 : Shape := ⟨2, ![20, 256]⟩

abbrev nBuf : Space → Nat
  | .hbm => 42
  | .vmem => 24
  | .smem => 0
  | _ => 0

abbrev bufTy : (tb : Table) → Fin (tcTables nBuf tb) → BufTy
  | .hbm, ⟨0, _⟩ => ⟨S20000x3, .f32⟩
  | .hbm, ⟨1, _⟩ => ⟨S2x300000, .i32⟩
  | .hbm, ⟨2, _⟩ => ⟨S20000, .i32⟩
  | .hbm, ⟨3, _⟩ => ⟨S10x5x3, .f32⟩
  | .hbm, ⟨4, _⟩ => ⟨S33x20, .f32⟩
  | .hbm, ⟨5, _⟩ => ⟨S20, .f32⟩
  | .hbm, ⟨6, _⟩ => ⟨S20x20, .f32⟩
  | .hbm, ⟨7, _⟩ => ⟨S20, .f32⟩
  | .hbm, ⟨8, _⟩ => ⟨S60x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x256, .f32⟩
  | .hbm, ⟨13, _⟩ => ⟨S256, .f32⟩
  | .hbm, ⟨14, _⟩ => ⟨S256x40, .f32⟩
  | .hbm, ⟨15, _⟩ => ⟨S40, .f32⟩
  | .hbm, ⟨16, _⟩ => ⟨S20x1000x3, .f32⟩
  | .hbm, ⟨17, _⟩ => ⟨S4x1000x3, .f32⟩
  | .hbm, ⟨18, _⟩ => ⟨S3x20x1000, .f32⟩
  | .hbm, ⟨19, _⟩ => ⟨S3x4x1000, .f32⟩
  | .hbm, ⟨20, _⟩ => ⟨S3x4x1x1000, .f32⟩
  | .hbm, ⟨21, _⟩ => ⟨S3x5x10, .f32⟩
  | .hbm, ⟨22, _⟩ => ⟨S3x5x10x1, .f32⟩
  | .hbm, ⟨23, _⟩ => ⟨S3x3, .i32⟩
  | .hbm, ⟨24, _⟩ => ⟨S3x3, .i32⟩
  | .hbm, ⟨25, _⟩ => ⟨S_, .i32⟩
  | .hbm, ⟨26, _⟩ => ⟨S3x3, .i32⟩
  | .hbm, ⟨27, _⟩ => ⟨S3x3, .i32⟩
  | .hbm, ⟨28, _⟩ => ⟨S3x3, .i1⟩
  | .hbm, ⟨29, _⟩ => ⟨S3x3, .f32⟩
  | .hbm, ⟨30, _⟩ => ⟨S3x1x1x3, .f32⟩
  | .hbm, ⟨31, _⟩ => ⟨S3x5x10x3, .f32⟩
  | .hbm, ⟨32, _⟩ => ⟨S3x5x10x3, .f32⟩
  | .hbm, ⟨33, _⟩ => ⟨S3x5x10x3, .f32⟩
  | .hbm, ⟨34, _⟩ => ⟨S15x30, .f32⟩
  | .hbm, ⟨35, _⟩ => ⟨S1x20, .f32⟩
  | .hbm, ⟨36, _⟩ => ⟨S1x20, .f32⟩
  | .hbm, ⟨37, _⟩ => ⟨S1x64, .f32⟩
  | .hbm, ⟨38, _⟩ => ⟨S1x32, .f32⟩
  | .hbm, ⟨39, _⟩ => ⟨S1x256, .f32⟩
  | .hbm, ⟨40, _⟩ => ⟨S1x40, .f32⟩
  | .hbm, ⟨41, _⟩ => ⟨S20x40, .f32⟩
  | .local _ .vmem, ⟨0, _⟩ => ⟨S1x1000x3, .f32⟩
  | .local _ .vmem, ⟨1, _⟩ => ⟨S1x1000x3, .f32⟩
  | .local _ .vmem, ⟨2, _⟩ => ⟨S3x20x1000, .f32⟩
  | .local _ .vmem, ⟨3, _⟩ => ⟨S3x1x1x1000, .f32⟩
  | .local _ .vmem, ⟨4, _⟩ => ⟨S3x1x1x1000, .f32⟩
  | .local _ .vmem, ⟨5, _⟩ => ⟨S15x30, .f32⟩
  | .local _ .vmem, ⟨6, _⟩ => ⟨S33x20, .f32⟩
  | .local _ .vmem, ⟨7, _⟩ => ⟨S1x20, .f32⟩
  | .local _ .vmem, ⟨8, _⟩ => ⟨S20x20, .f32⟩
  | .local _ .vmem, ⟨9, _⟩ => ⟨S1x20, .f32⟩
  | .local _ .vmem, ⟨10, _⟩ => ⟨S60x64, .f32⟩
  | .local _ .vmem, ⟨11, _⟩ => ⟨S1x64, .f32⟩
  | .local _ .vmem, ⟨12, _⟩ => ⟨S64x32, .f32⟩
  | .local _ .vmem, ⟨13, _⟩ => ⟨S1x32, .f32⟩
  | .local _ .vmem, ⟨14, _⟩ => ⟨S32x256, .f32⟩
  | .local _ .vmem, ⟨15, _⟩ => ⟨S1x256, .f32⟩
  | .local _ .vmem, ⟨16, _⟩ => ⟨S256x40, .f32⟩
  | .local _ .vmem, ⟨17, _⟩ => ⟨S1x40, .f32⟩
  | .local _ .vmem, ⟨18, _⟩ => ⟨S20x40, .f32⟩
  | .local _ .vmem, ⟨19, _⟩ => ⟨S4000x20, .f32⟩
  | .local _ .vmem, ⟨20, _⟩ => ⟨S20x200, .f32⟩
  | .local _ .vmem, ⟨21, _⟩ => ⟨S20x200, .f32⟩
  | .local _ .vmem, ⟨22, _⟩ => ⟨S20x200, .f32⟩
  | .local _ .vmem, ⟨23, _⟩ => ⟨S20x32, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1000_i32 : BitVec 32 := 1000#32
  let v844 : BitVec 32 := Scalar.muli arg0 c1000_i32
  let v845 : Index := Scalar.indexCast v844
  let c0_350 : Index := 0#32
  ![v845.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c1_i32 : BitVec 32 := 1#32
  let c199_i32 : BitVec 32 := 199#32
  let v57 : BitVec 32 := Scalar.addi c1_i32 c199_i32
  let c1_i32_19 : BitVec 32 := 1#32
  ⟨c1_i32, v57, c1_i32_19⟩
def k0_cond3 (i : grid0.Coords) : BitVec 1 :=
  let arg0 : BitVec 32 := BitVec.ofNat 32 (i 0).val
  let c4_i32_2 : BitVec 32 := 4#32
  let v6 : BitVec 1 := Scalar.cmpi .sgt arg0 c4_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let arg0 : BitVec 32 := BitVec.ofNat 32 (i 0).val
  let c5_i32 : BitVec 32 := 5#32
  let v12 : BitVec 32 := Scalar.subi arg0 c5_i32
  let c200_i32 : BitVec 32 := 200#32
  let v77 : BitVec 32 := Scalar.muli v12 c200_i32
  let v78 : Index := Scalar.indexCast v77
  let c0_23 : Index := 0#32
  ![v78.toNat, 0]
def k0_cond4 (i : grid0.Coords) : BitVec 1 :=
  let arg0 : BitVec 32 := BitVec.ofNat 32 (i 0).val
  let c24_i32 : BitVec 32 := 24#32
  let v9 : BitVec 1 := Scalar.cmpi .eq arg0 c24_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x20x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S15x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S33x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x40 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S20x40 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "fifteenth" => some ((15⁻¹ : ℝ) : EReal)
  | _ => none
-- ==== ReferenceIdeal.lean ====
abbrev S20000x3 : Shape := ⟨2, ![20000, 3]⟩
abbrev S2x300000 : Shape := ⟨2, ![2, 300000]⟩
abbrev S20000 : Shape := ⟨1, ![20000]⟩
abbrev S10x5x3 : Shape := ⟨3, ![10, 5, 3]⟩
abbrev S33x20 : Shape := ⟨2, ![33, 20]⟩
abbrev S20 : Shape := ⟨1, ![20]⟩
abbrev S20x20 : Shape := ⟨2, ![20, 20]⟩
abbrev S60x64 : Shape := ⟨2, ![60, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S20x1000x3 : Shape := ⟨3, ![20, 1000, 3]⟩
abbrev S20x1x3 : Shape := ⟨3, ![20, 1, 3]⟩
abbrev S_ : Shape := ⟨0, ![]⟩
abbrev S20x1000 : Shape := ⟨2, ![20, 1000]⟩
abbrev S20x200 : Shape := ⟨2, ![20, 200]⟩
abbrev S20x1 : Shape := ⟨2, ![20, 1]⟩
abbrev S20x3 : Shape := ⟨2, ![20, 3]⟩
abbrev S4000 : Shape := ⟨1, ![4000]⟩
abbrev S4000x1 : Shape := ⟨2, ![4000, 1]⟩
abbrev S4000x3 : Shape := ⟨2, ![4000, 3]⟩
abbrev S20x1000x1x3 : Shape := ⟨4, ![20, 1000, 1, 3]⟩
abbrev S20x1x1000x3 : Shape := ⟨4, ![20, 1, 1000, 3]⟩
abbrev S20x1000x1000x3 : Shape := ⟨4, ![20, 1000, 1000, 3]⟩
abbrev S20x1000x1000 : Shape := ⟨3, ![20, 1000, 1000]⟩
abbrev S1000x1000 : Shape := ⟨2, ![1000, 1000]⟩
abbrev S1x1000x1000 : Shape := ⟨3, ![1, 1000, 1000]⟩
abbrev S20x1000x15 : Shape := ⟨3, ![20, 1000, 15]⟩
abbrev S20x1x1 : Shape := ⟨3, ![20, 1, 1]⟩
abbrev S20000x15 : Shape := ⟨2, ![20000, 15]⟩
abbrev S20000x15x1 : Shape := ⟨3, ![20000, 15, 1]⟩
abbrev S20000x15x3 : Shape := ⟨3, ![20000, 15, 3]⟩
abbrev S20000x1x3 : Shape := ⟨3, ![20000, 1, 3]⟩
abbrev S5 : Shape := ⟨1, ![5]⟩
abbrev S20000x15x3x1 : Shape := ⟨4, ![20000, 15, 3, 1]⟩
abbrev S1x1x1x5 : Shape := ⟨4, ![1, 1, 1, 5]⟩
abbrev S20000x15x3x5 : Shape := ⟨4, ![20000, 15, 3, 5]⟩
abbrev S3x10x20000x15 : Shape := ⟨4, ![3, 10, 20000, 15]⟩
abbrev S20000x15x10x3 : Shape := ⟨4, ![20000, 15, 10, 3]⟩
abbrev S20000x10x3 : Shape := ⟨3, ![20000, 10, 3]⟩
abbrev S20000x30 : Shape := ⟨2, ![20000, 30]⟩
abbrev S20000x15x30 : Shape := ⟨3, ![20000, 15, 30]⟩
abbrev S20000x15x33 : Shape := ⟨3, ![20000, 15, 33]⟩
abbrev S20000x15x20 : Shape := ⟨3, ![20000, 15, 20]⟩
abbrev S1x1x20 : Shape := ⟨3, ![1, 1, 20]⟩
abbrev S20000x20 : Shape := ⟨2, ![20000, 20]⟩
abbrev S20x200x3 : Shape := ⟨3, ![20, 200, 3]⟩
abbrev S20x200x1x3 : Shape := ⟨4, ![20, 200, 1, 3]⟩
abbrev S20x1x200x3 : Shape := ⟨4, ![20, 1, 200, 3]⟩
abbrev S20x200x200x3 : Shape := ⟨4, ![20, 200, 200, 3]⟩
abbrev S20x200x200 : Shape := ⟨3, ![20, 200, 200]⟩
abbrev S200x200 : Shape := ⟨2, ![200, 200]⟩
abbrev S1x200x200 : Shape := ⟨3, ![1, 200, 200]⟩
abbrev S20x200x15 : Shape := ⟨3, ![20, 200, 15]⟩
abbrev S4000x15 : Shape := ⟨2, ![4000, 15]⟩
abbrev S4000x15x1 : Shape := ⟨3, ![4000, 15, 1]⟩
abbrev S4000x15x20 : Shape := ⟨3, ![4000, 15, 20]⟩
abbrev S4000x20 : Shape := ⟨2, ![4000, 20]⟩
abbrev S4000x60 : Shape := ⟨2, ![4000, 60]⟩
abbrev S4000x64 : Shape := ⟨2, ![4000, 64]⟩
abbrev S1x64 : Shape := ⟨2, ![1, 64]⟩
abbrev S4000x32 : Shape := ⟨2, ![4000, 32]⟩
abbrev S1x32 : Shape := ⟨2, ![1, 32]⟩
abbrev S20x200x32 : Shape := ⟨3, ![20, 200, 32]⟩
abbrev S20x32 : Shape := ⟨2, ![20, 32]⟩
abbrev S20x256 : Shape := ⟨2, ![20, 256]⟩
abbrev S1x256 : Shape := ⟨2, ![1, 256]⟩
abbrev S20x40 : Shape := ⟨2, ![20, 40]⟩
abbrev S1x40 : Shape := ⟨2, ![1, 40]⟩

abbrev nBuf : Space → Nat
  | .hbm => 313
  | .vmem => 0
  | .smem => 0
  | _ => 0

abbrev hbmTy0_0 (i : Nat) : BufTy := match i % 128 with
  | 0 => ⟨S20000x3, .f32⟩
  | 1 => ⟨S2x300000, .i32⟩
  | 2 => ⟨S20000, .i32⟩
  | 3 => ⟨S10x5x3, .f32⟩
  | 4 => ⟨S33x20, .f32⟩
  | 5 => ⟨S20, .f32⟩
  | 6 => ⟨S20x20, .f32⟩
  | 7 => ⟨S20, .f32⟩
  | 8 => ⟨S60x64, .f32⟩
  | 9 => ⟨S64, .f32⟩
  | 10 => ⟨S64x32, .f32⟩
  | 11 => ⟨S32, .f32⟩
  | 12 => ⟨S32x256, .f32⟩
  | 13 => ⟨S256, .f32⟩
  | 14 => ⟨S256x40, .f32⟩
  | 15 => ⟨S40, .f32⟩
  | 16 => ⟨S20x1000x3, .f32⟩
  | 17 => ⟨S20x1x3, .f32⟩
  | 18 => ⟨S20x1000x3, .f32⟩
  | 19 => ⟨S20x1000x3, .f32⟩
  | 20 => ⟨S20x1000x3, .f32⟩
  | 21 => ⟨S_, .f32⟩
  | 22 => ⟨S20x1000, .f32⟩
  | 23 => ⟨S_, .i32⟩
  | 24 => ⟨S20x200, .i32⟩
  | 25 => ⟨S_, .i32⟩
  | 26 => ⟨S_, .i32⟩
  | 27 => ⟨S20x1000x3, .f32⟩
  | 28 => ⟨S_, .i32⟩
  | 29 => ⟨S_, .i32⟩
  | 30 => ⟨S20x1000, .f32⟩
  | 31 => ⟨S20x200, .i32⟩
  | 32 => ⟨S_, .i32⟩
  | 33 => ⟨S_, .i1⟩
  | 34 => ⟨S_, .i32⟩
  | 35 => ⟨S_, .i32⟩
  | 36 => ⟨S20x1, .f32⟩
  | 37 => ⟨S20x1, .i32⟩
  | 38 => ⟨S20, .i32⟩
  | 39 => ⟨S20x1, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S20x200, .i32⟩
  | 48 => ⟨S20000x3, .f32⟩
  | 49 => ⟨S20, .i32⟩
  | 50 => ⟨S_, .i32⟩
  | 51 => ⟨S20, .i32⟩
  | 52 => ⟨S20, .i32⟩
  | 53 => ⟨S20, .i32⟩
  | 54 => ⟨S_, .i32⟩
  | 55 => ⟨S20, .i32⟩
  | 56 => ⟨S20, .i1⟩
  | 57 => ⟨S_, .i32⟩
  | 58 => ⟨S20, .i32⟩
  | 59 => ⟨S20, .i32⟩
  | 60 => ⟨S20, .i32⟩
  | 61 => ⟨S20x1, .i32⟩
  | 62 => ⟨S20x3, .f32⟩
  | 63 => ⟨S20x1x3, .f32⟩
  | 64 => ⟨S20x1000x3, .f32⟩
  | 65 => ⟨S20x1000x3, .f32⟩
  | 66 => ⟨S20x1000x3, .f32⟩
  | 67 => ⟨S_, .f32⟩
  | 68 => ⟨S20x1000, .f32⟩
  | 69 => ⟨S20x1000, .f32⟩
  | 70 => ⟨S_, .i32⟩
  | 71 => ⟨S_, .i32⟩
  | 72 => ⟨S20, .i32⟩
  | 73 => ⟨S_, .i32⟩
  | 74 => ⟨S20, .i32⟩
  | 75 => ⟨S20, .i32⟩
  | 76 => ⟨S20x1, .i32⟩
  | 77 => ⟨S20x200, .i32⟩
  | 78 => ⟨S20x200, .i32⟩
  | 79 => ⟨S4000, .i32⟩
  | 80 => ⟨S_, .i32⟩
  | 81 => ⟨S4000, .i32⟩
  | 82 => ⟨S4000, .i1⟩
  | 83 => ⟨S_, .i32⟩
  | 84 => ⟨S4000, .i32⟩
  | 85 => ⟨S4000, .i32⟩
  | 86 => ⟨S4000, .i32⟩
  | 87 => ⟨S4000x1, .i32⟩
  | 88 => ⟨S4000x3, .f32⟩
  | 89 => ⟨S20x1000x1x3, .f32⟩
  | 90 => ⟨S20x1x1000x3, .f32⟩
  | 91 => ⟨S20x1000x1000x3, .f32⟩
  | 92 => ⟨S20x1000x1000x3, .f32⟩
  | 93 => ⟨S20x1000x1000x3, .f32⟩
  | 94 => ⟨S20x1000x1000x3, .f32⟩
  | 95 => ⟨S_, .f32⟩
  | 96 => ⟨S20x1000x1000, .f32⟩
  | 97 => ⟨S1000x1000, .i32⟩
  | 98 => ⟨S1000x1000, .i32⟩
  | 99 => ⟨S_, .i32⟩
  | 100 => ⟨S1000x1000, .i32⟩
  | 101 => ⟨S1000x1000, .i32⟩
  | 102 => ⟨S1000x1000, .i1⟩
  | 103 => ⟨S1000x1000, .f32⟩
  | 104 => ⟨S1x1000x1000, .f32⟩
  | 105 => ⟨S_, .f32⟩
  | 106 => ⟨S1x1000x1000, .f32⟩
  | 107 => ⟨S1x1000x1000, .f32⟩
  | 108 => ⟨S20x1000x1000, .f32⟩
  | 109 => ⟨S20x1000x1000, .f32⟩
  | 110 => ⟨S20x1000x1000, .f32⟩
  | 111 => ⟨S20x1000x15, .f32⟩
  | 112 => ⟨S20x1000x15, .i32⟩
  | 113 => ⟨S20, .i32⟩
  | 114 => ⟨S_, .i32⟩
  | 115 => ⟨S20, .i32⟩
  | 116 => ⟨S20, .i32⟩
  | 117 => ⟨S20x1x1, .i32⟩
  | 118 => ⟨S20x1000x15, .i32⟩
  | 119 => ⟨S20x1000x15, .i32⟩
  | 120 => ⟨S20000x15, .i32⟩
  | 121 => ⟨S_, .i32⟩
  | 122 => ⟨S20000x15, .i32⟩
  | 123 => ⟨S20000x15, .i1⟩
  | 124 => ⟨S_, .i32⟩
  | 125 => ⟨S20000x15, .i32⟩
  | 126 => ⟨S20000x15, .i32⟩
  | 127 => ⟨S20000x15, .i32⟩
  | _ => ⟨S20000x3, .f32⟩

abbrev hbmTy0_1 (i : Nat) : BufTy := match i % 128 with
  | 0 => ⟨S20000x15x1, .i32⟩
  | 1 => ⟨S20000x15x3, .f32⟩
  | 2 => ⟨S20000x1x3, .f32⟩
  | 3 => ⟨S20000x15x3, .f32⟩
  | 4 => ⟨S20000x15x3, .f32⟩
  | 5 => ⟨S20000x15x3, .f32⟩
  | 6 => ⟨S_, .f32⟩
  | 7 => ⟨S20000x15x3, .f32⟩
  | 8 => ⟨S20000x15x3, .f32⟩
  | 9 => ⟨S_, .f32⟩
  | 10 => ⟨S20000x15x3, .f32⟩
  | 11 => ⟨S20000x15x3, .f32⟩
  | 12 => ⟨S_, .f32⟩
  | 13 => ⟨S20000x15x3, .f32⟩
  | 14 => ⟨S20000x15x3, .f32⟩
  | 15 => ⟨S5, .f32⟩
  | 16 => ⟨S20000x15x3x1, .f32⟩
  | 17 => ⟨S1x1x1x5, .f32⟩
  | 18 => ⟨S20000x15x3x5, .f32⟩
  | 19 => ⟨S20000x15x3x5, .f32⟩
  | 20 => ⟨S20000x15x3x5, .f32⟩
  | 21 => ⟨S20000x15x3x5, .f32⟩
  | 22 => ⟨S_, .f32⟩
  | 23 => ⟨S20000x15x3x5, .f32⟩
  | 24 => ⟨S20000x15x3x5, .f32⟩
  | 25 => ⟨S_, .f32⟩
  | 26 => ⟨S20000x15x3x5, .f32⟩
  | 27 => ⟨S20000x15x3x5, .f32⟩
  | 28 => ⟨S3x10x20000x15, .f32⟩
  | 29 => ⟨S20000x15x10x3, .f32⟩
  | 30 => ⟨S_, .f32⟩
  | 31 => ⟨S20000x10x3, .f32⟩
  | 32 => ⟨S_, .f32⟩
  | 33 => ⟨S20000x10x3, .f32⟩
  | 34 => ⟨S20000x10x3, .f32⟩
  | 35 => ⟨S20000x30, .f32⟩
  | 36 => ⟨S20000x30, .f32⟩
  | 37 => ⟨S20000x30, .f32⟩
  | 38 => ⟨S_, .f32⟩
  | 39 => ⟨S20000x30, .f32⟩
  | 40 => ⟨S20000x30, .f32⟩
  | 41 => ⟨S_, .f32⟩
  | 42 => ⟨S20000x30, .f32⟩
  | 43 => ⟨S20000x30, .f32⟩
  | 44 => ⟨S_, .i32⟩
  | 45 => ⟨S20000x15, .i32⟩
  | 46 => ⟨S20000x15, .i1⟩
  | 47 => ⟨S_, .i32⟩
  | 48 => ⟨S20000x15, .i32⟩
  | 49 => ⟨S20000x15, .i32⟩
  | 50 => ⟨S20000x15, .i32⟩
  | 51 => ⟨S20000x15x1, .i32⟩
  | 52 => ⟨S20000x15x30, .f32⟩
  | 53 => ⟨S20000x15x33, .f32⟩
  | 54 => ⟨S20000x15x20, .f32⟩
  | 55 => ⟨S1x1x20, .f32⟩
  | 56 => ⟨S20000x15x20, .f32⟩
  | 57 => ⟨S20000x15x20, .f32⟩
  | 58 => ⟨S_, .f32⟩
  | 59 => ⟨S20000x15x20, .f32⟩
  | 60 => ⟨S20000x15x20, .f32⟩
  | 61 => ⟨S20000x15x20, .f32⟩
  | 62 => ⟨S1x1x20, .f32⟩
  | 63 => ⟨S20000x15x20, .f32⟩
  | 64 => ⟨S20000x15x20, .f32⟩
  | 65 => ⟨S_, .f32⟩
  | 66 => ⟨S20000x15x20, .f32⟩
  | 67 => ⟨S20000x15x20, .f32⟩
  | 68 => ⟨S_, .f32⟩
  | 69 => ⟨S20000x20, .f32⟩
  | 70 => ⟨S20000x20, .f32⟩
  | 71 => ⟨S20000x20, .f32⟩
  | 72 => ⟨S_, .f32⟩
  | 73 => ⟨S20000x20, .f32⟩
  | 74 => ⟨S20000x20, .f32⟩
  | 75 => ⟨S_, .f32⟩
  | 76 => ⟨S20000x20, .f32⟩
  | 77 => ⟨S20000x20, .f32⟩
  | 78 => ⟨S20x200x3, .f32⟩
  | 79 => ⟨S20x200x1x3, .f32⟩
  | 80 => ⟨S20x1x200x3, .f32⟩
  | 81 => ⟨S20x200x200x3, .f32⟩
  | 82 => ⟨S20x200x200x3, .f32⟩
  | 83 => ⟨S20x200x200x3, .f32⟩
  | 84 => ⟨S20x200x200x3, .f32⟩
  | 85 => ⟨S_, .f32⟩
  | 86 => ⟨S20x200x200, .f32⟩
  | 87 => ⟨S200x200, .i32⟩
  | 88 => ⟨S200x200, .i32⟩
  | 89 => ⟨S_, .i32⟩
  | 90 => ⟨S200x200, .i32⟩
  | 91 => ⟨S200x200, .i32⟩
  | 92 => ⟨S200x200, .i1⟩
  | 93 => ⟨S200x200, .f32⟩
  | 94 => ⟨S1x200x200, .f32⟩
  | 95 => ⟨S_, .f32⟩
  | 96 => ⟨S1x200x200, .f32⟩
  | 97 => ⟨S1x200x200, .f32⟩
  | 98 => ⟨S20x200x200, .f32⟩
  | 99 => ⟨S20x200x200, .f32⟩
  | 100 => ⟨S20x200x200, .f32⟩
  | 101 => ⟨S20x200x15, .f32⟩
  | 102 => ⟨S20x200x15, .i32⟩
  | 103 => ⟨S20, .i32⟩
  | 104 => ⟨S_, .i32⟩
  | 105 => ⟨S20, .i32⟩
  | 106 => ⟨S20, .i32⟩
  | 107 => ⟨S20x1x1, .i32⟩
  | 108 => ⟨S20x200x15, .i32⟩
  | 109 => ⟨S20x200x15, .i32⟩
  | 110 => ⟨S4000x15, .i32⟩
  | 111 => ⟨S_, .i32⟩
  | 112 => ⟨S4000x15, .i32⟩
  | 113 => ⟨S4000x15, .i1⟩
  | 114 => ⟨S_, .i32⟩
  | 115 => ⟨S4000x15, .i32⟩
  | 116 => ⟨S4000x15, .i32⟩
  | 117 => ⟨S4000x15, .i32⟩
  | 118 => ⟨S4000x15x1, .i32⟩
  | 119 => ⟨S4000x15x20, .f32⟩
  | 120 => ⟨S4000x20, .f32⟩
  | 121 => ⟨S_, .f32⟩
  | 122 => ⟨S4000x20, .f32⟩
  | 123 => ⟨S_, .f32⟩
  | 124 => ⟨S4000x20, .f32⟩
  | 125 => ⟨S4000x20, .f32⟩
  | 126 => ⟨S_, .f32⟩
  | 127 => ⟨S4000x20, .f32⟩
  | _ => ⟨S20000x3, .f32⟩

abbrev hbmTy0_2 (i : Nat) : BufTy := match i % 128 with
  | 0 => ⟨S4000x60, .f32⟩
  | 1 => ⟨S4000x64, .f32⟩
  | 2 => ⟨S1x64, .f32⟩
  | 3 => ⟨S4000x64, .f32⟩
  | 4 => ⟨S4000x64, .f32⟩
  | 5 => ⟨S_, .f32⟩
  | 6 => ⟨S4000x64, .f32⟩
  | 7 => ⟨S4000x64, .f32⟩
  | 8 => ⟨S4000x32, .f32⟩
  | 9 => ⟨S1x32, .f32⟩
  | 10 => ⟨S4000x32, .f32⟩
  | 11 => ⟨S4000x32, .f32⟩
  | 12 => ⟨S_, .f32⟩
  | 13 => ⟨S4000x32, .f32⟩
  | 14 => ⟨S4000x32, .f32⟩
  | 15 => ⟨S4000x32, .f32⟩
  | 16 => ⟨S4000x32, .f32⟩
  | 17 => ⟨S_, .f32⟩
  | 18 => ⟨S4000x32, .f32⟩
  | 19 => ⟨S4000x32, .f32⟩
  | 20 => ⟨S_, .f32⟩
  | 21 => ⟨S4000x32, .f32⟩
  | 22 => ⟨S4000x32, .f32⟩
  | 23 => ⟨S20x200x32, .f32⟩
  | 24 => ⟨S_, .f32⟩
  | 25 => ⟨S20x32, .f32⟩
  | 26 => ⟨S_, .f32⟩
  | 27 => ⟨S20x32, .f32⟩
  | 28 => ⟨S20x32, .f32⟩
  | 29 => ⟨S20x256, .f32⟩
  | 30 => ⟨S1x256, .f32⟩
  | 31 => ⟨S20x256, .f32⟩
  | 32 => ⟨S20x256, .f32⟩
  | 33 => ⟨S_, .f32⟩
  | 34 => ⟨S20x256, .f32⟩
  | 35 => ⟨S20x256, .i1⟩
  | 36 => ⟨S_, .f32⟩
  | 37 => ⟨S20x256, .f32⟩
  | 38 => ⟨S20x256, .f32⟩
  | 39 => ⟨S20x256, .f32⟩
  | 40 => ⟨S20x256, .f32⟩
  | 41 => ⟨S20x40, .f32⟩
  | 42 => ⟨S1x40, .f32⟩
  | 43 => ⟨S20x40, .f32⟩
  | 44 => ⟨S20x40, .f32⟩
  | 45 => ⟨S_, .f32⟩
  | 46 => ⟨S20, .f32⟩
  | 47 => ⟨S20x1, .f32⟩
  | 48 => ⟨S20x40, .f32⟩
  | 49 => ⟨S20x40, .f32⟩
  | 50 => ⟨S20x40, .f32⟩
  | 51 => ⟨S_, .f32⟩
  | 52 => ⟨S20, .f32⟩
  | 53 => ⟨S20x1, .f32⟩
  | 54 => ⟨S20x1, .f32⟩
  | 55 => ⟨S20x40, .f32⟩
  | 56 => ⟨S20x40, .f32⟩
  | _ => ⟨S20000x3, .f32⟩

abbrev hbmTy (i : Nat) : BufTy := match i / 128 with
  | 0 => hbmTy0_0 i
  | 1 => hbmTy0_1 i
  | 2 => hbmTy0_2 i
  | _ => ⟨S20000x3, .f32⟩

abbrev bufTy : (tb : Table) → Fin (tcTables nBuf tb) → BufTy
  | .hbm, ⟨i, _⟩ => hbmTy i
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_c_0 : Ref sig .tc := ⟨.hbm, 25, rfl⟩
abbrev main_c_1 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev main_v7_4 : Ref sig .tc := ⟨.hbm, 31, rfl⟩
abbrev main_while0c_c_52 : Ref sig .tc := ⟨.hbm, 32, rfl⟩
abbrev main_while0c_v201 : Ref sig .tc := ⟨.hbm, 33, rfl⟩
abbrev main_while0b_c_52 : Ref sig .tc := ⟨.hbm, 34, rfl⟩
abbrev main_while0b_v201 : Ref sig .tc := ⟨.hbm, 35, rfl⟩
abbrev main_while0b_values_53 : Ref sig .tc := ⟨.hbm, 36, rfl⟩
abbrev main_while0b_indices_54 : Ref sig .tc := ⟨.hbm, 37, rfl⟩
abbrev main_while0b_v202 : Ref sig .tc := ⟨.hbm, 38, rfl⟩
abbrev main_while0b_v203 : Ref sig .tc := ⟨.hbm, 39, rfl⟩
abbrev main_while0b_c_55 : Ref sig .tc := ⟨.hbm, 40, rfl⟩
abbrev main_while0b_v204 : Ref sig .tc := ⟨.hbm, 41, rfl⟩
abbrev main_while0b_v205 : Ref sig .tc := ⟨.hbm, 42, rfl⟩
abbrev main_while0b_c_56 : Ref sig .tc := ⟨.hbm, 43, rfl⟩
abbrev main_while0b_v206 : Ref sig .tc := ⟨.hbm, 44, rfl⟩
abbrev main_while0b_v207 : Ref sig .tc := ⟨.hbm, 45, rfl⟩
abbrev main_while0b_c_57 : Ref sig .tc := ⟨.hbm, 46, rfl⟩
abbrev main_while0b_v208 : Ref sig .tc := ⟨.hbm, 47, rfl⟩
abbrev main_while0b_v209 : Ref sig .tc := ⟨.hbm, 48, rfl⟩
abbrev main_while0b_v210 : Ref sig .tc := ⟨.hbm, 49, rfl⟩
abbrev main_while0b_c_58 : Ref sig .tc := ⟨.hbm, 50, rfl⟩
abbrev main_while0b_v211 : Ref sig .tc := ⟨.hbm, 51, rfl⟩
abbrev main_while0b_v212 : Ref sig .tc := ⟨.hbm, 52, rfl⟩
abbrev main_while0b_v213 : Ref sig .tc := ⟨.hbm, 53, rfl⟩
abbrev main_while0b_c_59 : Ref sig .tc := ⟨.hbm, 54, rfl⟩
abbrev main_while0b_v214 : Ref sig .tc := ⟨.hbm, 55, rfl⟩
abbrev main_while0b_v215 : Ref sig .tc := ⟨.hbm, 56, rfl⟩
abbrev main_while0b_c_60 : Ref sig .tc := ⟨.hbm, 57, rfl⟩
abbrev main_while0b_v216 : Ref sig .tc := ⟨.hbm, 58, rfl⟩
abbrev main_while0b_v217 : Ref sig .tc := ⟨.hbm, 59, rfl⟩
abbrev main_while0b_v218 : Ref sig .tc := ⟨.hbm, 60, rfl⟩
abbrev main_while0b_v219 : Ref sig .tc := ⟨.hbm, 61, rfl⟩
abbrev main_while0b_v220 : Ref sig .tc := ⟨.hbm, 62, rfl⟩
abbrev main_while0b_v221 : Ref sig .tc := ⟨.hbm, 63, rfl⟩
abbrev main_while0b_v222 : Ref sig .tc := ⟨.hbm, 64, rfl⟩
abbrev main_while0b_v223 : Ref sig .tc := ⟨.hbm, 65, rfl⟩
abbrev main_while0b_v224 : Ref sig .tc := ⟨.hbm, 66, rfl⟩
abbrev main_while0b_cst_61 : Ref sig .tc := ⟨.hbm, 67, rfl⟩
abbrev main_while0b_v225 : Ref sig .tc := ⟨.hbm, 68, rfl⟩
abbrev main_while0b_v226 : Ref sig .tc := ⟨.hbm, 69, rfl⟩
abbrev main_while0b_c_62 : Ref sig .tc := ⟨.hbm, 70, rfl⟩
abbrev main_while0b_v227 : Ref sig .tc := ⟨.hbm, 71, rfl⟩
abbrev main_v8 : Ref sig .tc := ⟨.hbm, 72, rfl⟩
abbrev main_c_2 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_c_3 : Ref sig .tc := ⟨.hbm, 80, rfl⟩
abbrev main_v15 : Ref sig .tc := ⟨.hbm, 81, rfl⟩
abbrev main_v16 : Ref sig .tc := ⟨.hbm, 82, rfl⟩
abbrev main_c_4 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_c_6 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_7 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_values : Ref sig .tc := ⟨.hbm, 111, rfl⟩
abbrev main_indices : Ref sig .tc := ⟨.hbm, 112, rfl⟩
abbrev main_v41 : Ref sig .tc := ⟨.hbm, 113, rfl⟩
abbrev main_c_8 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_c_9 : Ref sig .tc := ⟨.hbm, 121, rfl⟩
abbrev main_v48 : Ref sig .tc := ⟨.hbm, 122, rfl⟩
abbrev main_v49 : Ref sig .tc := ⟨.hbm, 123, rfl⟩
abbrev main_c_10 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_cst_11 : Ref sig .tc := ⟨.hbm, 134, rfl⟩
abbrev main_v59 : Ref sig .tc := ⟨.hbm, 135, rfl⟩
abbrev main_v60 : Ref sig .tc := ⟨.hbm, 136, rfl⟩
abbrev main_cst_12 : Ref sig .tc := ⟨.hbm, 137, rfl⟩
abbrev main_v61 : Ref sig .tc := ⟨.hbm, 138, rfl⟩
abbrev main_v62 : Ref sig .tc := ⟨.hbm, 139, rfl⟩
abbrev main_cst_13 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_14 : Ref sig .tc := ⟨.hbm, 150, rfl⟩
abbrev main_v72 : Ref sig .tc := ⟨.hbm, 151, rfl⟩
abbrev main_v73 : Ref sig .tc := ⟨.hbm, 152, rfl⟩
abbrev main_cst_15 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_16 : Ref sig .tc := ⟨.hbm, 158, rfl⟩
abbrev main_v78 : Ref sig .tc := ⟨.hbm, 159, rfl⟩
abbrev main_cst_17 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_18 : Ref sig .tc := ⟨.hbm, 166, rfl⟩
abbrev main_v84 : Ref sig .tc := ⟨.hbm, 167, rfl⟩
abbrev main_v85 : Ref sig .tc := ⟨.hbm, 168, rfl⟩
abbrev main_cst_19 : Ref sig .tc := ⟨.hbm, 169, rfl⟩
abbrev main_v86 : Ref sig .tc := ⟨.hbm, 170, rfl⟩
abbrev main_v87 : Ref sig .tc := ⟨.hbm, 171, rfl⟩
abbrev main_c_20 : Ref sig .tc := ⟨.hbm, 172, rfl⟩
abbrev main_v88 : Ref sig .tc := ⟨.hbm, 173, rfl⟩
abbrev main_v89 : Ref sig .tc := ⟨.hbm, 174, rfl⟩
abbrev main_c_21 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_22 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_23 : Ref sig .tc := ⟨.hbm, 193, rfl⟩
abbrev main_v106 : Ref sig .tc := ⟨.hbm, 194, rfl⟩
abbrev main_v107 : Ref sig .tc := ⟨.hbm, 195, rfl⟩
abbrev main_cst_24 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_cst_25 : Ref sig .tc := ⟨.hbm, 200, rfl⟩
abbrev main_v111 : Ref sig .tc := ⟨.hbm, 201, rfl⟩
abbrev main_v112 : Ref sig .tc := ⟨.hbm, 202, rfl⟩
abbrev main_cst_26 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_cst_27 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_c_28 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_cst_29 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_values_30 : Ref sig .tc := ⟨.hbm, 229, rfl⟩
abbrev main_indices_31 : Ref sig .tc := ⟨.hbm, 230, rfl⟩
abbrev main_v135 : Ref sig .tc := ⟨.hbm, 231, rfl⟩
abbrev main_c_32 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_c_33 : Ref sig .tc := ⟨.hbm, 239, rfl⟩
abbrev main_v142 : Ref sig .tc := ⟨.hbm, 240, rfl⟩
abbrev main_v143 : Ref sig .tc := ⟨.hbm, 241, rfl⟩
abbrev main_c_34 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_cst_35 : Ref sig .tc := ⟨.hbm, 249, rfl⟩
abbrev main_v150 : Ref sig .tc := ⟨.hbm, 250, rfl⟩
abbrev main_cst_36 : Ref sig .tc := ⟨.hbm, 251, rfl⟩
abbrev main_v151 : Ref sig .tc := ⟨.hbm, 252, rfl⟩
abbrev main_v152 : Ref sig .tc := ⟨.hbm, 253, rfl⟩
abbrev main_cst_37 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_cst_38 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_cst_39 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_cst_40 : Ref sig .tc := ⟨.hbm, 273, rfl⟩
abbrev main_v169 : Ref sig .tc := ⟨.hbm, 274, rfl⟩
abbrev main_v170 : Ref sig .tc := ⟨.hbm, 275, rfl⟩
abbrev main_cst_41 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_cst_42 : Ref sig .tc := ⟨.hbm, 280, rfl⟩
abbrev main_v174 : Ref sig .tc := ⟨.hbm, 281, rfl⟩
abbrev main_cst_43 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_cst_44 : Ref sig .tc := ⟨.hbm, 289, rfl⟩
abbrev main_v181 : Ref sig .tc := ⟨.hbm, 290, rfl⟩
abbrev main_v182 : Ref sig .tc := ⟨.hbm, 291, rfl⟩
abbrev main_cst_45 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_cst_46 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_cst_47 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩

abbrev nD : Nat := 1
abbrev τ : Topo := Topo.v7x

variable {F : FTy → Type} [FloatOps F]

abbrev main_while0_count : Scf.Loop 32 := ⟨0#32, 199#32, 1#32⟩
-- ==== Proof.Clean.lean ====
module

public import proofs.«01_k».proof.Proof.Gen.KernelIdeal.Skeleton
public import proofs.«01_k».proof.Proof.Gen.KernelIdeal.Loops
public import Idealize.ShloMosaic.Lib.Pipeline.ValueKit

/-! The values of the kernel body, written by what they are: the selection of the nearest points as an
iteration, the three dense parts, the loop of the farthest points and the head. -/

@[expose] public section

set_option maxRecDepth 16384

noncomputable section

namespace Cert.Proof.Clean

open Cert.KernelIdeal Cert.KernelIdeal.Gen
open Idealize.ShloMosaic

variable {F : FTy → Type} [FloatOps F] [Named F]

/-- A float constant given by its bits. -/
abbrev fc (b : BitVec 32) : F .f32 := Scalar.ofBits .f32 b

/-! ### The points' features, one graph of a thousand points -/

/-- The column index of every cell of a thousand by thousand table. -/
def laneA : IVec S1000x1000 32 := iota .tc S1000x1000 32 [1] iota_S1000x1000_d1_w32
/-- The first column holding the smallest value of its row. -/
def pickA (cur : FVec F S1000x1000 .f32) : IVec S1000x1 32 := k0_pay24 laneA cur
/-- The cells of the column chosen in every row. -/
def hotA (ix : IVec S1000x1 32) : IVec S1000x1000 1 :=
  cmpi .eq laneA (broadcastTo S1000x1000 ix broadcasts_S1000x1_S1000x1000)
/-- One in the chosen column of every row, zero elsewhere. -/
def oneA (ix : IVec S1000x1 32) : FVec F S1000x1000 .f32 :=
  select (hotA ix) (broadcast S1000x1000 (fc 0x3F800000#32)) (broadcast S1000x1000 (fc 0x00000000#32))
/-- The table with the chosen cell of every row raised to infinity. -/
def dropA (cur : FVec F S1000x1000 .f32) : FVec F S1000x1000 .f32 :=
  select (hotA (pickA cur)) (broadcast S1000x1000 (fc 0x7F800000#32)) cur
/-- The table after `n` choices. -/
def curA (c0 : FVec F S1000x1000 .f32) : ℕ → FVec F S1000x1000 .f32
  | 0 => c0
  | n + 1 => dropA (curA c0 n)
/-- The `n`-th chosen columns. -/
def idxA (c0 : FVec F S1000x1000 .f32) (n : ℕ) : IVec S1000x1 32 := pickA (curA c0 n)
/-- The knots of the spline basis, one for every column of the basis table. -/
def gridA : FVec F S1x15 .f32 := k0_pay21 5#32 k0_pay19 k0_pay20
/-- The matrix repeating each of the three coordinates five times. -/
def repA : FVec F S3x15 .f32 := k0_pay22 (iota .tc S1x15 32 [1] iota_S1x15_d1_w32)
/-- The spline features of one chosen neighbour of every point. -/
def splA (pc : FVec F S1000x3 .f32) (wm : FVec F S15x30 .f32) (ix : IVec S1000x1 32) : FVec F S1000x30 .f32 :=
  matmul dot_S1000x15_S15x30_S1000x30_1_0_0_1_n_n none
    (maximumf (broadcast S1000x15 (fc 0x00000000#32))
      (subf (broadcast S1000x15 (fc 0x3F800000#32))
        (absf (subf
          (matmul dot_S1000x3_S3x15_S1000x15_1_0_0_1_n_n none
            (mulf (addf (tanh (subf
              (matmul dot_S1000x1000_S1000x3_S1000x3_1_0_0_1_n_n none (oneA ix) pc (constant S1000x3 .f32 0x00000000#32)) pc))
                (broadcast S1000x3 (fc 0x3F800000#32))) (broadcast S1000x3 (fc 0x40000000#32)))
            repA (constant S1000x15 .f32 0x00000000#32))
          (broadcastTo S1000x15 gridA broadcasts_S1x15_S1000x15)))))
    (shapeCast S15x30 wm shapeCasts_S15x30_S15x30) (constant S1000x30 .f32 0x00000000#32)
/-- The sum of the spline features of the first `n` chosen neighbours. -/
def accA (pc : FVec F S1000x3 .f32) (wm : FVec F S15x30 .f32) (c0 : FVec F S1000x1000 .f32) : ℕ → FVec F S1000x30 .f32
  | 0 => broadcast S1000x30 (fc 0x00000000#32)
  | n + 1 => addf (accA pc wm c0 n) (splA pc wm (idxA c0 n))
/-- The features of every point: the sigmoid of the mean over fifteen neighbours. -/
def featA (pc : FVec F S1000x3 .f32) (wm : FVec F S15x30 .f32) (c0 : FVec F S1000x1000 .f32) : FVec F S1000x30 .f32 :=
  logistic (mulf (accA pc wm c0 15) (broadcast S1000x30 (Named.named κ "fifteenth" 0x3D888889#32)))
/-- The points' coordinates through the last three rows of the first weight. -/
def posA (pc : FVec F S1000x3 .f32) (w1 : FVec F S33x20 .f32) : FVec F S1000x20 .f32 :=
  matmul dot_S1000x3_S3x20_S1000x20_1_0_0_1_n_n none pc
    (extractStridedSlice S3x20 ![30, 0] w1 slices_S33x20_o30_0_S3x20) (constant S1000x20 .f32 0x00000000#32)
/-- What a neighbour adds to the first layer. -/
def gwA (pc : FVec F S1000x3 .f32) (w1 : FVec F S33x20 .f32) (f : FVec F S1000x30 .f32) : FVec F S1000x20 .f32 :=
  addf (matmul dot_S1000x30_S30x20_S1000x20_1_0_0_1_n_n none f
    (extractStridedSlice S30x20 ![0, 0] w1 slices_S33x20_o0_0_S30x20) (constant S1000x20 .f32 0x00000000#32)) (posA pc w1)
/-- What the point itself takes away. -/
def shiftA (pc : FVec F S1000x3 .f32) (w1 : FVec F S33x20 .f32) (b1 : FVec F S1x20 .f32) : FVec F S1000x20 .f32 :=
  subf (posA pc w1) (broadcastTo S1000x20 (shapeCast S1x20 b1 shapeCasts_S1x20_S1x20) broadcasts_S1x20_S1000x20)
/-- The two layers at one chosen neighbour of every point. -/
def hidA (gw sh : FVec F S1000x20 .f32) (w2 : FVec F S20x20 .f32) (b2 : FVec F S1x20 .f32) (ix : IVec S1000x1 32) :
    FVec F S1000x20 .f32 :=
  maximumf (addf (matmul dot_S1000x20_S20x20_S1000x20_1_0_0_1_n_n none
    (maximumf (subf (matmul dot_S1000x1000_S1000x20_S1000x20_1_0_0_1_n_n none (oneA ix) gw (constant S1000x20 .f32 0x00000000#32)) sh)
      (broadcast S1000x20 (fc 0x00000000#32))) w2 (constant S1000x20 .f32 0x00000000#32))
    (broadcastTo S1000x20 (shapeCast S1x20 b2 shapeCasts_S1x20_S1x20) broadcasts_S1x20_S1000x20)) (broadcast S1000x20 (fc 0x00000000#32))
/-- The largest of the two layers' values over the first `n` chosen neighbours. -/
def maxA (gw sh : FVec F S1000x20 .f32) (w2 : FVec F S20x20 .f32) (b2 : FVec F S1x20 .f32) (c0 : FVec F S1000x1000 .f32) :
    ℕ → FVec F S1000x20 .f32
  | 0 => broadcast S1000x20 (fc 0xFF800000#32)
  | n + 1 => maximumf (maxA gw sh w2 b2 c0 n) (hidA gw sh w2 b2 (idxA c0 n))
/-- The features stored for one graph. -/
def stageA (x1 : FVec F S1x1000x3 .f32) (x3 : FVec F S3x1x1x1000 .f32) (wm : FVec F S15x30 .f32) (w1 : FVec F S33x20 .f32)
    (b1 : FVec F S1x20 .f32) (w2 : FVec F S20x20 .f32) (b2 : FVec F S1x20 .f32) : FVec F S1000x20 .f32 :=
  k0_pay1 (maxA (gwA (k0_pay17 x1) w1 (featA (k0_pay17 x1) wm (k0_pay18 x1 x3))) (shiftA (k0_pay17 x1) w1 b1) w2 b2
    (k0_pay18 x1 x3) 15)

/-! ### The farthest points -/

/-- One coordinate of the points of every graph. -/
def rowF (x2 : FVec F S3x20x1000 .f32) : Fin 3 → FVec F S20x1000 .f32
  | 0 => shapeCast S20x1000 (View.ld (Val := Elt F) (S := S3x20x1000) (e' := .f32) x2 (Rect.unit (s := S3x20x1000) ![0, 0, 0] S1x20x1000.size inb_S3x20x1000_S1x20x1000_0_0_0)) shapeCasts_S1x20x1000_S20x1000
  | 1 => shapeCast S20x1000 (View.ld (Val := Elt F) (S := S3x20x1000) (e' := .f32) x2 (Rect.unit (s := S3x20x1000) ![1, 0, 0] S1x20x1000.size inb_S3x20x1000_S1x20x1000_1_0_0)) shapeCasts_S1x20x1000_S20x1000
  | 2 => shapeCast S20x1000 (View.ld (Val := Elt F) (S := S3x20x1000) (e' := .f32) x2 (Rect.unit (s := S3x20x1000) ![2, 0, 0] S1x20x1000.size inb_S3x20x1000_S1x20x1000_2_0_0)) shapeCasts_S1x20x1000_S20x1000
/-- The first point's coordinate in every graph. -/
def firstF (p : FVec F S20x1000 .f32) : FVec F S20x1 .f32 := extractStridedSlice S20x1 ![0, 0] p slices_S20x1000_o0_0_S20x1
/-- The square of the distance to the first point along one coordinate. -/
def sqF (p : FVec F S20x1000 .f32) : FVec F S20x1000 .f32 :=
  mulf (subf p (broadcastTo S20x1000 (firstF p) broadcasts_S20x1_S20x1000)) (subf p (broadcastTo S20x1000 (firstF p) broadcasts_S20x1_S20x1000))
/-- The column index of every cell of the points' table. -/
def laneF : IVec S20x1000 32 := iota .tc S20x1000 32 [1] iota_S20x1000_d1_w32
/-- The column index of every cell of the chosen points' table. -/
def lane2F : IVec S20x200 32 := iota .tc S20x200 32 [1] iota_S20x200_d1_w32
/-- The three coordinates one above another. -/
def stackF (px py pz : FVec F S20x1000 .f32) : FVec F S60x1000 .f32 :=
  concatenate S60x1000 0 [⟨S20x1000, px⟩, ⟨S20x1000, py⟩, ⟨S20x1000, pz⟩] concatenates_S20x1000_S20x1000_S20x1000_S60x1000_d0
/-- The chosen points' coordinate before the loop: the first point's in column zero. -/
def initF (p : FVec F S20x1000 .f32) : FVec F S20x200 .f32 :=
  k0_pay2 (firstF p) (cmpi .eq lane2F (broadcast S20x200 0#32)) (fc 0x00000000#32)
/-- What the loop carries. -/
abbrev StF (F : FTy → Type) : Type := FVec F S20x1000 .f32 × FVec F S20x200 .f32 × FVec F S20x200 .f32 × FVec F S20x200 .f32
/-- One trip of the loop. -/
def stepF (px py pz : FVec F S20x1000 .f32) (k : Fin k0_t1_loop.trips) (s : StF F) : StF F :=
  (k0_pay7 px py pz laneF (stackF px py pz) s.1,
    k0_pay9 laneF lane2F (stackF px py pz) k s.1 s.2.1,
    k0_pay10 laneF lane2F (stackF px py pz) k s.1 s.2.2.1,
    k0_pay11 laneF lane2F (stackF px py pz) k s.1 s.2.2.2)
/-- What the loop leaves. -/
def fpsF (px py pz : FVec F S20x1000 .f32) : StF F :=
  Scf.fold (stepF px py pz) (addf (addf (sqF px) (sqF py)) (sqF pz), initF px, initF py, initF pz)
/-- The chosen points' coordinates as stored. -/
def stageF (x2 : FVec F S3x20x1000 .f32) : FVec F S20x200 .f32 × FVec F S20x200 .f32 × FVec F S20x200 .f32 :=
  (k0_pay12 (fpsF (rowF x2 0) (rowF x2 1) (rowF x2 2)).2.1, k0_pay13 (fpsF (rowF x2 0) (rowF x2 1) (rowF x2 2)).2.2.1,
    k0_pay14 (fpsF (rowF x2 0) (rowF x2 1) (rowF x2 2)).2.2.2)

/-! ### The second level, one graph of two hundred points -/

/-- The column index of every cell of a two hundred by two hundred table. -/
def laneC : IVec S200x200 32 := iota .tc S200x200 32 [1] iota_S200x200_d1_w32
/-- The first column holding the smallest value of its row. -/
def pickC (cur : FVec F S200x200 .f32) : IVec S200x1 32 :=
  shapeCast S200x1 (multiReductionI .minsi [1] S200
    (select (cmpf .oeq cur (broadcastTo S200x200 (shapeCast S200x1
      (multiReduction .minimumf [1] S200 cur 0x7F800000#32 reduces_S200x200_S200 (.inl rfl) rfl) shapeCasts_S200_S200x1)
      broadcasts_S200x1_S200x200)) laneC (broadcast S200x200 1023#32)) 2147483647#32 reduces_S200x200_S200 rfl) shapeCasts_S200_S200x1
/-- The cells of the column chosen in every row. -/
def hotC (ix : IVec S200x1 32) : IVec S200x200 1 :=
  cmpi .eq laneC (broadcastTo S200x200 ix broadcasts_S200x1_S200x200)
/-- One in the chosen column of every row, zero elsewhere. -/
def oneC (ix : IVec S200x1 32) : FVec F S200x200 .f32 :=
  select (hotC ix) (broadcast S200x200 (fc 0x3F800000#32)) (broadcast S200x200 (fc 0x00000000#32))
/-- The table with the chosen cell of every row raised to infinity. -/
def dropC (cur : FVec F S200x200 .f32) : FVec F S200x200 .f32 :=
  select (hotC (pickC cur)) (broadcast S200x200 (fc 0x7F800000#32)) cur
/-- The table after `n` choices. -/
def curC (c0 : FVec F S200x200 .f32) : ℕ → FVec F S200x200 .f32
  | 0 => c0
  | n + 1 => dropC (curC c0 n)
/-- The `n`-th chosen columns. -/
def idxC (c0 : FVec F S200x200 .f32) (n : ℕ) : IVec S200x1 32 := pickC (curC c0 n)
/-- The graph's row of the three tables of chosen points. -/
def maskC (i : grid0.Coords) : IVec S20x1 1 :=
  cmpi .eq (iota .tc S20x1 32 [0] iota_S20x1_d0_w32) (broadcast S20x1 (Scalar.subi (BitVec.ofNat 32 (i 0).val) 5#32))
/-- One coordinate of the graph's chosen points, as a row. -/
def rowC (i : grid0.Coords) (p : FVec F S20x200 .f32) : FVec F S1x200 .f32 :=
  shapeCast S1x200 (multiReduction .add [0] S200 (select (broadcastTo S20x200 (shapeCast S20x1 (maskC i) shapeCasts_S20x1_S20x1) broadcasts_S20x1_S20x200)
    p (broadcast S20x200 (fc 0x00000000#32))) 0x00000000#32 reduces_S20x200_S200 (.inl rfl) rfl) shapeCasts_S200_S1x200
/-- The diagonal of a two hundred by two hundred table. -/
def eyeC : IVec S200x200 1 := cmpi .eq laneC (iota .tc S200x200 32 [0] iota_S200x200_d0_w32)
/-- A row of coordinates turned into a column. -/
def colC (r : FVec F S1x200 .f32) : FVec F S200x1 .f32 :=
  shapeCast S200x1 (multiReduction .add [1] S200 (select eyeC (broadcastTo S200x200 (shapeCast S1x200 r shapeCasts_S1x200_S1x200) broadcasts_S1x200_S200x200)
    (broadcast S200x200 (fc 0x00000000#32))) 0x00000000#32 reduces_S200x200_S200 (.inl rfl) rfl) shapeCasts_S200_S200x1
/-- The square of the distance between two chosen points along one coordinate. -/
def sqC (r : FVec F S1x200 .f32) : FVec F S200x200 .f32 :=
  mulf (subf (broadcastTo S200x200 (colC r) broadcasts_S200x1_S200x200) (broadcastTo S200x200 r broadcasts_S1x200_S200x200))
    (subf (broadcastTo S200x200 (colC r) broadcasts_S200x1_S200x200) (broadcastTo S200x200 r broadcasts_S1x200_S200x200))
/-- The table of distances, the diagonal put far away. -/
def distC (rx ry rz : FVec F S1x200 .f32) : FVec F S200x200 .f32 :=
  addf (addf (addf (sqC rx) (sqC ry)) (sqC rz))
    (select eyeC (broadcast S200x200 (fc 0x4E6E6B28#32)) (broadcast S200x200 (fc 0x00000000#32)))
/-- The features of one chosen neighbour of every point. -/
def nbC (sub : FVec F S200x20 .f32) (ix : IVec S200x1 32) : FVec F S200x20 .f32 :=
  matmul dot_S200x200_S200x20_S200x20_1_0_0_1_n_n none (oneC ix) sub (constant S200x20 .f32 0x00000000#32)
/-- The sum of the first `n` chosen neighbours' features. -/
def sumC (sub : FVec F S200x20 .f32) (c0 : FVec F S200x200 .f32) : ℕ → FVec F S200x20 .f32
  | 0 => broadcast S200x20 (fc 0x00000000#32)
  | n + 1 => addf (sumC sub c0 n) (nbC sub (idxC c0 n))
/-- The largest of the first `n` chosen neighbours' features. -/
def maxC (sub : FVec F S200x20 .f32) (c0 : FVec F S200x200 .f32) : ℕ → FVec F S200x20 .f32
  | 0 => broadcast S200x20 (fc 0xFF800000#32)
  | n + 1 => maximumf (maxC sub c0 n) (nbC sub (idxC c0 n))
/-- The second level's input through its first weight. -/
def hidC (sub : FVec F S200x20 .f32) (c0 : FVec F S200x200 .f32) (w3 : FVec F S60x64 .f32) : FVec F S200x64 .f32 :=
  matmul dot_S200x60_S60x64_S200x64_1_0_0_1_n_n none
    (concatenate S200x60 1 [⟨S200x20, sub⟩, ⟨S200x20, mulf (sumC sub c0 15) (broadcast S200x20 (Named.named κ "fifteenth" 0x3D888889#32))⟩,
      ⟨S200x20, maxC sub c0 15⟩] concatenates_S200x20_S200x20_S200x20_S200x60_d1) w3 (constant S200x64 .f32 0x00000000#32)
/-- The graphs' features after one more graph. -/
def stageC (i : grid0.Coords) (sub : FVec F S200x20 .f32) (px py pz : FVec F S20x200 .f32) (w3 : FVec F S60x64 .f32) (b3 : FVec F S1x64 .f32)
    (w4 : FVec F S64x32 .f32) (b4 : FVec F S1x32 .f32) (ys : FVec F S20x32 .f32) : FVec F S20x32 .f32 :=
  k0_pay15 (maskC i) (hidC sub (distC (rowC i px) (rowC i py) (rowC i pz)) w3) (shapeCast S1x64 b3 shapeCasts_S1x64_S1x64) w4 b4 ys

end Cert.Proof.Clean

end
-- ==== Proof.Body.lean ====
module

public import proofs.«01_k».proof.Proof.Gen.KernelIdeal.Frame
public import proofs.«01_k».proof.Proof.Gen.KernelIdeal.Skeleton
public import Idealize.ShloMosaic.Lib.Exec
public import proofs.«01_k».proof.Proof.Clean
public import Idealize.ShloMosaic.Lib.WritesUnit
public import Idealize.ShloMosaic.Lib.VecWindow

/-! The body at a grid point of each of its four kinds: what it stores, in the terms of Clean.lean. -/

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
open Cert.Proof.Clean

/-- A block of a thousand rows put at row `o` of the features' buffer. -/
def putA (o : ℕ) (d : Vec F S4000x20 .f32) (v : Vec F S1000x20 .f32) : Vec F S4000x20 .f32 := fun y =>
  if h : o ≤ (y (0 : Fin 2)).val ∧ (y (0 : Fin 2)).val < o + 1000 then
    v (Rect.unitLocal (s := S4000x20) (off := ![o, 0]) (size := S1000x20.size) y (Rect.unit_rows_mem y rfl rfl h))
  else d y

/-- The graphs' features before the first graph. -/
def zeroY : Vec F S20x32 .f32 := shapeCast S20x32 (broadcast S20x32 (fc 0x00000000#32)) shapeCasts_S20x32_S20x32

/-- A load of a whole buffer reads its contents. -/
theorem whole2 {a b : ℕ} (v : View sig .tc .vmem (⟨2, ![a, b]⟩ : Shape) .f32) (f : v.ty.Contents (Elt F)) (inb) :
    View.readAt (Elt F) v (Rect.unit (s := ⟨2, ![a, b]⟩) ![0, 0] ![a, b] inb).toLoadRect f = View.read (Elt F) v f := by
  rw [View.readAt_eq_ld]; exact View.ld_unit_zero (funext fun a => by fin_cases a <;> rfl) inb _
theorem whole3 {a b d : ℕ} (v : View sig .tc .vmem (⟨3, ![a, b, d]⟩ : Shape) .f32) (f : v.ty.Contents (Elt F)) (inb) :
    View.readAt (Elt F) v (Rect.unit (s := ⟨3, ![a, b, d]⟩) ![0, 0, 0] ![a, b, d] inb).toLoadRect f = View.read (Elt F) v f := by
  rw [View.readAt_eq_ld]; exact View.ld_unit_zero (funext fun a => by fin_cases a <;> rfl) inb _
theorem whole4 {a b d e : ℕ} (v : View sig .tc .vmem (⟨4, ![a, b, d, e]⟩ : Shape) .f32) (f : v.ty.Contents (Elt F)) (inb) :
    View.readAt (Elt F) v (Rect.unit (s := ⟨4, ![a, b, d, e]⟩) ![0, 0, 0, 0] ![a, b, d, e] inb).toLoadRect f = View.read (Elt F) v f := by
  rw [View.readAt_eq_ld]; exact View.ld_unit_zero (funext fun a => by fin_cases a <;> rfl) inb _

set_option maxHeartbeats 4000000 in
set_option sl_exec.resultNames true in
/-- At one of the first four points the body stores the graph's features in its rows. -/
theorem runA (c : Dev nD) (E : Set ℕ) (i : grid0.Coords) (h1 : k0_cond1 i = 1#1) (h2 : ¬ k0_cond2 i = 1#1) (h3 : ¬ k0_cond3 i = 1#1) (h4 : ¬ k0_cond4 i = 1#1)
    (arg1 : Memref sig .tc .vmem S1x1000x3 .f32) (harg1 : arg1.IsWhole) (arg2 : Memref sig .tc .vmem S3x20x1000 .f32) (harg2 : arg2.IsWhole) (arg3 : Memref sig .tc .vmem S3x1x1x1000 .f32) (harg3 : arg3.IsWhole) (arg4 : Memref sig .tc .vmem S15x30 .f32) (harg4 : arg4.IsWhole) (arg5 : Memref sig .tc .vmem S33x20 .f32) (harg5 : arg5.IsWhole) (arg6 : Memref sig .tc .vmem S1x20 .f32) (harg6 : arg6.IsWhole) (arg7 : Memref sig .tc .vmem S20x20 .f32) (harg7 : arg7.IsWhole) (arg8 : Memref sig .tc .vmem S1x20 .f32) (harg8 : arg8.IsWhole) (arg9 : Memref sig .tc .vmem S60x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S256x40 .f32) (harg15 : arg15.IsWhole) (arg16 : Memref sig .tc .vmem S1x40 .f32) (harg16 : arg16.IsWhole) (arg17 : Memref sig .tc .vmem S20x40 .f32) (harg17 : arg17.IsWhole) (arg18 : Memref sig .tc .vmem S4000x20 .f32) (harg18 : arg18.IsWhole) (arg19 : Memref sig .tc .vmem S20x200 .f32) (harg19 : arg19.IsWhole) (arg20 : Memref sig .tc .vmem S20x200 .f32) (harg20 : arg20.IsWhole) (arg21 : Memref sig .tc .vmem S20x200 .f32) (harg21 : arg21.IsWhole) (arg22 : Memref sig .tc .vmem S20x32 .f32) (harg22 : arg22.IsWhole)
    (x1 : Vec F S1x1000x3 .f32) (x3 : Vec F S3x1x1x1000 .f32) (x4 : Vec F S15x30 .f32) (x5 : Vec F S33x20 .f32) (x6 : Vec F S1x20 .f32) (x7 : Vec F S20x20 .f32) (x8 : Vec F S1x20 .f32) (d18 : Vec F S4000x20 .f32) (o : ℕ) (ho : k0_off1 i = ![o, 0]) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg18 fullShare d18
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg18 fullShare (putA o d18 (stageA x1 x3 x4 x5 x6 x7 x8))) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f18, %hf18, H18⟩, Hk⟩
  subst hf1 hf3 hf4 hf5 hf6 hf7 hf8 hf18
  sl_exec
  sl_step
  iapply Hk
  isplitl [H1]
  · iexists f1; isplitr
    · ipureintro; rfl
    iexact H1
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  iexists _; isplitr; swap
  · iexact H18
  ipureintro
  refine funext fun y => (View.read_writes_cons_rows (o := o) (W := 1000) (size := S1000x20.size) arg18.view f18 _ _ [] y ho rfl rfl).trans ?_
  rw [← whole3 arg1.view f1 inb_S1x1000x3_S1x1000x3_0_0_0, ← whole4 arg3.view f3 inb_S3x1x1x1000_S3x1x1x1000_0_0_0_0, ← whole2 arg4.view f4 inb_S15x30_S15x30_0_0, ← whole2 arg5.view f5 inb_S33x20_S33x20_0_0, ← whole2 arg6.view f6 inb_S1x20_S1x20_0_0, ← whole2 arg7.view f7 inb_S20x20_S20x20_0_0, ← whole2 arg8.view f8 inb_S1x20_S1x20_0_0]
  rfl

/-- The two hundred rows from row `o` on of the features' buffer. -/
theorem sub_inb {o : ℕ} (h : o + 200 ≤ 4000) : ∀ a : Fin 2, (![o, 0] : Fin 2 → ℕ) a + S200x20.size a ≤ S4000x20.size a :=
  Fin.forall_fin_two.mpr ⟨h, by show 0 + 20 ≤ 20; omega⟩
/-- The two hundred rows from row `o` on of the features' buffer. -/
def subA (o : ℕ) (h : o + 200 ≤ 4000) (d : Vec F S4000x20 .f32) : Vec F S200x20 .f32 :=
  View.ld (Val := Elt F) (S := S4000x20) (e' := .f32) d (Rect.unit (s := S4000x20) ![o, 0] S200x20.size (sub_inb h))
/-- A load of the rows at an offset that is `o`. -/
theorem sub_eq {o : ℕ} (h : o + 200 ≤ 4000) {off : Fin 2 → ℕ} (ho : off = ![o, 0]) (v : View sig .tc .vmem S4000x20 .f32) (f : v.ty.Contents (Elt F))
    (inb : ∀ a : Fin 2, off a + S200x20.size a ≤ S4000x20.size a) :
    View.readAt (Elt F) v (Rect.unit (s := S4000x20) off S200x20.size inb).toLoadRect f = subA o h (View.read (Elt F) v f) := by
  subst ho; rfl
/-- The rows lie in the buffer. -/
theorem off_inb {o : ℕ} (h : o + 200 ≤ 4000) {off : Fin 2 → ℕ} (ho : off = ![o, 0]) :
    ∀ a : Fin 2, off a + S200x20.size a ≤ S4000x20.size a := by subst ho; exact sub_inb h

set_option maxHeartbeats 4000000 in
set_option sl_exec.resultNames true in
/-- At the fifth point the body stores the chosen points' coordinates and clears the graphs' features. -/
theorem runF (c : Dev nD) (E : Set ℕ) (i : grid0.Coords) (h1 : ¬ k0_cond1 i = 1#1) (h2 : k0_cond2 i = 1#1) (h3 : ¬ k0_cond3 i = 1#1) (h4 : ¬ k0_cond4 i = 1#1)
    (arg1 : Memref sig .tc .vmem S1x1000x3 .f32) (harg1 : arg1.IsWhole) (arg2 : Memref sig .tc .vmem S3x20x1000 .f32) (harg2 : arg2.IsWhole) (arg3 : Memref sig .tc .vmem S3x1x1x1000 .f32) (harg3 : arg3.IsWhole) (arg4 : Memref sig .tc .vmem S15x30 .f32) (harg4 : arg4.IsWhole) (arg5 : Memref sig .tc .vmem S33x20 .f32) (harg5 : arg5.IsWhole) (arg6 : Memref sig .tc .vmem S1x20 .f32) (harg6 : arg6.IsWhole) (arg7 : Memref sig .tc .vmem S20x20 .f32) (harg7 : arg7.IsWhole) (arg8 : Memref sig .tc .vmem S1x20 .f32) (harg8 : arg8.IsWhole) (arg9 : Memref sig .tc .vmem S60x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S256x40 .f32) (harg15 : arg15.IsWhole) (arg16 : Memref sig .tc .vmem S1x40 .f32) (harg16 : arg16.IsWhole) (arg17 : Memref sig .tc .vmem S20x40 .f32) (harg17 : arg17.IsWhole) (arg18 : Memref sig .tc .vmem S4000x20 .f32) (harg18 : arg18.IsWhole) (arg19 : Memref sig .tc .vmem S20x200 .f32) (harg19 : arg19.IsWhole) (arg20 : Memref sig .tc .vmem S20x200 .f32) (harg20 : arg20.IsWhole) (arg21 : Memref sig .tc .vmem S20x200 .f32) (harg21 : arg21.IsWhole) (arg22 : Memref sig .tc .vmem S20x32 .f32) (harg22 : arg22.IsWhole)
    (x2 : Vec F S3x20x1000 .f32) (d19 : Vec F S20x200 .f32) (d20 : Vec F S20x200 .f32) (d21 : Vec F S20x200 .f32) (d22 : Vec F S20x32 .f32)  (K : PUnit → sProp 𝕄) :
    iprop(owns (c : Thread nD τ) arg2 fullShare x2 ∗ owns (c : Thread nD τ) arg19 fullShare d19 ∗ owns (c : Thread nD τ) arg20 fullShare d20 ∗ owns (c : Thread nD τ) arg21 fullShare d21 ∗ owns (c : Thread nD τ) arg22 fullShare d22
        ∗ (iprop(owns (c : Thread nD τ) arg2 fullShare x2 ∗ owns (c : Thread nD τ) arg19 fullShare (stageF x2).1 ∗ owns (c : Thread nD τ) arg20 fullShare (stageF x2).2.1 ∗ owns (c : Thread nD τ) arg21 fullShare (stageF x2).2.2 ∗ owns (c : Thread nD τ) arg22 fullShare zeroY) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  unfold owns
  iintro ⟨⟨%f2, %hf2, H2⟩, ⟨%f19, %hf19, H19⟩, ⟨%f20, %hf20, H20⟩, ⟨%f21, %hf21, H21⟩, ⟨%f22, %hf22, H22⟩, Hk⟩
  subst hf2 hf19 hf20 hf21 hf22
  sl_exec
  sl_step
  iapply Hk
  isplitl [H2]
  · iexists f2; isplitr
    · ipureintro; rfl
    iexact H2
  isplitl [H19]
  · iexists _; isplitr; swap
    · iexact H19
    ipureintro
    refine (View.read_writes_full arg19.view f19 _ _ []).trans ?_
    rfl
  isplitl [H20]
  · iexists _; isplitr; swap
    · iexact H20
    ipureintro
    refine (View.read_writes_full arg20.view f20 _ _ []).trans ?_
    rfl
  isplitl [H21]
  · iexists _; isplitr; swap
    · iexact H21
    ipureintro
    refine (View.read_writes_full arg21.view f21 _ _ []).trans ?_
    rfl
  iexists _; isplitr; swap
  · iexact H22
  ipureintro
  refine (View.read_writes_full arg22.view f22 _ _ []).trans ?_
  rfl

set_option maxHeartbeats 4000000 in
set_option sl_exec.resultNames true in
/-- At a point of the second level but the last the body adds the graph's features. -/
theorem runC (c : Dev nD) (E : Set ℕ) (i : grid0.Coords) (h1 : ¬ k0_cond1 i = 1#1) (h2 : ¬ k0_cond2 i = 1#1) (h3 : k0_cond3 i = 1#1) (h4 : ¬ k0_cond4 i = 1#1)
    (arg1 : Memref sig .tc .vmem S1x1000x3 .f32) (harg1 : arg1.IsWhole) (arg2 : Memref sig .tc .vmem S3x20x1000 .f32) (harg2 : arg2.IsWhole) (arg3 : Memref sig .tc .vmem S3x1x1x1000 .f32) (harg3 : arg3.IsWhole) (arg4 : Memref sig .tc .vmem S15x30 .f32) (harg4 : arg4.IsWhole) (arg5 : Memref sig .tc .vmem S33x20 .f32) (harg5 : arg5.IsWhole) (arg6 : Memref sig .tc .vmem S1x20 .f32) (harg6 : arg6.IsWhole) (arg7 : Memref sig .tc .vmem S20x20 .f32) (harg7 : arg7.IsWhole) (arg8 : Memref sig .tc .vmem S1x20 .f32) (harg8 : arg8.IsWhole) (arg9 : Memref sig .tc .vmem S60x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S256x40 .f32) (harg15 : arg15.IsWhole) (arg16 : Memref sig .tc .vmem S1x40 .f32) (harg16 : arg16.IsWhole) (arg17 : Memref sig .tc .vmem S20x40 .f32) (harg17 : arg17.IsWhole) (arg18 : Memref sig .tc .vmem S4000x20 .f32) (harg18 : arg18.IsWhole) (arg19 : Memref sig .tc .vmem S20x200 .f32) (harg19 : arg19.IsWhole) (arg20 : Memref sig .tc .vmem S20x200 .f32) (harg20 : arg20.IsWhole) (arg21 : Memref sig .tc .vmem S20x200 .f32) (harg21 : arg21.IsWhole) (arg22 : Memref sig .tc .vmem S20x32 .f32) (harg22 : arg22.IsWhole)
    (x9 : Vec F S60x64 .f32) (x10 : Vec F S1x64 .f32) (x11 : Vec F S64x32 .f32) (x12 : Vec F S1x32 .f32) (d18 : Vec F S4000x20 .f32) (d19 : Vec F S20x200 .f32) (d20 : Vec F S20x200 .f32) (d21 : Vec F S20x200 .f32) (d22 : Vec F S20x32 .f32) (o : ℕ) (hb : o + 200 ≤ 4000) (ho : k0_off2 i = ![o, 0]) (K : PUnit → sProp 𝕄) :
    iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22
        ∗ (iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare (stageC i (subA o hb d18) d19 d20 d21 x9 x10 x11 x12 d22)) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  unfold owns
  iintro ⟨⟨%f9, %hf9, H9⟩, ⟨%f10, %hf10, H10⟩, ⟨%f11, %hf11, H11⟩, ⟨%f12, %hf12, H12⟩, ⟨%f18, %hf18, H18⟩, ⟨%f19, %hf19, H19⟩, ⟨%f20, %hf20, H20⟩, ⟨%f21, %hf21, H21⟩, ⟨%f22, %hf22, H22⟩, Hk⟩
  subst hf9 hf10 hf11 hf12 hf18 hf19 hf20 hf21 hf22
  sl_exec
  sl_step
  iapply Hk
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H18]
  · iexists f18; isplitr
    · ipureintro; rfl
    iexact H18
  isplitl [H19]
  · iexists f19; isplitr
    · ipureintro; rfl
    iexact H19
  isplitl [H20]
  · iexists f20; isplitr
    · ipureintro; rfl
    iexact H20
  isplitl [H21]
  · iexists f21; isplitr
    · ipureintro; rfl
    iexact H21
  iexists _; isplitr; swap
  · iexact H22
  ipureintro
  refine (View.read_writes_full arg22.view f22 _ _ []).trans ?_
  rw [← whole2 arg9.view f9 inb_S60x64_S60x64_0_0, ← whole2 arg10.view f10 inb_S1x64_S1x64_0_0, ← whole2 arg11.view f11 inb_S64x32_S64x32_0_0, ← whole2 arg12.view f12 inb_S1x32_S1x32_0_0, ← whole2 arg19.view f19 inb_S20x200_S20x200_0_0, ← whole2 arg20.view f20 inb_S20x200_S20x200_0_0, ← whole2 arg21.view f21 inb_S20x200_S20x200_0_0, ← whole2 arg22.view f22 inb_S20x32_S20x32_0_0, ← sub_eq hb ho arg18.view f18 (off_inb hb ho)]
  rfl

set_option maxHeartbeats 4000000 in
set_option sl_exec.resultNames true in
/-- At the last point the body adds the last graph's features and stores the head of all of them. -/
theorem runH (c : Dev nD) (E : Set ℕ) (i : grid0.Coords) (h1 : ¬ k0_cond1 i = 1#1) (h2 : ¬ k0_cond2 i = 1#1) (h3 : k0_cond3 i = 1#1) (h4 : k0_cond4 i = 1#1)
    (arg1 : Memref sig .tc .vmem S1x1000x3 .f32) (harg1 : arg1.IsWhole) (arg2 : Memref sig .tc .vmem S3x20x1000 .f32) (harg2 : arg2.IsWhole) (arg3 : Memref sig .tc .vmem S3x1x1x1000 .f32) (harg3 : arg3.IsWhole) (arg4 : Memref sig .tc .vmem S15x30 .f32) (harg4 : arg4.IsWhole) (arg5 : Memref sig .tc .vmem S33x20 .f32) (harg5 : arg5.IsWhole) (arg6 : Memref sig .tc .vmem S1x20 .f32) (harg6 : arg6.IsWhole) (arg7 : Memref sig .tc .vmem S20x20 .f32) (harg7 : arg7.IsWhole) (arg8 : Memref sig .tc .vmem S1x20 .f32) (harg8 : arg8.IsWhole) (arg9 : Memref sig .tc .vmem S60x64 .f32) (harg9 : arg9.IsWhole) (arg10 : Memref sig .tc .vmem S1x64 .f32) (harg10 : arg10.IsWhole) (arg11 : Memref sig .tc .vmem S64x32 .f32) (harg11 : arg11.IsWhole) (arg12 : Memref sig .tc .vmem S1x32 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S256x40 .f32) (harg15 : arg15.IsWhole) (arg16 : Memref sig .tc .vmem S1x40 .f32) (harg16 : arg16.IsWhole) (arg17 : Memref sig .tc .vmem S20x40 .f32) (harg17 : arg17.IsWhole) (arg18 : Memref sig .tc .vmem S4000x20 .f32) (harg18 : arg18.IsWhole) (arg19 : Memref sig .tc .vmem S20x200 .f32) (harg19 : arg19.IsWhole) (arg20 : Memref sig .tc .vmem S20x200 .f32) (harg20 : arg20.IsWhole) (arg21 : Memref sig .tc .vmem S20x200 .f32) (harg21 : arg21.IsWhole) (arg22 : Memref sig .tc .vmem S20x32 .f32) (harg22 : arg22.IsWhole)
    (x9 : Vec F S60x64 .f32) (x10 : Vec F S1x64 .f32) (x11 : Vec F S64x32 .f32) (x12 : Vec F S1x32 .f32) (x13 : Vec F S32x256 .f32) (x14 : Vec F S1x256 .f32) (x15 : Vec F S256x40 .f32) (x16 : Vec F S1x40 .f32) (d18 : Vec F S4000x20 .f32) (d19 : Vec F S20x200 .f32) (d20 : Vec F S20x200 .f32) (d21 : Vec F S20x200 .f32) (d22 : Vec F S20x32 .f32) (d17 : Vec F S20x40 .f32) (o : ℕ) (hb : o + 200 ≤ 4000) (ho : k0_off2 i = ![o, 0]) (K : PUnit → sProp 𝕄) :
    iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg17 fullShare d17
        ∗ (iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare (stageC i (subA o hb d18) d19 d20 d21 x9 x10 x11 x12 d22) ∗ owns (c : Thread nD τ) arg17 fullShare (k0_pay16 (stageC i (subA o hb d18) d19 d20 d21 x9 x10 x11 x12 d22) x13 x14 x15 x16)) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  unfold owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f18, %hf18, H18⟩, ⟨%f19, %hf19, H19⟩, ⟨%f20, %hf20, H20⟩, ⟨%f21, %hf21, H21⟩, ⟨%f22, %hf22, H22⟩, ⟨%f17, %hf17, H17⟩, Hk⟩
  subst hf9 hf10 hf11 hf12 hf13 hf14 hf15 hf16 hf18 hf19 hf20 hf21 hf22 hf17
  sl_exec
  sl_step
  iapply Hk
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists f14; isplitr
    · ipureintro; rfl
    iexact H14
  isplitl [H15]
  · iexists f15; isplitr
    · ipureintro; rfl
    iexact H15
  isplitl [H16]
  · iexists f16; isplitr
    · ipureintro; rfl
    iexact H16
  isplitl [H18]
  · iexists f18; isplitr
    · ipureintro; rfl
    iexact H18
  isplitl [H19]
  · iexists f19; isplitr
    · ipureintro; rfl
    iexact H19
  isplitl [H20]
  · iexists f20; isplitr
    · ipureintro; rfl
    iexact H20
  isplitl [H21]
  · iexists f21; isplitr
    · ipureintro; rfl
    iexact H21
  isplitl [H22]
  · iexists _; isplitr; swap
    · iexact H22
    ipureintro
    refine (View.read_writes_full arg22.view f22 _ _ []).trans ?_
    rw [← whole2 arg9.view f9 inb_S60x64_S60x64_0_0, ← whole2 arg10.view f10 inb_S1x64_S1x64_0_0, ← whole2 arg11.view f11 inb_S64x32_S64x32_0_0, ← whole2 arg12.view f12 inb_S1x32_S1x32_0_0, ← whole2 arg19.view f19 inb_S20x200_S20x200_0_0, ← whole2 arg20.view f20 inb_S20x200_S20x200_0_0, ← whole2 arg21.view f21 inb_S20x200_S20x200_0_0, ← whole2 arg22.view f22 inb_S20x32_S20x32_0_0, ← sub_eq hb ho arg18.view f18 (off_inb hb ho)]
    rfl
  iexists _; isplitr; swap
  · iexact H17
  ipureintro
  refine (View.read_writes_full arg17.view f17 _ _ []).trans ?_
  rw [← whole2 arg13.view f13 inb_S32x256_S32x256_0_0, ← whole2 arg14.view f14 inb_S1x256_S1x256_0_0, ← whole2 arg15.view f15 inb_S256x40_S256x40_0_0, ← whole2 arg16.view f16 inb_S1x40_S1x40_0_0]
  refine congrArg (fun v => k0_pay16 v _ _ _ _) ?_
  refine (View.readCov_unit_zero arg22.view (funext fun a => by fin_cases a <;> rfl) _ _).trans ?_
  rw [← whole2 arg9.view f9 inb_S60x64_S60x64_0_0, ← whole2 arg10.view f10 inb_S1x64_S1x64_0_0, ← whole2 arg11.view f11 inb_S64x32_S64x32_0_0, ← whole2 arg12.view f12 inb_S1x32_S1x32_0_0, ← whole2 arg19.view f19 inb_S20x200_S20x200_0_0, ← whole2 arg20.view f20 inb_S20x200_S20x200_0_0, ← whole2 arg21.view f21 inb_S20x200_S20x200_0_0, ← whole2 arg22.view f22 inb_S20x32_S20x32_0_0, ← sub_eq hb ho arg18.view f18 (off_inb hb ho)]
  rfl

end Cert.Proof.Body

end
-- ==== Proof.Track.lean ====
module

public import proofs.«01_k».proof.Proof.Gen.KernelIdeal.Frame
public import proofs.«01_k».proof.Proof.Gen.KernelIdeal.Skeleton
public import Idealize.ShloMosaic.Lib.Exec
public import proofs.«01_k».proof.Proof.Body

/-! What the body carries from point to point, its obligation at every point, and the run of the launch. -/

@[expose] public section

set_option maxRecDepth 16384

noncomputable section

namespace Cert.Proof.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
open Cert.Proof.Clean Cert.Proof.Body

variable (m : (ℓ : Loc nD τ sig) → Buf (Elt F) ℓ) (ρ : Dev nD → PrngReg)

/-! ### The grid's points -/

theorem cond1_iff : ∀ t : Fin cfg0.N, k0_cond1 (grid0.coords t) = 1#1 ↔ t.val < 4 := by decide +kernel
theorem cond2_iff : ∀ t : Fin cfg0.N, k0_cond2 (grid0.coords t) = 1#1 ↔ t.val = 4 := by decide +kernel
theorem cond3_iff : ∀ t : Fin cfg0.N, k0_cond3 (grid0.coords t) = 1#1 ↔ 4 < t.val := by decide +kernel
theorem cond4_iff : ∀ t : Fin cfg0.N, k0_cond4 (grid0.coords t) = 1#1 ↔ t.val = 24 := by decide +kernel
theorem off1_eq : ∀ t : Fin cfg0.N, t.val < 4 → k0_off1 (grid0.coords t) = ![1000 * t.val, 0] := by decide +kernel
theorem off2_eq : ∀ t : Fin cfg0.N, 4 < t.val → k0_off2 (grid0.coords t) = ![200 * (t.val - 5), 0] := by decide +kernel
theorem N_eq : cfg0.N = 25 := N_0
theorem idle_16 : ∀ t : Fin cfg0.N, t.val ≠ 24 → cfg0.idle 16 (cfg0.grid.coords t) = true := fun t h => by
  have h4 : ¬ k0_cond4 (grid0.coords t) = 1#1 := fun hc => h ((cond4_iff t).mp hc)
  show (!(k0_cond4 (grid0.coords t) == 1#1)) = true
  simpa using h4
theorem live_16 : ∀ t : Fin cfg0.N, t.val = 24 → cfg0.idle 16 (cfg0.grid.coords t) = false := fun t h => by
  have h4 := (cond4_iff t).mpr h
  show (!(k0_cond4 (grid0.coords t) == 1#1)) = false
  simpa using h4
theorem flush_16 : ∀ t : Fin cfg0.N, t.val ≠ 24 → (cfg0.win 16).flush t = false := fun t h => by
  have := (flush0_16 t).not.mpr (by have := t.isLt; have := N_eq; omega)
  simpa using this

/-! ### What is carried -/

/-- Point `k` of the grid. -/
def pt (k : ℕ) (h : k < 25) : Fin cfg0.N := ⟨k, N_eq ▸ h⟩

/-- The features stored at point `t`. -/
def blkA (c : Dev nD) (t : Fin cfg0.N) : Vec F S1000x20 .f32 :=
  stageA (iblk m c 0 t) (iblk m c 2 t) (iblk m c 3 t) (iblk m c 4 t) (iblk m c 5 t) (iblk m c 6 t) (iblk m c 7 t)
/-- The features' buffer after `n` points, where it is written. -/
def fdd (c : Dev nD) : ℕ → Vec F S4000x20 .f32
  | 0 => broadcast S4000x20 (fc 0x00000000#32)
  | n + 1 => if h : n < 25 then putA (1000 * n) (fdd c n) (blkA m c (pt n h)) else fdd c n
/-- The chosen points' coordinates. -/
def pxyz (c : Dev nD) : FVec F S20x200 .f32 × FVec F S20x200 .f32 × FVec F S20x200 .f32 := stageF (iblk m c 1 (pt 4 (by omega)))
/-- The graphs' features after `k` graphs. -/
def ysum (c : Dev nD) : ℕ → Vec F S20x32 .f32
  | 0 => zeroY
  | k + 1 => if h : k < 20 then
      stageC (grid0.coords (pt (k + 5) (by omega))) (subA (200 * k) (by omega) (fdd m c 4)) (pxyz m c).1 (pxyz m c).2.1 (pxyz m c).2.2
        (iblk m c 8 (pt (k + 5) (by omega))) (iblk m c 9 (pt (k + 5) (by omega))) (iblk m c 10 (pt (k + 5) (by omega))) (iblk m c 11 (pt (k + 5) (by omega))) (ysum c k)
    else ysum c k
/-- What the last point stores. -/
def outV (c : Dev nD) (t : Fin cfg0.N) : Vec F S20x40 .f32 :=
  k0_pay16 (ysum m c 20) (iblk m c 12 t) (iblk m c 13 t) (iblk m c 14 t) (iblk m c 15 t)

/-- What is known of the five carried buffers before point `n`. -/
def Inv (c : Dev nD) (n : ℕ) (d18 : Vec F S4000x20 .f32) (d19 d20 d21 : Vec F S20x200 .f32) (d22 : Vec F S20x32 .f32) : Prop :=
  (∀ y, (y (0 : Fin 2)).val < 1000 * min n 4 → d18 y = fdd m c (min n 4) y)
    ∧ (5 ≤ n → d19 = (pxyz m c).1 ∧ d20 = (pxyz m c).2.1 ∧ d21 = (pxyz m c).2.2 ∧ d22 = ysum m c (n - 5))

theorem Inv.full {c : Dev nD} {n : ℕ} {d18 d19 d20 d21 d22} (h : Inv m c n d18 d19 d20 d21 d22) (hn : 4 ≤ n) : d18 = fdd m c 4 := by
  funext y
  have := h.1 y
  rw [Nat.min_eq_right hn] at this
  exact this (y (0 : Fin 2)).isLt

/-- A point that stores a graph's features keeps what is known. -/
theorem Inv.stepA {c : Dev nD} {t : Fin cfg0.N} {d18 d19 d20 d21 d22} (ht : t.val < 4) (h : Inv m c t.val d18 d19 d20 d21 d22) :
    Inv m c (t.val + 1) (putA (1000 * t.val) d18 (blkA m c t)) d19 d20 d21 d22 := by
  refine ⟨fun y hy => ?_, fun h5 => absurd h5 (by omega)⟩
  rw [Nat.min_eq_left (by omega)] at hy ⊢
  have e : fdd m c (t.val + 1) = putA (1000 * t.val) (fdd m c t.val) (blkA m c t) := by
    rw [fdd, dif_pos (show t.val < 25 by omega)]; rfl
  rw [e]; unfold putA
  by_cases hb : 1000 * t.val ≤ (y (0 : Fin 2)).val ∧ (y (0 : Fin 2)).val < 1000 * t.val + 1000
  · rw [dif_pos hb, dif_pos hb]
  · rw [dif_neg hb, dif_neg hb]
    have := h.1 y; rw [Nat.min_eq_left (by omega)] at this
    exact this (by omega)

/-- The fifth point fills in the chosen points. -/
theorem Inv.stepF {c : Dev nD} {t : Fin cfg0.N} {d18 d19 d20 d21 d22} (ht : t.val = 4) (h : Inv m c t.val d18 d19 d20 d21 d22) :
    Inv m c (t.val + 1) d18 (stageF (iblk m c 1 t)).1 (stageF (iblk m c 1 t)).2.1 (stageF (iblk m c 1 t)).2.2 zeroY := by
  have e := h.full m (by omega)
  obtain rfl : t = pt 4 (by decide) := Fin.ext ht
  refine ⟨fun y _ => by rw [e]; rfl, fun _ => ⟨rfl, rfl, rfl, rfl⟩⟩

/-- A point of the second level adds its graph. -/
theorem Inv.stepC {c : Dev nD} {t : Fin cfg0.N} {d18 d19 d20 d21 d22} (ht : 4 < t.val) (hb : 200 * (t.val - 5) + 200 ≤ 4000) (h : Inv m c t.val d18 d19 d20 d21 d22) :
    Inv m c (t.val + 1) d18 d19 d20 d21 (stageC (grid0.coords t) (subA (200 * (t.val - 5)) hb d18) d19 d20 d21
      (iblk m c 8 t) (iblk m c 9 t) (iblk m c 10 t) (iblk m c 11 t) d22) := by
  have e := h.full m (by omega)
  obtain ⟨h19, h20, h21, h22⟩ := h.2 (by omega)
  subst e h19 h20 h21 h22
  refine ⟨fun y _ => by rw [Nat.min_eq_right (by omega)], fun _ => ⟨rfl, rfl, rfl, ?_⟩⟩
  obtain ⟨k, hk⟩ : ∃ k, t.val = k + 5 := ⟨t.val - 5, by omega⟩
  have hlt : k < 20 := by have := t.isLt; have := N_eq; omega
  have hlt' : k + 5 < 25 := by omega
  obtain rfl : t = pt (k + 5) hlt' := Fin.ext hk
  show _ = ysum m c (k + 5 + 1 - 5)
  rw [show k + 5 + 1 - 5 = k + 1 by omega, ysum, dif_pos hlt]
  rfl

/-- The last point's features of all the graphs. -/
theorem Inv.last {c : Dev nD} {t : Fin cfg0.N} {d18 d19 d20 d21 d22} (ht : t.val = 24) (h : Inv m c (t.val + 1) d18 d19 d20 d21 d22) :
    d22 = ysum m c 20 := by
  have := (h.2 (by omega)).2.2.2; rw [ht] at this; exact this

/-! ### The proof data -/

/-- The five carried buffers at what is known before point `n`, and the generator register. -/
def Phi (c : Dev nD) (n : ℕ) : sProp 𝕄 :=
  iprop(∃ d18, ∃ d19, ∃ d20, ∃ d21, ∃ d22, ⌜Inv m c n d18 d19 d20 d21 d22⌝
    ∗ owns (c : Thread nD τ) (Memref.whole cc0_scratch0) fullShare d18 ∗ owns (c : Thread nD τ) (Memref.whole cc0_scratch1) fullShare d19
    ∗ owns (c : Thread nD τ) (Memref.whole cc0_scratch2) fullShare d20 ∗ owns (c : Thread nD τ) (Memref.whole cc0_scratch3) fullShare d21
    ∗ owns (c : Thread nD τ) (Memref.whole cc0_scratch4) fullShare d22 ∗ (∃ r, prngReg c r))

/-- The proof data of the launch: each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outV m c t
    | ⟨_ + 17, h⟩ => absurd h (Nat.not_lt.mpr (Nat.le_add_left 17 _))
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem after0_16 (c : Dev nD) (t : Fin cfg0.N) : (dats m 0 c).after 16 t = outV m c t := by dsimp only [dats]

/-! ### The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (dats m 0 c).leavesExact 16 t)

theorem leaves_idle (c : Dev nD) (t : Fin cfg0.N) (h : t.val ≠ 24) : (dats m 0 c).leavesExact 16 t
    = iprop(∃ d, owns (c : Thread nD τ) (st0_16 t) fullShare ((dats m 0 c).before 16 t d)) := by
  unfold Dat.leavesExact; rw [idle_16 t h, flush_16 t h]
theorem leaves_live (c : Dev nD) (t : Fin cfg0.N) (h : t.val = 24) : (dats m 0 c).leavesExact 16 t
    = owns (c : Thread nD τ) (st0_16 t) fullShare (outV m c t) := by
  unfold Dat.leavesExact; rw [live_16 t h]; rw [after0_16]

set_option maxHeartbeats 2000000 in
/-- The body at the first four points. -/
theorem bodyA (c : Dev nD) (t : Fin cfg0.N) (ht : t.val < 4) :
    bodyPre m c t ⊢ wp frame (wpE (defs₀ (F := F)) Variants.none c none) Set.univ (bodyAt0 t) (fun _ => bodyPost m c t) := by
  have hN : t.val < 25 := N_eq ▸ t.isLt
  have h1 : k0_cond1 (grid0.coords t) = 1#1 := (cond1_iff t).mpr (by omega)
  have h2 : ¬ k0_cond2 (grid0.coords t) = 1#1 := fun hc => absurd ((cond2_iff t).mp hc) (by omega)
  have h3 : ¬ k0_cond3 (grid0.coords t) = 1#1 := fun hc => absurd ((cond3_iff t).mp hc) (by omega)
  have h4 : ¬ k0_cond4 (grid0.coords t) = 1#1 := fun hc => absurd ((cond4_iff t).mp hc) (by omega)
  unfold bodyPre bodyPost bodyAt0
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  rw [show (dats m 0 c).Φ t.succ = Phi m c (t.val + 1) from rfl, show (dats m 0 c).Φ t.castSucc = Phi m c t.val from rfl,
    show (dats m 0 c).owesAt () t.succ = (dats m 0 c).owesAt () t.castSucc from rfl, leaves_idle m c t (by omega)]
  unfold Phi
  iintro ⟨⟨%d18, %d19, %d20, %d21, %d22, %hI, S18, S19, S20, S21, S22, Hp⟩, Ho, ⟨%d0', H0⟩, ⟨%d1', H1⟩, ⟨%d2', H2⟩, ⟨%d3', H3⟩, ⟨%d4', H4⟩, ⟨%d5', H5⟩, ⟨%d6', H6⟩, ⟨%d7', H7⟩, ⟨%d8', H8⟩, ⟨%d9', H9⟩, ⟨%d10', H10⟩, ⟨%d11', H11⟩, ⟨%d12', H12⟩, ⟨%d13', H13⟩, ⟨%d14', H14⟩, ⟨%d15', H15⟩, ⟨%d16', H16⟩⟩
  iapply (runA c Set.univ (grid0.coords t) h1 h2 h3 h4 _ _ _ _ _ _ _ _ _ _ _ _ _ _ _ _ _ _ _ _ _ _ _ _ _ _ _ _ _ _ _ _ _ _ _ _ _ _ _ _ _ _ _ _ (iblk m c 0 t) (iblk m c 2 t) (iblk m c 3 t) (iblk m c 4 t) (iblk m c 5 t) (iblk m c 6 t) (iblk m c 7 t) d18 (1000 * t.val) (off1_eq t ht) _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [S18]; · iexact S18
  iintro ⟨H0, H2, H3, H4, H5, H6, H7, S18⟩
  isplitl [S18 S19 S20 S21 S22 Hp]
  · iexists _; iexists _; iexists _; iexists _; iexists _; isplitr; swap
    · isplitl [S18]; · iexact S18
      isplitl [S19]; · iexact S19
      isplitl [S20]; · iexact S20
      isplitl [S21]; · iexact S21
      isplitl [S22]; · iexact S22
      iexact Hp
    ipureintro
    exact hI.stepA m ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16'; iexact H16

set_option maxHeartbeats 2000000 in
/-- The body at the fifth point. -/
theorem bodyF (c : Dev nD) (t : Fin cfg0.N) (ht : t.val = 4) :
    bodyPre m c t ⊢ wp frame (wpE (defs₀ (F := F)) Variants.none c none) Set.univ (bodyAt0 t) (fun _ => bodyPost m c t) := by
  have hN : t.val < 25 := N_eq ▸ t.isLt
  have h1 : ¬ k0_cond1 (grid0.coords t) = 1#1 := fun hc => absurd ((cond1_iff t).mp hc) (by omega)
  have h2 : k0_cond2 (grid0.coords t) = 1#1 := (cond2_iff t).mpr (by omega)
  have h3 : ¬ k0_cond3 (grid0.coords t) = 1#1 := fun hc => absurd ((cond3_iff t).mp hc) (by omega)
  have h4 : ¬ k0_cond4 (grid0.coords t) = 1#1 := fun hc => absurd ((cond4_iff t).mp hc) (by omega)
  unfold bodyPre bodyPost bodyAt0
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  rw [show (dats m 0 c).Φ t.succ = Phi m c (t.val + 1) from rfl, show (dats m 0 c).Φ t.castSucc = Phi m c t.val from rfl,
    show (dats m 0 c).owesAt () t.succ = (dats m 0 c).owesAt () t.castSucc from rfl, leaves_idle m c t (by omega)]
  unfold Phi
  iintro ⟨⟨%d18, %d19, %d20, %d21, %d22, %hI, S18, S19, S20, S21, S22, Hp⟩, Ho, ⟨%d0', H0⟩, ⟨%d1', H1⟩, ⟨%d2', H2⟩, ⟨%d3', H3⟩, ⟨%d4', H4⟩, ⟨%d5', H5⟩, ⟨%d6', H6⟩, ⟨%d7', H7⟩, ⟨%d8', H8⟩, ⟨%d9', H9⟩, ⟨%d10', H10⟩, ⟨%d11', H11⟩, ⟨%d12', H12⟩, ⟨%d13', H13⟩, ⟨%d14', H14⟩, ⟨%d15', H15⟩, ⟨%d16', H16⟩⟩
  iapply (runF c Set.univ (grid0.coords t) h1 h2 h3 h4 _ _ _ _ _ _ _ _ _ _ _ _ _ _ _ _ _ _ _ _ _ _ _ _ _ _ _ _ _ _ _ _ _ _ _ _ _ _ _ _ _ _ _ _ (iblk m c 1 t) d19 d20 d21 d22  _)
  isplitl [H1]; · iexact H1
  isplitl [S19]; · iexact S19
  isplitl [S20]; · iexact S20
  isplitl [S21]; · iexact S21
  isplitl [S22]; · iexact S22
  iintro ⟨H1, S19, S20, S21, S22⟩
  isplitl [S18 S19 S20 S21 S22 Hp]
  · iexists _; iexists _; iexists _; iexists _; iexists _; isplitr; swap
    · isplitl [S18]; · iexact S18
      isplitl [S19]; · iexact S19
      isplitl [S20]; · iexact S20
      isplitl [S21]; · iexact S21
      isplitl [S22]; · iexact S22
      iexact Hp
    ipureintro
    exact hI.stepF m ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16'; iexact H16

set_option maxHeartbeats 2000000 in
/-- The body at the second level's points but the last. -/
theorem bodyC (c : Dev nD) (t : Fin cfg0.N) (ht : 4 < t.val) (ht' : t.val < 24) :
    bodyPre m c t ⊢ wp frame (wpE (defs₀ (F := F)) Variants.none c none) Set.univ (bodyAt0 t) (fun _ => bodyPost m c t) := by
  have hN : t.val < 25 := N_eq ▸ t.isLt
  have h1 : ¬ k0_cond1 (grid0.coords t) = 1#1 := fun hc => absurd ((cond1_iff t).mp hc) (by omega)
  have h2 : ¬ k0_cond2 (grid0.coords t) = 1#1 := fun hc => absurd ((cond2_iff t).mp hc) (by omega)
  have h3 : k0_cond3 (grid0.coords t) = 1#1 := (cond3_iff t).mpr (by omega)
  have h4 : ¬ k0_cond4 (grid0.coords t) = 1#1 := fun hc => absurd ((cond4_iff t).mp hc) (by omega)
  unfold bodyPre bodyPost bodyAt0
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  rw [show (dats m 0 c).Φ t.succ = Phi m c (t.val + 1) from rfl, show (dats m 0 c).Φ t.castSucc = Phi m c t.val from rfl,
    show (dats m 0 c).owesAt () t.succ = (dats m 0 c).owesAt () t.castSucc from rfl, leaves_idle m c t (by omega)]
  unfold Phi
  iintro ⟨⟨%d18, %d19, %d20, %d21, %d22, %hI, S18, S19, S20, S21, S22, Hp⟩, Ho, ⟨%d0', H0⟩, ⟨%d1', H1⟩, ⟨%d2', H2⟩, ⟨%d3', H3⟩, ⟨%d4', H4⟩, ⟨%d5', H5⟩, ⟨%d6', H6⟩, ⟨%d7', H7⟩, ⟨%d8', H8⟩, ⟨%d9', H9⟩, ⟨%d10', H10⟩, ⟨%d11', H11⟩, ⟨%d12', H12⟩, ⟨%d13', H13⟩, ⟨%d14', H14⟩, ⟨%d15', H15⟩, ⟨%d16', H16⟩⟩
  iapply (runC c Set.univ (grid0.coords t) h1 h2 h3 h4 _ _ _ _ _ _ _ _ _ _ _ _ _ _ _ _ _ _ _ _ _ _ _ _ _ _ _ _ _ _ _ _ _ _ _ _ _ _ _ _ _ _ _ _ (iblk m c 8 t) (iblk m c 9 t) (iblk m c 10 t) (iblk m c 11 t) d18 d19 d20 d21 d22 (200 * (t.val - 5)) (by omega) (off2_eq t ht) _)
  isplitl [H8]; · iexact H8
  isplitl [H9]; · iexact H9
  isplitl [H10]; · iexact H10
  isplitl [H11]; · iexact H11
  isplitl [S18]; · iexact S18
  isplitl [S19]; · iexact S19
  isplitl [S20]; · iexact S20
  isplitl [S21]; · iexact S21
  isplitl [S22]; · iexact S22
  iintro ⟨H8, H9, H10, H11, S18, S19, S20, S21, S22⟩
  isplitl [S18 S19 S20 S21 S22 Hp]
  · iexists _; iexists _; iexists _; iexists _; iexists _; isplitr; swap
    · isplitl [S18]; · iexact S18
      isplitl [S19]; · iexact S19
      isplitl [S20]; · iexact S20
      isplitl [S21]; · iexact S21
      isplitl [S22]; · iexact S22
      iexact Hp
    ipureintro
    exact hI.stepC m ht (by omega)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16'; iexact H16

set_option maxHeartbeats 2000000 in
/-- The body at the last point. -/
theorem bodyH (c : Dev nD) (t : Fin cfg0.N) (ht : t.val = 24) :
    bodyPre m c t ⊢ wp frame (wpE (defs₀ (F := F)) Variants.none c none) Set.univ (bodyAt0 t) (fun _ => bodyPost m c t) := by
  have hN : t.val < 25 := N_eq ▸ t.isLt
  have h1 : ¬ k0_cond1 (grid0.coords t) = 1#1 := fun hc => absurd ((cond1_iff t).mp hc) (by omega)
  have h2 : ¬ k0_cond2 (grid0.coords t) = 1#1 := fun hc => absurd ((cond2_iff t).mp hc) (by omega)
  have h3 : k0_cond3 (grid0.coords t) = 1#1 := (cond3_iff t).mpr (by omega)
  have h4 : k0_cond4 (grid0.coords t) = 1#1 := (cond4_iff t).mpr (by omega)
  unfold bodyPre bodyPost bodyAt0
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  rw [show (dats m 0 c).Φ t.succ = Phi m c (t.val + 1) from rfl, show (dats m 0 c).Φ t.castSucc = Phi m c t.val from rfl,
    show (dats m 0 c).owesAt () t.succ = (dats m 0 c).owesAt () t.castSucc from rfl, leaves_live m c t ht]
  unfold Phi
  iintro ⟨⟨%d18, %d19, %d20, %d21, %d22, %hI, S18, S19, S20, S21, S22, Hp⟩, Ho, ⟨%d0', H0⟩, ⟨%d1', H1⟩, ⟨%d2', H2⟩, ⟨%d3', H3⟩, ⟨%d4', H4⟩, ⟨%d5', H5⟩, ⟨%d6', H6⟩, ⟨%d7', H7⟩, ⟨%d8', H8⟩, ⟨%d9', H9⟩, ⟨%d10', H10⟩, ⟨%d11', H11⟩, ⟨%d12', H12⟩, ⟨%d13', H13⟩, ⟨%d14', H14⟩, ⟨%d15', H15⟩, ⟨%d16', H16⟩⟩
  have hS := hI.stepC m (show 4 < t.val by omega) (by omega)
  iapply (runH c Set.univ (grid0.coords t) h1 h2 h3 h4 _ _ _ _ _ _ _ _ _ _ _ _ _ _ _ _ _ _ _ _ _ _ _ _ _ _ _ _ _ _ _ _ _ _ _ _ _ _ _ _ _ _ _ _ (iblk m c 8 t) (iblk m c 9 t) (iblk m c 10 t) (iblk m c 11 t) (iblk m c 12 t) (iblk m c 13 t) (iblk m c 14 t) (iblk m c 15 t) d18 d19 d20 d21 d22 _ (200 * (t.val - 5)) (by omega) (off2_eq t (by omega)) _)
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S18]; · iexact S18
  isplitl [S19]; · iexact S19
  isplitl [S20]; · iexact S20
  isplitl [S21]; · iexact S21
  isplitl [S22]; · iexact S22
  isplitl [H16]; · iexact H16
  iintro ⟨H8, H9, H10, H11, H12, H13, H14, H15, S18, S19, S20, S21, S22, H16⟩
  isplitl [S18 S19 S20 S21 S22 Hp]
  · iexists _; iexists _; iexists _; iexists _; iexists _; isplitr; swap
    · isplitl [S18]; · iexact S18
      isplitl [S19]; · iexact S19
      isplitl [S20]; · iexact S20
      isplitl [S21]; · iexact S21
      isplitl [S22]; · iexact S22
      iexact Hp
    ipureintro
    exact hS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  rw [outV, ← hS.last m ht]; iexact H16

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 25 := N_eq ▸ t.isLt
  rcases Nat.lt_or_ge t.val 4 with h | h
  · exact bodyA m c t h
  rcases Nat.lt_or_ge 4 t.val with h' | h'
  · rcases Nat.lt_or_ge t.val 24 with h'' | h''
    · exact bodyC m c t h' h''
    · exact bodyH m c t (by omega)
  · exact bodyF m c t (by omega)

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

/-- The carried buffers as the class has them: each at some contents. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ (∃ r, prngReg c r)) := by
  unfold Pipeline.ΦA; rw [scopedRest0_eq]; simp only [owns_whole]; try rfl

theorem phi_in (c : Dev nD) : Pipeline.ΦA spec0 c ⊢ (dats m 0 c).Φ 0 := by
  rw [PhiA_eq, show (dats m 0 c).Φ 0 = Phi m c 0 from rfl]
  unfold Phi
  iintro ⟨⟨⟨%d18, S18⟩, ⟨%d19, S19⟩, ⟨%d20, S20⟩, ⟨%d21, S21⟩, ⟨%d22, S22⟩⟩, Hp⟩
  iexists d18; iexists d19; iexists d20; iexists d21; iexists d22; isplitr
  · ipureintro
    exact ⟨fun y hy => absurd hy (by simp), fun h => absurd h (by omega)⟩
  isplitl [S18]; · iexact S18
  isplitl [S19]; · iexact S19
  isplitl [S20]; · iexact S20
  isplitl [S21]; · iexact S21
  isplitl [S22]; · iexact S22
  iexact Hp

theorem phi_out (c : Dev nD) : (dats m 0 c).Φ (Fin.last cfg0.N) ⊢ Pipeline.ΦA spec0 c := by
  rw [PhiA_eq, show (dats m 0 c).Φ (Fin.last cfg0.N) = Phi m c cfg0.N from rfl]
  unfold Phi
  iintro ⟨%d18, %d19, %d20, %d21, %d22, -, S18, S19, S20, S21, S22, Hp⟩
  isplitr [Hp]
  · isplitl [S18]; · iexists d18; iexact S18
    isplitl [S19]; · iexists d19; iexact S19
    isplitl [S20]; · iexists d20; iexact S20
    isplitl [S21]; · iexists d21; iexact S21
    iexists d22; iexact S22
  iexact Hp

set_option backward.isDefEq.respectTransparency.types false in
/-- The run of the launch: every weakly fair execution ends with the arrays at what the proof data say and no signal left. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- No signal is left at the end. -/
theorem run_sem : θ_run defs (onTc (τ := τ) (main (F := F))) (s₀ m ρ) (fun r => r.2.sem = fun _ => 0) :=
  (θ_run defs _ _).mono (fun _ h => h.2) (run_main_quiescent m ρ)

end Cert.Proof.Track

end
-- ==== Proof.Ref.lean ====
module

public import proofs.«01_k».proof.Proof.Gen.ReferenceIdeal
public import proofs.«01_k».proof.Proof.Gen.ReferenceIdeal.Run
public import Idealize.ShloMosaic.Adequacy
public import Idealize.ShloMosaic.Init

/-! The reference's run: its arguments are unchanged, and its result is read at the end of its operations. -/

@[expose] public section

set_option maxRecDepth 8192

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The buffers written after the loop. -/
abbrev postW : List (Ref sig .tc) := [
  main_v8, main_c_2, main_v9, main_v10, main_v11, main_v12, main_v13, main_v14, main_c_3, main_v15, main_v16, main_c_4,
  main_v17, main_v18, main_v19, main_v20, main_v21, main_v22, main_v23, main_v24, main_v25, main_v26, main_v27,
  main_cst_5, main_v28, main_v29, main_v30, main_c_6, main_v31, main_v32, main_v33, main_v34, main_v35, main_cst_7,
  main_v36, main_v37, main_v38, main_v39, main_v40, main_values, main_indices, main_v41, main_c_8, main_v42, main_v43,
  main_v44, main_v45, main_v46, main_v47, main_c_9, main_v48, main_v49, main_c_10, main_v50, main_v51, main_v52,
  main_v53, main_v54, main_v55, main_v56, main_v57, main_v58, main_cst_11, main_v59, main_v60, main_cst_12, main_v61,
  main_v62, main_cst_13, main_v63, main_v64, main_v65, main_v66, main_v67, main_v68, main_v69, main_v70, main_v71,
  main_cst_14, main_v72, main_v73, main_cst_15, main_v74, main_v75, main_v76, main_v77, main_cst_16, main_v78,
  main_cst_17, main_v79, main_v80, main_v81, main_v82, main_v83, main_cst_18, main_v84, main_v85, main_cst_19,
  main_v86, main_v87, main_c_20, main_v88, main_v89, main_c_21, main_v90, main_v91, main_v92, main_v93, main_v94,
  main_v95, main_v96, main_v97, main_v98, main_v99, main_cst_22, main_v100, main_v101, main_v102, main_v103, main_v104,
  main_v105, main_cst_23, main_v106, main_v107, main_cst_24, main_v108, main_v109, main_v110, main_cst_25, main_v111,
  main_v112, main_cst_26, main_v113, main_v114, main_v115, main_v116, main_v117, main_v118, main_v119, main_v120,
  main_v121, main_cst_27, main_v122, main_v123, main_v124, main_c_28, main_v125, main_v126, main_v127, main_v128,
  main_v129, main_cst_29, main_v130, main_v131, main_v132, main_v133, main_v134, main_values_30, main_indices_31,
  main_v135, main_c_32, main_v136, main_v137, main_v138, main_v139, main_v140, main_v141, main_c_33, main_v142,
  main_v143, main_c_34, main_v144, main_v145, main_v146, main_v147, main_v148, main_v149, main_cst_35, main_v150,
  main_cst_36, main_v151, main_v152, main_cst_37, main_v153, main_v154, main_v155, main_v156, main_v157, main_v158,
  main_cst_38, main_v159, main_v160, main_v161, main_v162, main_v163, main_v164, main_cst_39, main_v165, main_v166,
  main_v167, main_v168, main_cst_40, main_v169, main_v170, main_cst_41, main_v171, main_v172, main_v173, main_cst_42,
  main_v174, main_cst_43, main_v175, main_v176, main_v177, main_v178, main_v179, main_v180, main_cst_44, main_v181,
  main_v182, main_cst_45, main_v183, main_v184, main_v185, main_v186, main_v187, main_v188, main_v189, main_v190,
  main_cst_46, main_v191, main_v192, main_v193, main_v194, main_v195, main_cst_47, main_v196, main_v197, main_v198,
  main_v199, main_v200]

set_option maxHeartbeats 4000000 in
theorem post_writes : (hostOps0_1 : List (HloOp τ sig (Elt F))).Forall fun op => op.writes ⊆ (postW.map (Proc.devRef (τ := τ) .tc)).toFinset :=
  StableHlo.forall_writes_sub_of_map rfl

/-- A buffer that no operation of the program writes. -/
def Untouched (r : Ref sig .tc) : Prop := r ∉ hostOps0_W ∧ r ∉ condOps_W ∧ r ∉ while0Ops0_W ∧ r ∉ postW

instance (r : Ref sig .tc) : Decidable (Untouched r) := by unfold Untouched; infer_instance

/-- A buffer written only before the loop holds its entry contents at every trip. -/
theorem trip_keeps (c : Dev nD) (r : Ref sig .tc) (h : r ∉ condOps_W ∧ r ∉ while0Ops0_W) (V : Dev nD → Valuation τ sig (Elt F)) :
    ∀ k, atTrip condOps bodyI V k c (Proc.devRef .tc r) = V c (Proc.devRef .tc r)
  | 0 => rfl
  | k + 1 => by
    rw [atTrip_succ]
    show after while0Ops0 (after condOps (atTrip condOps bodyI V k c)) (Proc.devRef .tc r) = _
    rw [after_of_writes_sub while0Ops0 _ while0Ops0_writes h.2, after_of_writes_sub condOps _ condOps_writes h.1, trip_keeps c r h V k]

/-- An untouched buffer ends with what it started with. -/
theorem final_keeps (c : Dev nD) (r : Ref sig .tc) (h : Untouched r) :
    finalContents condOps preI bodyI postI 199 m c (Proc.devRef .tc r) = m ((c.tc : Thread nD τ).loc r) := by
  show after hostOps0_1 (after condOps (atTrip condOps bodyI (entryContents preI m) 199 c)) (Proc.devRef .tc r) = _
  rw [after_of_writes_sub hostOps0_1 _ post_writes h.2.2.2, after_of_writes_sub condOps _ condOps_writes h.2.1,
    trip_keeps c r ⟨h.2.1, h.2.2.1⟩]
  show after hostOps0 (launchContents m c) (Proc.devRef .tc r) = _
  rw [after_of_writes_sub hostOps0 _ hostOps0_writes h.1]

/-- The reference ends with its result at the fold of its operations and its arguments unchanged. -/
theorem run_result : θ_run (defs (F := F)) (onTc (τ := τ) (main (F := F))) ⟨m, fun _ => 0, ρ⟩
    (fun r => ∀ c : Dev nD, r.2.mem ((c.tc : Thread nD τ).loc main_v200) = finalContents condOps preI bodyI postI 199 m c (Proc.devRef .tc main_v200)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ rfl,
    (h c main_arg0 rfl).trans (final_keeps m c main_arg0 (by decide +kernel)),
    (h c main_arg1 rfl).trans (final_keeps m c main_arg1 (by decide +kernel)),
    (h c main_arg2 rfl).trans (final_keeps m c main_arg2 (by decide +kernel)),
    (h c main_arg3 rfl).trans (final_keeps m c main_arg3 (by decide +kernel)),
    (h c main_arg4 rfl).trans (final_keeps m c main_arg4 (by decide +kernel)),
    (h c main_arg5 rfl).trans (final_keeps m c main_arg5 (by decide +kernel)),
    (h c main_arg6 rfl).trans (final_keeps m c main_arg6 (by decide +kernel)),
    (h c main_arg7 rfl).trans (final_keeps m c main_arg7 (by decide +kernel)),
    (h c main_arg8 rfl).trans (final_keeps m c main_arg8 (by decide +kernel)),
    (h c main_arg9 rfl).trans (final_keeps m c main_arg9 (by decide +kernel)),
    (h c main_arg10 rfl).trans (final_keeps m c main_arg10 (by decide +kernel)),
    (h c main_arg11 rfl).trans (final_keeps m c main_arg11 (by decide +kernel)),
    (h c main_arg12 rfl).trans (final_keeps m c main_arg12 (by decide +kernel)),
    (h c main_arg13 rfl).trans (final_keeps m c main_arg13 (by decide +kernel)),
    (h c main_arg14 rfl).trans (final_keeps m c main_arg14 (by decide +kernel)),
    (h c main_arg15 rfl).trans (final_keeps m c main_arg15 (by decide +kernel))⟩) (run_fold m ρ)

/-- The reference runs, leaves its arguments unchanged and no signal behind. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun r h => ⟨fun c => (h c).2, sem_eq_zero_of_no_sems (by decide) r.2⟩) (run_result m ρ)

end Cert.Proof.Ref

end
-- ==== Proof.Frames.lean ====
module

public import proofs.«01_k».proof.Defs
public import proofs.«01_k».proof.Proof.Track
public import proofs.«01_k».proof.Proof.KTrack
public import proofs.«01_k».proof.Proof.Ref
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

/-! The three programs' frames, and the one named constant. -/

@[expose] public section

noncomputable section

namespace Cert.Proof.Frames

open Idealize.ShloMosaic Idealize.SL.Sem

/-- The kernel runs, leaves its arguments unchanged and no signal behind. -/
theorem kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)) ∧ r.2.sem = fun _ => 0) :=
  θ_run_and (Cert.Kernel.Gen.frame_of m g (KTrack.dats m) (KTrack.A_eq m) (KTrack.run_main m g)) (KTrack.run_sem m g)

/-- The idealized kernel runs, leaves its arguments unchanged and no signal behind. -/
theorem kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) ∧ r.2.sem = fun _ => 0) :=
  θ_run_and (Cert.KernelIdeal.Gen.frame_of m g (Track.dats m) (Track.A_eq m) (Track.run_main m g)) (Track.run_sem m g)

/-- The named constant has the value that the table gives it. -/
theorem preserves : Cert.preserves_Kernel_KernelIdeal := IdealRules.named_const.statement _ _ _ _ _ rfl

end Cert.Proof.Frames

end
-- ==== Proof.Sel.lean ====
module

public import Idealize.ShloMosaic.Lib.SortPrefix
public import Idealize.ShloMosaic.Lib.Pipeline.ValueKit

/-! Choosing the smallest again and again, and the first positions of a stable sort. -/

@[expose] public section

noncomputable section

namespace Cert.Proof.Sel

open Idealize.ShloMosaic

variable {n : ℕ}

/-- A first position of a smallest value exists. -/
theorem exists_first (h : 0 < n) (f : Fin n → EReal) :
    ∃ j : Fin n, (∀ k, f j ≤ f k) ∧ ∀ k, f k = f j → j ≤ k := by
  haveI : Nonempty (Fin n) := ⟨⟨0, h⟩⟩
  obtain ⟨a, ha⟩ := Finite.exists_min f
  have hs : (Finset.univ.filter fun j : Fin n => f j = f a).Nonempty := ⟨a, by simp⟩
  refine ⟨(Finset.univ.filter fun j : Fin n => f j = f a).min' hs, fun k => ?_, fun k hk => ?_⟩
  · have := Finset.min'_mem _ hs
    rw [(Finset.mem_filter.mp this).2]
    exact ha k
  · have := Finset.min'_mem _ hs
    refine Finset.min'_le _ _ (by simp only [Finset.mem_filter, Finset.mem_univ, true_and]; rw [hk, (Finset.mem_filter.mp this).2])

/-- The first position of the smallest value. -/
def first [NeZero n] (f : Fin n → EReal) : Fin n := Classical.choose (exists_first (Nat.pos_of_ne_zero (NeZero.ne n)) f)

theorem first_le [NeZero n] (f : Fin n → EReal) (k : Fin n) : f (first f) ≤ f k :=
  (Classical.choose_spec (exists_first (Nat.pos_of_ne_zero (NeZero.ne n)) f)).1 k

theorem first_min [NeZero n] (f : Fin n → EReal) (k : Fin n) (h : f k = f (first f)) : first f ≤ k :=
  (Classical.choose_spec (exists_first (Nat.pos_of_ne_zero (NeZero.ne n)) f)).2 k h

theorem first_unique [NeZero n] (f : Fin n → EReal) (j : Fin n) (h1 : ∀ k, f j ≤ f k) (h2 : ∀ k, f k = f j → j ≤ k) :
    first f = j :=
  le_antisymm (first_min f j (le_antisymm (h1 _) (first_le f j))) (h2 _ (le_antisymm (first_le f j) (h1 _)))

/-- The values after `k` choices, a chosen one raised to infinity. -/
def cur [NeZero n] (c : Fin n → EReal) : ℕ → Fin n → EReal
  | 0 => c
  | k + 1 => fun j => if j = first (cur c k) then ⊤ else cur c k j

/-- The `k`-th choice. -/
def sel [NeZero n] (c : Fin n → EReal) (k : ℕ) : Fin n := first (cur c k)

theorem cur_eq [NeZero n] (c : Fin n → EReal) (k : ℕ) (j : Fin n) :
    cur c k j = if ∃ i, i < k ∧ sel c i = j then ⊤ else c j := by
  induction k with
  | zero => simp [cur]
  | succ k ih =>
    show (if j = first (cur c k) then ⊤ else cur c k j) = _
    by_cases h : j = first (cur c k)
    · rw [if_pos h, if_pos ⟨k, Nat.lt_succ_self k, h.symm⟩]
    · rw [if_neg h, ih]
      refine if_congr ⟨fun ⟨i, hi, e⟩ => ⟨i, hi.trans (Nat.lt_succ_self k), e⟩, fun ⟨i, hi, e⟩ => ?_⟩ rfl rfl
      rcases Nat.lt_succ_iff_lt_or_eq.mp hi with h' | h'
      · exact ⟨i, h', e⟩
      · subst h'; exact absurd e.symm h

theorem sel_fresh [NeZero n] (c : Fin n → EReal) (hc : ∀ j, c j < ⊤) (k : ℕ) (hk : k < n) (i : ℕ) (hi : i < k) :
    sel c i ≠ sel c k := by
  intro e
  have htop : cur c k (first (cur c k)) = ⊤ := by rw [cur_eq, if_pos ⟨i, hi, e⟩]
  have hall : ∀ j : Fin n, ∃ i, i < k ∧ sel c i = j := by
    intro j
    by_contra hno
    have := first_le (cur c k) j
    rw [htop, cur_eq c k j, if_neg hno] at this
    exact absurd (lt_of_le_of_lt this (hc j)) (lt_irrefl _)
  have : n ≤ k := by
    have hs : Function.Surjective fun i : Fin k => sel c i.val := fun j => by
      obtain ⟨i, hi, e⟩ := hall j
      exact ⟨⟨i, hi⟩, e⟩
    simpa using Fintype.card_le_of_surjective _ hs
  omega

/-- Sorting by the value alone, equal values in their order, is sorting by the value and then the position. -/
theorem sortedFrom_key (lt : EReal → EReal → Bool) (c : Fin n → EReal) :
    sortedFrom (fun k k' : Fin n => lt (c k) (c k')) =
      sortedFrom fun k k' => lt (c k) (c k') || (decide (c k = c k') && decide (k < k')) := by
  have key : ∀ l : List (Fin n), l.Pairwise (· < ·) → stableSort (fun k k' : Fin n => lt (c k) (c k')) l =
      stableSort (fun k k' => lt (c k) (c k') || (decide (c k = c k') && decide (k < k'))) l := by
    intro l hl
    induction l with
    | nil => rfl
    | cons a l ih =>
      rw [List.pairwise_cons] at hl
      unfold stableSort
      rw [ih hl.2]
      refine insertBefore_congr _ _ a _ fun b hb => ?_
      have hb' : b ∈ l := (perm_stableSort _ l).mem_iff.mp hb
      have : ¬ b < a := not_lt.mpr (hl.1 b hb').le
      simp [this]
  have hp : (List.finRange n).Pairwise (· < ·) := List.pairwise_lt_finRange n
  have := key _ hp
  funext k
  unfold sortedFrom
  rw [List.get_of_eq (show sortPositions n _ = sortPositions n _ from this)]
  rfl

/-- The first positions of the sort are the choices. -/
theorem sortedFrom_eq_sel [NeZero n] (c : Fin n → EReal) {K : ℕ} (hc : 1 < K → ∀ j, c j < ⊤) (B : Fin n → Fin n → Bool)
    (hB : ∀ k k', B k k' = decide (c k < c k')) (hK : K ≤ n) (i : Fin K) :
    sortedFrom B (i.castLE hK) = sel c i.val := by
  have e : B = fun k k' => (fun a b : EReal => decide (a < b)) (c k) (c k') := by
    funext k k'; exact hB k k'
  rw [e, sortedFrom_key (fun a b : EReal => decide (a < b)) c]
  have hS : StrictTotalBefore fun k k' : Fin n => (fun a b : EReal => decide (a < b)) (c k) (c k') || (decide (c k = c k') && decide (k < k')) :=
    StrictTotalBefore.of_key_then_position (fun a b : EReal => decide (a < b)) c (fun a => by simp)
      (fun a b d h1 h2 => decide_eq_true ((of_decide_eq_true h1).trans (of_decide_eq_true h2)))
      (fun a b => (lt_trichotomy a b).imp (fun h => decide_eq_true h) (Or.imp id fun h => decide_eq_true h))
  have hlast : ∀ (i : ℕ) (p : Fin n), (∀ j, j < i → sel c j ≠ p) → i < K →
      ((fun a b : EReal => decide (a < b)) (c p) (c (sel c i)) || (decide (c p = c (sel c i)) && decide (p < sel c i))) = false := by
    intro i p hp hi
    have hcp : cur c i p = c p := by
      rw [cur_eq, if_neg (by rintro ⟨j, hj, e⟩; exact hp j hj e)]
    have hcs : cur c i (sel c i) = c (sel c i) := by
      rw [cur_eq, if_neg (by rintro ⟨j, hj, e⟩; exact sel_fresh c (hc (by omega)) i (by omega) j hj e)]
    have hle : c (sel c i) ≤ c p := by rw [← hcp, ← hcs]; exact first_le _ p
    simp only [Bool.or_eq_false_iff, decide_eq_false_iff_not, Bool.and_eq_false_imp, decide_eq_true_eq, not_lt]
    refine ⟨hle, fun h => first_min _ p ?_⟩
    rw [hcp, h]; exact hcs.symm
  refine hS.sortedFrom_eq_of_prefix hK (fun i : Fin K => sel c i.val) ?_ ?_ ?_ i
  · intro a b hab
    rcases lt_trichotomy a.val b.val with h | h | h
    · exact absurd hab (sel_fresh c (hc (by omega)) b.val (by omega) a.val h)
    · exact Fin.ext h
    · exact absurd hab.symm (sel_fresh c (hc (by omega)) a.val (by omega) b.val h)
  · intro a b hab
    exact hlast a.val _ (fun j hj e => sel_fresh c (hc (by omega)) b.val (by omega) j (hj.trans hab) e) (by omega)
  · intro a p hp
    exact hlast a.val p (fun j hj => hp ⟨j, by omega⟩) (by omega)

end Cert.Proof.Sel

end
-- ==== Proof.Words.lean ====
module

public import proofs.«01_k».proof.Proof.Sel
public import Idealize.ShloMosaic.Lib.Pointwise

/-! Small facts on words, constants and one-hot sums. -/

@[expose] public section

noncomputable section

namespace Cert.Proof.Words

open Idealize.ShloMosaic Cert.Proof.Sel

theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]
theorem ofBits_half : Ideal.ofBits .f32 0x3F000000#32 = (((1 : ℝ) / 2 : ℝ) : EReal) := by
  simp [Ideal.ofBits, Ideal.ieee]
  exact_mod_cast (by norm_num : ((8388608 : ℝ) * (2 ^ 24)⁻¹ = 2⁻¹))
theorem ofBits_two : Ideal.ofBits .f32 0x40000000#32 = ((2 : ℝ) : EReal) := by
  simp [Ideal.ofBits, Ideal.ieee]
  exact_mod_cast (by norm_num : ((8388608 : ℝ) * (2 ^ 22)⁻¹ = 2))
theorem ofBits_four : Ideal.ofBits .f32 0x40800000#32 = ((4 : ℝ) : EReal) := by
  simp [Ideal.ofBits, Ideal.ieee]
  exact_mod_cast (by norm_num : ((8388608 : ℝ) * (2 ^ 21)⁻¹ = 4))
theorem ofBits_fifteen : Ideal.ofBits .f32 0x41700000#32 = ((15 : ℝ) : EReal) := by
  simp [Ideal.ofBits, Ideal.ieee]
  exact_mod_cast (by norm_num : ((15728640 : ℝ) * (2 ^ 20)⁻¹ = 15))
theorem ofBits_big : Ideal.ofBits .f32 0x4E6E6B28#32 = ((1000000000 : ℝ) : EReal) := by
  simp [Ideal.ofBits, Ideal.ieee]
  exact_mod_cast (by norm_num : ((15625000 : ℝ) * 2 ^ 6 = 1000000000))

/-- Words of small numbers are equal exactly when the numbers are. -/
theorem select_eq {α : Type} (a b : ℕ) (ha : a < 4294967296) (hb : b < 4294967296) (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro h
      have := congrArg BitVec.toNat h
      simpa [BitVec.toNat_ofNat, Nat.mod_eq_of_lt ha, Nat.mod_eq_of_lt hb] using this
    · intro h; rw [h]
  by_cases e : a = b
  · subst e; simp [Scalar.select, IntOp.cmpi]
  · have : BitVec.ofNat 32 a ≠ BitVec.ofNat 32 b := fun h' => e (h.mp h')
    have hb' : (BitVec.ofNat 32 a == BitVec.ofNat 32 b) = false := beq_eq_false_iff_ne.mpr this
    simp [Scalar.select, IntOp.cmpi, e, hb']

/-- A one-hot sum is the value chosen. -/
theorem sum_pick {n : ℕ} (g : Fin n → EReal) (j : Fin n) (hn : n < 4294967296) :
    (∑ x, Scalar.select (IntOp.cmpi .eq (BitVec.ofNat 32 x.val) (BitVec.ofNat 32 j.val)) (g x) 0) = g j := by
  rw [Finset.sum_congr rfl fun x _ => (select_eq x.val j.val (by omega) (by omega) (g x) 0)]
  rw [Finset.sum_eq_single j]
  · simp
  · intro b _ hb; rw [if_neg (fun h => hb (Fin.ext h))]
  · intro h; exact absurd (Finset.mem_univ _) h

theorem fold_min_eq {n : ℕ} [NeZero n] (f : Fin n → EReal) :
    Finset.fold min ⊤ f Finset.univ = f (first f) := by
  apply le_antisymm
  · exact Finset.fold_min_le _ |>.mpr (Or.inr ⟨first f, Finset.mem_univ _, le_rfl⟩)
  · exact Finset.le_fold_min _ |>.mpr ⟨le_top, fun x _ => first_le f x⟩

theorem fold_max_eq {n : ℕ} [NeZero n] (f : Fin n → EReal) :
    Finset.fold max ⊥ f Finset.univ = f (first fun j => - f j) := by
  apply le_antisymm
  · refine Finset.fold_max_le _ |>.mpr ⟨bot_le, fun x _ => ?_⟩
    have := first_le (fun j => - f j) x
    exact EReal.neg_le_neg_iff.mp this
  · exact Finset.le_fold_max _ |>.mpr (Or.inr ⟨_, Finset.mem_univ _, le_rfl⟩)

theorem fold_max_succ (n : ℕ) (b : EReal) (f : Fin (n + 1) → EReal) :
    Finset.fold max b f Finset.univ = max (Finset.fold max b (fun k : Fin n => f k.castSucc) Finset.univ) (f (Fin.last n)) := by
  rw [Fin.univ_castSuccEmb, Finset.fold_cons, Finset.fold_map, max_comm]
  rfl

/-- The smallest of the positions holding a value, as words. -/
theorem fold_first {n : ℕ} [NeZero n] (hn : n ≤ 1023) (p : Fin n → Prop) [DecidablePred p] (j : Fin n) (hj : p j)
    (hmin : ∀ k, p k → j ≤ k) :
    Finset.fold IntOp.minsi 2147483647#32 (fun x : Fin n => if p x then BitVec.ofNat 32 x.val else 1023#32) Finset.univ
      = BitVec.ofNat 32 j.val := by
  have hom : (Finset.fold IntOp.minsi 2147483647#32 (fun x : Fin n => if p x then BitVec.ofNat 32 x.val else 1023#32) Finset.univ).toInt
      = Finset.fold min 2147483647 (fun x : Fin n => if p x then (x.val : ℤ) else 1023) Finset.univ := by
    have hm : ∀ x y : BitVec 32, (IntOp.minsi x y).toInt = min x.toInt y.toInt := by
      intro x y
      simp only [IntOp.minsi, BitVec.slt]
      by_cases h : x.toInt < y.toInt
      · simp [h, h.le]
      · simp [h, not_lt.mp h]
    have := Finset.fold_hom (op := IntOp.minsi (w := 32)) (op' := (min : ℤ → ℤ → ℤ)) (m := BitVec.toInt) hm
      (b := 2147483647#32) (f := fun x : Fin n => if p x then BitVec.ofNat 32 x.val else 1023#32) (s := Finset.univ)
    rw [← this, show (2147483647#32 : BitVec 32).toInt = 2147483647 from by decide]
    refine Finset.fold_congr fun x _ => ?_
    by_cases h : p x
    · rw [if_pos h, if_pos h, BitVec.toInt_eq_toNat_of_lt] <;> simp <;> omega
    · rw [if_neg h, if_neg h]; decide
  apply BitVec.eq_of_toInt_eq
  rw [hom, BitVec.toInt_eq_toNat_of_lt (by simp; omega), BitVec.toNat_ofNat, Nat.mod_eq_of_lt (by omega)]
  apply le_antisymm
  · exact Finset.fold_min_le _ |>.mpr (Or.inr ⟨j, Finset.mem_univ _, by rw [if_pos hj]⟩)
  · refine Finset.le_fold_min _ |>.mpr ⟨by omega, fun x _ => ?_⟩
    by_cases h : p x
    · rw [if_pos h]; exact_mod_cast hmin x h
    · rw [if_neg h]; omega

end Cert.Proof.Words

end
-- ==== Proof.Pre.lean ====
module

public import proofs.«01_k».proof.Defs
public import Idealize.ShloMosaic.Lib.ReduceAll
public import Idealize.ShloMosaic.Lib.Pointwise
public import proofs.«01_k».proof.Proof.Words

/-! What the precondition says: the points and the last three rows of the first layer's weights are real numbers. -/

@[expose] public section

set_option maxRecDepth 16384

noncomputable section

namespace Cert.Proof.Pre

open Idealize.ShloMosaic

theorem facts : Cert.Pre_finite.Facts where
  bcast_S_S20000x3 := by decide
  reducesTo_S20000x3_S_d0_1 := by decide
  h_S_ := by decide
  slices_S33x20_S3x20_30_0 := by decide
  bcast_S_S3x20 := by decide
  reducesTo_S3x20_S_d0_1 := by decide

theorem rd {y : EReal} (x : EReal) (h : (FloatOps.cmpf (F := Ideal) (φ := .f32) .olt x y : BitVec 1) = 1#1) : x < y := by
  by_contra hn
  have e : (FloatOps.cmpf (F := Ideal) (φ := .f32) .olt x y : BitVec 1) = BitVec.ofBool (decide (x < y)) := rfl
  rw [e, decide_eq_false hn] at h
  exact absurd h (by decide)

/-- An extended real whose absolute value is below infinity is a real number. -/
theorem real_of_abs (x : EReal) (h : (FloatOps.cmpf (F := Ideal) (φ := .f32) .olt (FloatOps.absf (F := Ideal) (φ := .f32) x) (Ideal.ofBits .f32 0x7F800000#32) : BitVec 1) = 1#1) :
    ∃ r : ℝ, x = (r : EReal) := by
  induction x using EReal.rec with
  | bot => exact absurd (rd _ h) (by rw [Words.ofBits_inf]; show ¬ (max (⊥ : EReal) (-⊥) < ⊤); simp)
  | coe r => exact ⟨r, rfl⟩
  | top => exact absurd (rd _ h) (by rw [Words.ofBits_inf]; show ¬ (max (⊤ : EReal) (-⊤) < ⊤); simp)

theorem decode (h : Cert.Pre_finite.Facts) (x0 : FVec Ideal Cert.Pre_finite.S20000x3 .f32) (x1 x2 x3) (x4 : FVec Ideal Cert.Pre_finite.S33x20 .f32) (x5 x6 x7 x8 x9 x10 x11 x12 x13 x14 x15)
    (e : Cert.Pre_finite.fn (F := Ideal) x0 x1 x2 x3 x4 x5 x6 x7 x8 x9 x10 x11 x12 x13 x14 x15 = fun _ => 1#1) :
    (∀ i a, ∃ r : ℝ, x0 (ix2 i a) = (r : EReal)) ∧ ∀ (a : Fin 3) (x : Fin 20), ∃ r : ℝ, x4 (ix2 (Fin.natAdd 30 a : Fin (30 + 3)) x) = (r : EReal) := by
  have e0 := congrFun e (Shape.Idx.first Cert.Pre_finite.Facts.h_S_)
  dsimp only [Cert.Pre_finite.fn] at e0
  obtain ⟨h1, h2⟩ := IntOp.andi_eq_one.1 e0
  haveI : Subsingleton Cert.Pre_finite.S_.Idx := ⟨fun a b => funext fun i => i.elim0⟩
  refine ⟨fun i a => ?_, fun a x => ?_⟩
  · have := Host.reduce_andi_all _ _ _ _ _ h1 (ix2 i a)
    refine real_of_abs _ ?_
    exact this
  · have key : ∃ r : ℝ, x4 (ix2 ⟨30 + a.val, by omega⟩ x) = (r : EReal) := by
      have := Host.reduce_andi_all _ _ _ _ _ h2 (ix2 a x)
      refine real_of_abs _ ?_
      rw [← this]
      pointwise
    exact key

end Cert.Proof.Pre
-- ==== Proof.KWin.lean ====
module

public import proofs.«01_k».proof.Proof.Track
public import Idealize.ShloMosaic.Lib.Pipeline.ValueKit
public import Idealize.ShloMosaic.Lib.Pointwise
public import proofs.«01_k».proof.Proof.Words

/-! What each input window of the launch holds, read from the arguments. -/

@[expose] public section

set_option maxRecDepth 16384

noncomputable section

namespace Cert.Proof.KWin

open Cert.KernelIdeal Cert.KernelIdeal.Gen
open Idealize.ShloMosaic Idealize.ShloMosaic.TcCoe Idealize.ShloMosaic.Tactic

theorem idx0 : ∀ t : Fin cfg0.N, t.val < 4 → win0_0.index t = ![t.val, 0, 0] := (by decide +kernel : ∀ t : Fin grid0.N, t.val < 4 → win0_0.index t = ![t.val, 0, 0])
theorem idx1 : ∀ t : Fin cfg0.N, win0_1.index t = ![0, 0, 0] := (by decide +kernel : ∀ t : Fin grid0.N, win0_1.index t = ![0, 0, 0])
theorem idx2 : ∀ t : Fin cfg0.N, t.val < 4 → win0_2.index t = ![0, t.val, 0, 0] := (by decide +kernel : ∀ t : Fin grid0.N, t.val < 4 → win0_2.index t = ![0, t.val, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx15 : ∀ t : Fin cfg0.N, win0_15.index t = ![0, 0] := (by decide +kernel : ∀ t : Fin grid0.N, win0_15.index t = ![0, 0])

variable (m : (ℓ : Loc nD τ sig) → Buf (Elt Ideal) ℓ) (c : Dev nD)

theorem blk0 (t : Fin cfg0.N) (ht : t.val < 4) (i : Fin 1000) (a : Fin 3) :
    (iblk m c 0 t : FVec Ideal S1x1000x3 .f32) (ix3 0 i a) = (m ((c.tc : Thread nD τ).loc main_arg0) : FVec Ideal S20000x3 .f32) (ix2 ⟨t.val * 1000 + i.val, by omega⟩ a) := by
  have e : (iblk m c 0 t : FVec Ideal S1x1000x3 .f32) (ix3 0 i a) = (V m c main_v1 : FVec Ideal S4x1000x3 .f32) (ix3 ⟨t.val, ht⟩ i a) := by blk_ext [iblk, idx0 t ht]
  rw [e]
  entry_read
  pointwise

theorem blk1 (t : Fin cfg0.N) (l : Fin 1000) (a : Fin 3) (g : Fin 20) :
    (iblk m c 1 t : FVec Ideal S3x20x1000 .f32) (ix3 a g l) = (m ((c.tc : Thread nD τ).loc main_arg0) : FVec Ideal S20000x3 .f32) (ix2 ⟨g.val * 1000 + l.val, by omega⟩ a) := by
  have e : (iblk m c 1 t : FVec Ideal S3x20x1000 .f32) (ix3 a g l) = (V m c main_v2 : FVec Ideal S3x20x1000 .f32) (ix3 a g l) := by blk_ext [iblk, idx1 t]
  rw [e]
  entry_read
  pointwise

theorem blk2 (t : Fin cfg0.N) (ht : t.val < 4) (i : Fin 1000) (a : Fin 3) :
    (iblk m c 2 t : FVec Ideal S3x1x1x1000 .f32) (ix4 a 0 0 i) = (m ((c.tc : Thread nD τ).loc main_arg0) : FVec Ideal S20000x3 .f32) (ix2 ⟨t.val * 1000 + i.val, by omega⟩ a) := by
  have e : (iblk m c 2 t : FVec Ideal S3x1x1x1000 .f32) (ix4 a 0 0 i) = (V m c main_v4 : FVec Ideal S3x4x1x1000 .f32) (ix4 a ⟨t.val, ht⟩ 0 i) := by blk_ext [iblk, idx2 t ht]
  rw [e]
  entry_read
  pointwise

theorem eye : ∀ a b : Fin 3, IntOp.cmpi CmpIPredicate.eq (IntOp.addi (BitVec.ofNat 32 a.val) 0#32) (BitVec.ofNat 32 b.val) = if a.val = b.val then 1#1 else 0#1 := by decide
theorem one_word : (FloatOps.uitofp (F := Ideal) FTy.f32 1#1 : EReal) = 1 := by
  show (((1#1 : BitVec 1).toNat : ℝ) : EReal) = 1
  simp
theorem zero_word : (FloatOps.uitofp (F := Ideal) FTy.f32 0#1 : EReal) = 0 := by
  show (((0#1 : BitVec 1).toNat : ℝ) : EReal) = 0
  simp

theorem eye_mul (a b : Fin 3) (x : EReal) : x * (FloatOps.uitofp (F := Ideal) FTy.f32
    (IntOp.cmpi CmpIPredicate.eq (IntOp.addi (BitVec.ofNat 32 a.val) 0#32) (BitVec.ofNat 32 b.val)) : EReal) = if a.val = b.val then x else 0 := by
  rw [eye a b]
  by_cases h : a.val = b.val
  · rw [if_pos h, if_pos h, one_word, mul_one]
  · rw [if_neg h, if_neg h, zero_word, mul_zero]

theorem blk3 (t : Fin cfg0.N) (q : Fin 15) (l : Fin 30) :
    (iblk m c 3 t : FVec Ideal S15x30 .f32) (ix2 q l) = if q.val / 5 = l.val % 3 then
      ((m ((c.tc : Thread nD τ).loc main_arg3) : FVec Ideal S10x5x3 .f32) (ix3 ⟨l.val / 3, by omega⟩ ⟨q.val % 5, by omega⟩ ⟨q.val / 5, by omega⟩) : EReal) else (0 : EReal) := by
  have e : (iblk m c 3 t : FVec Ideal S15x30 .f32) (ix2 q l) = (V m c main_v17 : FVec Ideal S15x30 .f32) (ix2 q l) := by
    blk_ext [iblk, idx3 t]
  rw [e]
  entry_read
  pointwise
  exact eye_mul ⟨q.val / 5, by omega⟩ ⟨l.val % 3, by omega⟩ _

theorem blk4 (t : Fin cfg0.N) (i : Fin 33) (j : Fin 20) : (iblk m c 4 t : FVec Ideal S33x20 .f32) (ix2 i j) = (m ((c.tc : Thread nD τ).loc main_arg4) : FVec Ideal S33x20 .f32) (ix2 i j) := by
  blk_ext [iblk, idx4 t]
theorem blk6 (t : Fin cfg0.N) (i : Fin 20) (j : Fin 20) : (iblk m c 6 t : FVec Ideal S20x20 .f32) (ix2 i j) = (m ((c.tc : Thread nD τ).loc main_arg6) : FVec Ideal S20x20 .f32) (ix2 i j) := by
  blk_ext [iblk, idx6 t]
theorem blk8 (t : Fin cfg0.N) (i : Fin 60) (j : Fin 64) : (iblk m c 8 t : FVec Ideal S60x64 .f32) (ix2 i j) = (m ((c.tc : Thread nD τ).loc main_arg8) : FVec Ideal S60x64 .f32) (ix2 i j) := by
  blk_ext [iblk, idx8 t]
theorem blk10 (t : Fin cfg0.N) (i : Fin 64) (j : Fin 32) : (iblk m c 10 t : FVec Ideal S64x32 .f32) (ix2 i j) = (m ((c.tc : Thread nD τ).loc main_arg10) : FVec Ideal S64x32 .f32) (ix2 i j) := by
  blk_ext [iblk, idx10 t]
theorem blk12 (t : Fin cfg0.N) (i : Fin 32) (j : Fin 256) : (iblk m c 12 t : FVec Ideal S32x256 .f32) (ix2 i j) = (m ((c.tc : Thread nD τ).loc main_arg12) : FVec Ideal S32x256 .f32) (ix2 i j) := by
  blk_ext [iblk, idx12 t]
theorem blk14 (t : Fin cfg0.N) (i : Fin 256) (j : Fin 40) : (iblk m c 14 t : FVec Ideal S256x40 .f32) (ix2 i j) = (m ((c.tc : Thread nD τ).loc main_arg14) : FVec Ideal S256x40 .f32) (ix2 i j) := by
  blk_ext [iblk, idx14 t]
theorem blk5 (t : Fin cfg0.N) (j : Fin 20) : (iblk m c 5 t : FVec Ideal S1x20 .f32) (ix2 0 j) = (m ((c.tc : Thread nD τ).loc main_arg5) : FVec Ideal S20 .f32) (ix1 j) := by
  have e : (iblk m c 5 t : FVec Ideal S1x20 .f32) (ix2 0 j) = (V m c main_v18 : FVec Ideal S1x20 .f32) (ix2 0 j) := by blk_ext [iblk, idx5 t]
  rw [e]
  entry_read
  pointwise
theorem blk7 (t : Fin cfg0.N) (j : Fin 20) : (iblk m c 7 t : FVec Ideal S1x20 .f32) (ix2 0 j) = (m ((c.tc : Thread nD τ).loc main_arg7) : FVec Ideal S20 .f32) (ix1 j) := by
  have e : (iblk m c 7 t : FVec Ideal S1x20 .f32) (ix2 0 j) = (V m c main_v19 : FVec Ideal S1x20 .f32) (ix2 0 j) := by blk_ext [iblk, idx7 t]
  rw [e]
  entry_read
  pointwise
theorem blk9 (t : Fin cfg0.N) (j : Fin 64) : (iblk m c 9 t : FVec Ideal S1x64 .f32) (ix2 0 j) = (m ((c.tc : Thread nD τ).loc main_arg9) : FVec Ideal S64 .f32) (ix1 j) := by
  have e : (iblk m c 9 t : FVec Ideal S1x64 .f32) (ix2 0 j) = (V m c main_v20 : FVec Ideal S1x64 .f32) (ix2 0 j) := by blk_ext [iblk, idx9 t]
  rw [e]
  entry_read
  pointwise
theorem blk11 (t : Fin cfg0.N) (j : Fin 32) : (iblk m c 11 t : FVec Ideal S1x32 .f32) (ix2 0 j) = (m ((c.tc : Thread nD τ).loc main_arg11) : FVec Ideal S32 .f32) (ix1 j) := by
  have e : (iblk m c 11 t : FVec Ideal S1x32 .f32) (ix2 0 j) = (V m c main_v21 : FVec Ideal S1x32 .f32) (ix2 0 j) := by blk_ext [iblk, idx11 t]
  rw [e]
  entry_read
  pointwise
theorem blk13 (t : Fin cfg0.N) (j : Fin 256) : (iblk m c 13 t : FVec Ideal S1x256 .f32) (ix2 0 j) = (m ((c.tc : Thread nD τ).loc main_arg13) : FVec Ideal S256 .f32) (ix1 j) := by
  have e : (iblk m c 13 t : FVec Ideal S1x256 .f32) (ix2 0 j) = (V m c main_v22 : FVec Ideal S1x256 .f32) (ix2 0 j) := by blk_ext [iblk, idx13 t]
  rw [e]
  entry_read
  pointwise
theorem blk15 (t : Fin cfg0.N) (j : Fin 40) : (iblk m c 15 t : FVec Ideal S1x40 .f32) (ix2 0 j) = (m ((c.tc : Thread nD τ).loc main_arg15) : FVec Ideal S40 .f32) (ix1 j) := by
  have e : (iblk m c 15 t : FVec Ideal S1x40 .f32) (ix2 0 j) = (V m c main_v23 : FVec Ideal S1x40 .f32) (ix2 0 j) := by blk_ext [iblk, idx15 t]
  rw [e]
  entry_read
  pointwise

end Cert.Proof.KWin
-- ==== Proof.Spec.lean ====
module

public import proofs.«01_k».proof.Proof.Words

/-! What the network computes, over the extended reals. -/

@[expose] public section

noncomputable section

namespace Cert.Proof.Spec

open Idealize.ShloMosaic Cert.Proof.Sel

variable {n : ℕ}

/-- The points of one graph. -/
abbrev Pts (n : ℕ) : Type := Fin n → Fin 3 → EReal

/-- The square of the distance between two points. -/
def sq3 (p q : Fin 3 → EReal) : EReal :=
  (p 0 - q 0) * (p 0 - q 0) + (p 1 - q 1) * (p 1 - q 1) + (p 2 - q 2) * (p 2 - q 2)
/-- The table of distances, the diagonal put far away. -/
def dist (P : Pts n) (i j : Fin n) : EReal := sq3 (P i) (P j) + if i = j then Ideal.ofBits .f32 0x4E6E6B28#32 else 0
/-- The `k`-th nearest other point. -/
def nbr [NeZero n] (P : Pts n) (i : Fin n) (k : ℕ) : Fin n := sel (dist P i) k
/-- A knot of the spline basis. -/
def knot (u : ℕ) : EReal := FloatOps.sitofp (F := Ideal) .f32 (BitVec.ofNat 32 u)
/-- The spline basis at a coordinate's difference. -/
def basis (d : EReal) (u : ℕ) : EReal :=
  max (1 - FloatOps.absf (F := Ideal) (φ := .f32) ((Ideal.tanh d + 1) * Ideal.ofBits .f32 0x40000000#32 - knot u)) 0
/-- The spline of one difference, one channel and one coordinate. -/
def spl (W : Fin 10 → Fin 5 → Fin 3 → EReal) (d : Fin 3 → EReal) (c : Fin 10) (a : Fin 3) : EReal :=
  ∑ u : Fin 5, W c u a * basis (d a) u.val
/-- The sigmoid. -/
def sigm (x : EReal) : EReal := Ideal.logistic x
/-- A point's spline features. -/
def feat [NeZero n] (W : Fin 10 → Fin 5 → Fin 3 → EReal) (P : Pts n) (i : Fin n) (c : Fin 10) (a : Fin 3) : EReal :=
  sigm (Ideal.div (∑ k : Fin 15, spl W (fun a => P (nbr P i k.val) a - P i a) c a) (Ideal.ofBits .f32 0x41700000#32))
/-- The parameters of the first level. -/
structure PA where
  W : Fin 10 → Fin 5 → Fin 3 → EReal
  W1 : Fin 33 → Fin 20 → EReal
  b1 : Fin 20 → EReal
  W2 : Fin 20 → Fin 20 → EReal
  b2 : Fin 20 → EReal
/-- The first layer at a pair of points. -/
def lay1 [NeZero n] (A : PA) (P : Pts n) (i j : Fin n) (x : Fin 20) : EReal :=
  max ((∑ f : Fin 30, feat A.W P j ⟨f.val / 3, by omega⟩ ⟨f.val % 3, by omega⟩ * A.W1 ⟨f.val, by omega⟩ x)
    + (∑ a : Fin 3, (P j a - P i a) * A.W1 ⟨30 + a.val, by omega⟩ x) + A.b1 x) 0
/-- The second layer at a pair of points. -/
def lay2 [NeZero n] (A : PA) (P : Pts n) (i j : Fin n) (y : Fin 20) : EReal :=
  max ((∑ x : Fin 20, lay1 A P i j x * A.W2 x y) + A.b2 y) 0
/-- The first level's features of a point. -/
def lev1 [NeZero n] (A : PA) (P : Pts n) (i : Fin n) (y : Fin 20) : EReal :=
  sigm (Finset.univ.fold max ⊥ fun k : Fin 15 => lay2 A P i (nbr P i k.val) y)

/-- The farthest point's index, from the distances to the points chosen before. -/
def far [NeZero n] (md : Fin n → EReal) : Fin n := first fun j => - md j
/-- The farthest points' choice after `k` steps: the last index chosen and the distances left. -/
def fps [NeZero n] (P : Pts n) : ℕ → Fin n × (Fin n → EReal)
  | 0 => (0, fun l => sq3 (P l) (P 0))
  | k + 1 => (far (fps P k).2, fun l => min ((fps P k).2 l) (sq3 (P l) (P (far (fps P k).2))))
/-- The chosen points. -/
def sub [NeZero n] (P : Pts n) (m : ℕ) : Pts m := fun i => P (fps P i.val).1

/-- The parameters of the second level. -/
structure PC where
  W3 : Fin 60 → Fin 64 → EReal
  b3 : Fin 64 → EReal
  W4 : Fin 64 → Fin 32 → EReal
  b4 : Fin 32 → EReal
/-- A point's own, mean and largest features. -/
def cat [NeZero n] (Q : Pts n) (G : Fin n → Fin 20 → EReal) (i : Fin n) (f : Fin 60) : EReal :=
  if h : f.val < 20 then G i ⟨f.val, h⟩
  else if h : f.val < 40 then
    Ideal.div (∑ k : Fin 15, G (nbr Q i k.val) ⟨f.val - 20, by omega⟩) (Ideal.ofBits .f32 0x41700000#32)
  else Finset.univ.fold max ⊥ fun k : Fin 15 => G (nbr Q i k.val) ⟨f.val - 20 - 20, by omega⟩
/-- The second level's features of a point. -/
def lev2 [NeZero n] (B : PC) (Q : Pts n) (G : Fin n → Fin 20 → EReal) (i : Fin n) (y : Fin 32) : EReal :=
  sigm (max ((∑ x : Fin 64, max ((∑ f : Fin 60, cat Q G i f * B.W3 f x) + B.b3 x) 0 * B.W4 x y) + B.b4 y) 0)
/-- The mean of the second level's features. -/
def pool [NeZero n] (B : PC) (Q : Pts n) (G : Fin n → Fin 20 → EReal) (y : Fin 32) : EReal :=
  Ideal.div (∑ i, lev2 B Q G i y) (Ideal.ofBits .f32 0x43480000#32)

/-- The parameters of the head. -/
structure PH where
  W5 : Fin 32 → Fin 256 → EReal
  b5 : Fin 256 → EReal
  W6 : Fin 256 → Fin 40 → EReal
  b6 : Fin 40 → EReal
/-- The head's first layer before its nonlinearity. -/
def pre5 (H : PH) (v : Fin 32 → EReal) (x : Fin 256) : EReal := (∑ y, v y * H.W5 y x) + H.b5 x
/-- The head's logits. -/
def logit (H : PH) (v : Fin 32 → EReal) (l : Fin 40) : EReal :=
  (∑ x, (if 0 < pre5 H v x then pre5 H v x else Ideal.exp (min (pre5 H v x) 0) - 1) * H.W6 x l) + H.b6 l
/-- The head: the logarithm of the softmax. -/
def head (H : PH) (v : Fin 32 → EReal) (l : Fin 40) : EReal :=
  logit H v l - Finset.univ.fold max ⊥ (logit H v)
    - Ideal.log (∑ x, Ideal.exp (logit H v x - Finset.univ.fold max ⊥ (logit H v)))

end Cert.Proof.Spec

end
-- ==== Proof.KA.lean ====
module

public import proofs.«01_k».proof.Proof.Clean
public import proofs.«01_k».proof.Proof.Spec

/-! The first level of the kernel, read entry by entry. -/

@[expose] public section

set_option maxRecDepth 16384

noncomputable section

namespace Cert.Proof.KA

open Cert.KernelIdeal Cert.KernelIdeal.Gen Cert.Proof.Clean Cert.Proof.Spec
open Idealize.ShloMosaic
open Cert.Proof.Sel (first sel)

theorem pick (cur : FVec Ideal S1000x1000 .f32) (r : Fin 1000) :
    pickA cur (ix2 r 0) = BitVec.ofNat 32 (first fun l : Fin 1000 => cur (ix2 r l)).val := by
  pointwise [pickA, k0_pay24, laneA]
  rw [Words.ofBits_inf, Words.fold_min_eq]
  refine Words.fold_first (by decide) (fun x : Fin 1000 => cur (ix2 r x) = _) _ rfl fun k hk => ?_
  exact Sel.first_min (fun l : Fin 1000 => cur (ix2 r l)) k hk

theorem curA_eq (c0 : FVec Ideal S1000x1000 .f32) (r : Fin 1000) : ∀ (n : ℕ) (l : Fin 1000),
    curA c0 n (ix2 r l) = Sel.cur (fun l : Fin 1000 => c0 (ix2 r l)) n l
  | 0, l => rfl
  | n + 1, l => by
    have ih : (fun l : Fin 1000 => curA c0 n (ix2 r l)) = Sel.cur (fun l : Fin 1000 => c0 (ix2 r l)) n :=
      funext fun l => curA_eq c0 r n l
    have hp := pick (curA c0 n) r
    rw [ih] at hp
    rw [show Sel.cur (fun l : Fin 1000 => c0 (ix2 r l)) (n + 1) l = if l = first (Sel.cur (fun l : Fin 1000 => c0 (ix2 r l)) n) then ⊤ else Sel.cur (fun l : Fin 1000 => c0 (ix2 r l)) n l from rfl]
    rw [show curA c0 (n + 1) = dropA (curA c0 n) from rfl]
    pointwise [dropA, hotA, laneA, fc]
    rw [hp, Words.select_eq _ _ (by omega) (by omega), Words.ofBits_inf, curA_eq c0 r n l]
    exact if_congr (by rw [Fin.ext_iff]) rfl rfl

theorem idxA_eq (c0 : FVec Ideal S1000x1000 .f32) (r : Fin 1000) (n : ℕ) :
    idxA c0 n (ix2 r 0) = BitVec.ofNat 32 (sel (fun l : Fin 1000 => c0 (ix2 r l)) n).val := by
  rw [show idxA c0 n = pickA (curA c0 n) from rfl, pick, show (fun l : Fin 1000 => curA c0 n (ix2 r l)) = Sel.cur (fun l : Fin 1000 => c0 (ix2 r l)) n from
      funext fun l => curA_eq c0 r n l]
  rfl

theorem repA_eq (a : Fin 3) (q : Fin 15) : repA (F := Ideal) (ix2 a q) = if q.val / 5 = a.val then (1 : EReal) else 0 := by
  pointwise [repA, k0_pay22]
  have hw : ∀ (a : Fin 3) (q : Fin 15), BitVec.setWidth 32 (IntOp.cmpi CmpIPredicate.eq
      (Scalar.select (IntOp.andi (IntOp.cmpi CmpIPredicate.ne
        (IntOp.subi (BitVec.setWidth 32 (IntOp.cmpi CmpIPredicate.sgt (BitVec.ofNat 32 q.val) 0#32))
          (BitVec.setWidth 32 (IntOp.cmpi CmpIPredicate.slt (BitVec.ofNat 32 q.val) 0#32)))
        (Scalar.subi (Scalar.extui (Scalar.cmpi CmpIPredicate.sgt 5#32 0#32)) (Scalar.extui (Scalar.cmpi CmpIPredicate.slt 5#32 0#32))))
        (IntOp.cmpi CmpIPredicate.ne (IntOp.remsi ArithUnit.vector (BitVec.ofNat 32 q.val) 5#32) 0#32))
        (IntOp.subi (IntOp.divsi ArithUnit.vector (BitVec.ofNat 32 q.val) 5#32) 1#32)
        (IntOp.divsi ArithUnit.vector (BitVec.ofNat 32 q.val) 5#32)) (BitVec.ofNat 32 a.val))
      = if q.val / 5 = a.val then 1#32 else 0#32 := by decide
  rw [hw a q]
  by_cases h : q.val / 5 = a.val
  · rw [if_pos h, if_pos h]; simp [FloatOps.sitofp]
  · rw [if_neg h, if_neg h]; simp [FloatOps.sitofp]

theorem gridA_eq (q : Fin 15) : gridA (F := Ideal) (ix2 0 q) = knot (q.val % 5) := by
  pointwise [gridA, k0_pay21, k0_pay19, k0_pay20]
  unfold knot
  congr 1
  revert q
  decide

theorem splA_eq (pc : FVec Ideal S1000x3 .f32) (wm : FVec Ideal S15x30 .f32) (ix : IVec S1000x1 32) (r j : Fin 1000)
    (hj : ix (ix2 r 0) = BitVec.ofNat 32 j.val) (W : Fin 10 → Fin 5 → Fin 3 → EReal)
    (hw : ∀ (q : Fin 15) (l : Fin 30), wm (ix2 q l) = if q.val / 5 = l.val % 3 then W ⟨l.val / 3, by omega⟩ ⟨q.val % 5, by omega⟩ ⟨q.val / 5, by omega⟩ else 0)
    (l : Fin 30) :
    splA pc wm ix (ix2 r l) = spl W (fun a => pc (ix2 j a) - pc (ix2 r a)) ⟨l.val / 3, by omega⟩ ⟨l.val % 3, by omega⟩ := by
  pointwise [splA, oneA, hotA, laneA, hj, hw, repA_eq, gridA_eq]
  simp only [Words.sum_pick (fun x : Fin 1000 => _) j (by decide)]
  have hin : ∀ (x : Fin 15) (T : Fin 3 → EReal), (∑ a, T a * if x.val / 5 = a.val then (1 : EReal) else 0) = T ⟨x.val / 5, by omega⟩ := by
    intro x T
    rw [Finset.sum_eq_single (⟨x.val / 5, by omega⟩ : Fin 3)]
    · simp
    · intro b _ hb; rw [if_neg (fun h => hb (Fin.ext h.symm)), mul_zero]
    · intro h; exact absurd (Finset.mem_univ _) h
  simp only [hin]
  rw [Fin.sum_univ_tiles 3 5 rfl]
  rw [Finset.sum_eq_single (⟨l.val % 3, by omega⟩ : Fin 3)]
  · unfold spl
    refine Finset.sum_congr rfl fun u _ => ?_
    have e1 : (l.val % 3 * 5 + u.val) / 5 = l.val % 3 := by omega
    have e2 : (l.val % 3 * 5 + u.val) % 5 = u.val := by omega
    simp only [e1, e2, if_true]
    rw [mul_comm, max_comm]
    rfl
  · intro b _ hb
    refine Finset.sum_eq_zero fun u _ => ?_
    rw [if_neg (fun h => hb (Fin.ext (by simp only at h ⊢; omega))), mul_zero]
  · intro h; exact absurd (Finset.mem_univ _) h

/-- A mean by the reciprocal is a mean by the quotient. -/
theorem mean15 (x : EReal) : x * Named.named (F := Ideal) (φ := .f32) κ "fifteenth" 0x3D888889#32 = Ideal.div x (Ideal.ofBits .f32 0x41700000#32) := by
  rw [show Named.named (F := Ideal) (φ := .f32) κ "fifteenth" 0x3D888889#32 = ((15⁻¹ : ℝ) : EReal) from
    IdealRules.named_const.ideal_named_scalar κ "fifteenth" _ _ rfl, Words.ofBits_fifteen, Ideal.div_coe (by norm_num)]
  norm_num

theorem accA_eq (pc : FVec Ideal S1000x3 .f32) (wm : FVec Ideal S15x30 .f32) (c0 : FVec Ideal S1000x1000 .f32) (r : Fin 1000)
    (W : Fin 10 → Fin 5 → Fin 3 → EReal)
    (hw : ∀ (q : Fin 15) (l : Fin 30), wm (ix2 q l) = if q.val / 5 = l.val % 3 then W ⟨l.val / 3, by omega⟩ ⟨q.val % 5, by omega⟩ ⟨q.val / 5, by omega⟩ else 0)
    (l : Fin 30) (n : ℕ) :
    accA pc wm c0 n (ix2 r l) = ∑ k : Fin n, spl W (fun a => pc (ix2 (sel (fun l : Fin 1000 => c0 (ix2 r l)) k.val) a) - pc (ix2 r a))
      ⟨l.val / 3, by omega⟩ ⟨l.val % 3, by omega⟩ := by
  induction n with
  | zero =>
    rw [show accA pc wm c0 0 = broadcast S1000x30 (fc 0x00000000#32) from rfl]
    pointwise [fc]
    simp
  | succ n ih =>
    rw [show accA pc wm c0 (n + 1) = addf (accA pc wm c0 n) (splA pc wm (idxA c0 n)) from rfl]
    pointwise []
    rw [ih, Fin.sum_univ_castSucc, splA_eq pc wm (idxA c0 n) r _ (idxA_eq c0 r n) W hw l]
    rfl

theorem featA_eq (pc : FVec Ideal S1000x3 .f32) (wm : FVec Ideal S15x30 .f32) (c0 : FVec Ideal S1000x1000 .f32) (r : Fin 1000)
    (W : Fin 10 → Fin 5 → Fin 3 → EReal)
    (hw : ∀ (q : Fin 15) (l : Fin 30), wm (ix2 q l) = if q.val / 5 = l.val % 3 then W ⟨l.val / 3, by omega⟩ ⟨q.val % 5, by omega⟩ ⟨q.val / 5, by omega⟩ else 0)
    (P : Pts 1000) (hP : ∀ i a, pc (ix2 i a) = P i a) (hc : ∀ i j, c0 (ix2 i j) = Spec.dist P i j) (l : Fin 30) :
    featA pc wm c0 (ix2 r l) = feat W P r ⟨l.val / 3, by omega⟩ ⟨l.val % 3, by omega⟩ := by
  pointwise [featA]
  rw [mean15, accA_eq pc wm c0 r W hw l 15]
  unfold feat sigm nbr
  simp only [hP, hc]

/-- A finite shift is taken inside. -/
theorem shift_eq (A b : EReal) (u v w : Fin 3 → ℝ) :
    (A + ∑ a, ((u a : EReal)) * (w a : EReal)) - ((∑ a, ((v a : EReal)) * (w a : EReal)) - b)
      = A + (∑ a, ((u a : EReal) - (v a : EReal)) * (w a : EReal)) + b := by
  have e1 : (∑ a, ((u a : EReal)) * (w a : EReal)) = ((∑ a, u a * w a : ℝ) : EReal) := by
    simp [Fin.sum_univ_three]
  have e2 : (∑ a, ((v a : EReal)) * (w a : EReal)) = ((∑ a, v a * w a : ℝ) : EReal) := by
    simp [Fin.sum_univ_three]
  have e3 : (∑ a, ((u a : EReal) - (v a : EReal)) * (w a : EReal)) = ((∑ a, u a * w a - ∑ a, v a * w a : ℝ) : EReal) := by
    rw [show (∑ a, u a * w a - ∑ a, v a * w a : ℝ) = ∑ a, (u a - v a) * w a from by simp [Fin.sum_univ_three]; ring]
    simp [Fin.sum_univ_three]
  rw [e1, e2, e3]
  generalize (∑ a, u a * w a : ℝ) = p
  generalize (∑ a, v a * w a : ℝ) = q
  induction b <;> induction A <;> simp [sub_eq_add_neg, EReal.neg_add] <;> norm_cast <;> try ring

theorem hidA_eq (gw sh : FVec Ideal S1000x20 .f32) (w2 : FVec Ideal S20x20 .f32) (b2 : FVec Ideal S1x20 .f32) (ix : IVec S1000x1 32) (r j : Fin 1000)
    (hj : ix (ix2 r 0) = BitVec.ofNat 32 j.val) (l : Fin 20) :
    hidA gw sh w2 b2 ix (ix2 r l) = max ((∑ x : Fin 20, max (gw (ix2 j x) - sh (ix2 r x)) 0 * w2 (ix2 x l)) + b2 (ix2 0 l)) 0 := by
  pointwise [hidA, oneA, hotA, laneA, hj]
  simp only [Words.sum_pick (fun x : Fin 1000 => _) j (by decide)]

theorem maxA_eq (gw sh : FVec Ideal S1000x20 .f32) (w2 : FVec Ideal S20x20 .f32) (b2 : FVec Ideal S1x20 .f32) (c0 : FVec Ideal S1000x1000 .f32)
    (r : Fin 1000) (l : Fin 20) (n : ℕ) :
    maxA gw sh w2 b2 c0 n (ix2 r l) = Finset.univ.fold max ⊥ fun k : Fin n =>
      max ((∑ x : Fin 20, max (gw (ix2 (sel (fun l : Fin 1000 => c0 (ix2 r l)) k.val) x) - sh (ix2 r x)) 0 * w2 (ix2 x l)) + b2 (ix2 0 l)) 0 := by
  induction n with
  | zero =>
    rw [show maxA gw sh w2 b2 c0 0 = broadcast S1000x20 (fc 0xFF800000#32) from rfl]
    pointwise [fc]
    rw [Words.ofBits_ninf]
    simp
  | succ n ih =>
    rw [show maxA gw sh w2 b2 c0 (n + 1) = maximumf (maxA gw sh w2 b2 c0 n) (hidA gw sh w2 b2 (idxA c0 n)) from rfl]
    pointwise []
    rw [ih, Words.fold_max_succ, hidA_eq gw sh w2 b2 (idxA c0 n) r _ (idxA_eq c0 r n) l]
    rfl

theorem dist_eq (x1 : FVec Ideal S1x1000x3 .f32) (x3 : FVec Ideal S3x1x1x1000 .f32) (P : Pts 1000)
    (h1 : ∀ i a, x1 (ix3 0 i a) = P i a) (h3 : ∀ i a, x3 (ix4 a 0 0 i) = P i a) (r l : Fin 1000) :
    k0_pay18 (F := Ideal) x1 x3 (ix2 r l) = Spec.dist P r l := by
  pointwise [k0_pay18, k0_pay17]
  simp only [h1, h3]
  rw [Words.select_eq _ _ (by omega) (by omega)]
  unfold Spec.dist sq3
  congr 1
  exact if_congr (by rw [Fin.ext_iff]; exact eq_comm) rfl rfl

theorem stageA_eq (x1 : FVec Ideal S1x1000x3 .f32) (x3 : FVec Ideal S3x1x1x1000 .f32) (wm : FVec Ideal S15x30 .f32) (w1 : FVec Ideal S33x20 .f32)
    (b1 : FVec Ideal S1x20 .f32) (w2 : FVec Ideal S20x20 .f32) (b2 : FVec Ideal S1x20 .f32) (P : Pts 1000) (A : PA)
    (h1 : ∀ i a, x1 (ix3 0 i a) = P i a) (h3 : ∀ i a, x3 (ix4 a 0 0 i) = P i a)
    (hw : ∀ (q : Fin 15) (l : Fin 30), wm (ix2 q l) = if q.val / 5 = l.val % 3 then A.W ⟨l.val / 3, by omega⟩ ⟨q.val % 5, by omega⟩ ⟨q.val / 5, by omega⟩ else 0)
    (hw1 : ∀ i j, w1 (ix2 i j) = A.W1 i j) (hb1 : ∀ j, b1 (ix2 0 j) = A.b1 j) (hw2 : ∀ i j, w2 (ix2 i j) = A.W2 i j)
    (hb2 : ∀ j, b2 (ix2 0 j) = A.b2 j)
    (hP : ∀ i a, ∃ r : ℝ, P i a = (r : EReal)) (hW : ∀ (a : Fin 3) x, ∃ r : ℝ, A.W1 ⟨30 + a.val, by omega⟩ x = (r : EReal))
    (r : Fin 1000) (l : Fin 20) :
    stageA x1 x3 wm w1 b1 w2 b2 (ix2 r l) = lev1 A P r l := by
  have hpc : ∀ i a, k0_pay17 (F := Ideal) x1 (ix2 i a) = P i a := fun i a => by
    pointwise [k0_pay17]
    exact h1 i a
  have hd := dist_eq x1 x3 P h1 h3
  pointwise [stageA, k0_pay1]
  rw [maxA_eq, show (fun l : Fin 1000 => k0_pay18 (F := Ideal) x1 x3 (ix2 r l)) = Spec.dist P r from funext fun l => hd r l]
  unfold lev1 sigm
  refine congrArg Ideal.logistic (Finset.fold_congr fun k _ => ?_)
  choose p hp using hP
  choose w hw' using hW
  unfold lay2
  rw [hb2]
  refine congrArg (fun z => max (z + A.b2 l) 0) (Finset.sum_congr rfl fun x _ => ?_)
  rw [hw2]
  refine congrArg (fun z => z * A.W2 x l) ?_
  unfold lay1
  refine congrArg (fun z => max z 0) ?_
  change _ = (∑ f : Fin 30, feat A.W P (nbr P r k.val) ⟨f.val / 3, by omega⟩ ⟨f.val % 3, by omega⟩ * A.W1 ⟨f.val, by omega⟩ x)
    + (∑ a : Fin 3, (P (nbr P r k.val) a - P r a) * A.W1 ⟨30 + a.val, by omega⟩ x) + A.b1 x
  generalize hj : nbr P r k.val = j
  rw [show sel (Spec.dist P r) k.val = j from hj]
  pointwise [gwA, shiftA, posA]
  simp only [hpc, hw1, hb1, featA_eq _ wm _ _ A.W hw P hpc hd, hp, hw']
  exact shift_eq _ _ _ _ _

end Cert.Proof.KA

end
-- ==== Proof.KC.lean ====
module

public import proofs.«01_k».proof.Proof.Clean
public import proofs.«01_k».proof.Proof.Spec
public import proofs.«01_k».proof.Proof.KA

/-! The second level of the kernel, read entry by entry. -/

@[expose] public section

set_option maxRecDepth 16384

noncomputable section

namespace Cert.Proof.KC

open Cert.KernelIdeal Cert.KernelIdeal.Gen Cert.Proof.Clean Cert.Proof.Spec
open Idealize.ShloMosaic
open Cert.Proof.Sel (first sel)

theorem pick (cur : FVec Ideal S200x200 .f32) (r : Fin 200) :
    pickC cur (ix2 r 0) = BitVec.ofNat 32 (first fun l : Fin 200 => cur (ix2 r l)).val := by
  pointwise [pickC, laneC]
  rw [Words.ofBits_inf, Words.fold_min_eq]
  refine Words.fold_first (by decide) (fun x : Fin 200 => cur (ix2 r x) = _) _ rfl fun k hk => ?_
  exact Sel.first_min (fun l : Fin 200 => cur (ix2 r l)) k hk

theorem curC_eq (c0 : FVec Ideal S200x200 .f32) (r : Fin 200) : ∀ (n : ℕ) (l : Fin 200),
    curC c0 n (ix2 r l) = Sel.cur (fun l : Fin 200 => c0 (ix2 r l)) n l
  | 0, l => rfl
  | n + 1, l => by
    have ih : (fun l : Fin 200 => curC c0 n (ix2 r l)) = Sel.cur (fun l : Fin 200 => c0 (ix2 r l)) n :=
      funext fun l => curC_eq c0 r n l
    have hp := pick (curC c0 n) r
    rw [ih] at hp
    rw [show Sel.cur (fun l : Fin 200 => c0 (ix2 r l)) (n + 1) l = if l = first (Sel.cur (fun l : Fin 200 => c0 (ix2 r l)) n) then ⊤ else Sel.cur (fun l : Fin 200 => c0 (ix2 r l)) n l from rfl]
    rw [show curC c0 (n + 1) = dropC (curC c0 n) from rfl]
    pointwise [dropC, hotC, laneC, fc]
    rw [hp, Words.select_eq _ _ (by omega) (by omega), Words.ofBits_inf, curC_eq c0 r n l]
    exact if_congr (by rw [Fin.ext_iff]) rfl rfl

theorem idxC_eq (c0 : FVec Ideal S200x200 .f32) (r : Fin 200) (n : ℕ) :
    idxC c0 n (ix2 r 0) = BitVec.ofNat 32 (sel (fun l : Fin 200 => c0 (ix2 r l)) n).val := by
  rw [show idxC c0 n = pickC (curC c0 n) from rfl, pick, show (fun l : Fin 200 => curC c0 n (ix2 r l)) = Sel.cur (fun l : Fin 200 => c0 (ix2 r l)) n from
      funext fun l => curC_eq c0 r n l]
  rfl

theorem word5 (g : ℕ) : Scalar.subi (BitVec.ofNat 32 (g + 5)) 5#32 = BitVec.ofNat 32 g := by
  simp only [Scalar.subi, IntOp.subi]
  rw [BitVec.ofNat_add]
  exact BitVec.add_sub_cancel _ _

theorem rowC_eq (i : grid0.Coords) (g : Fin 20) (hi : (i 0).val = g.val + 5) (p : FVec Ideal S20x200 .f32) (l : Fin 200) :
    rowC i p (ix2 0 l) = p (ix2 g l) := by
  pointwise [rowC, maskC, fc]
  rw [hi, word5]
  exact Words.sum_pick (fun x : Fin 20 => p (ix2 x l)) g (by decide)

theorem colC_eq (r : FVec Ideal S1x200 .f32) (j : Fin 200) : colC r (ix2 j 0) = r (ix2 0 j) := by
  pointwise [colC, eyeC, laneC, fc]
  exact Words.sum_pick (fun x : Fin 200 => r (ix2 0 x)) j (by decide)

theorem dist_eq (rx ry rz : FVec Ideal S1x200 .f32) (Q : Pts 200) (hx : ∀ i, rx (ix2 0 i) = Q i 0)
    (hy : ∀ i, ry (ix2 0 i) = Q i 1) (hz : ∀ i, rz (ix2 0 i) = Q i 2) (r l : Fin 200) :
    distC rx ry rz (ix2 r l) = Spec.dist Q r l := by
  pointwise [distC, sqC, eyeC, laneC, fc]
  simp only [colC_eq, hx, hy, hz]
  rw [Words.select_eq _ _ (by omega) (by omega)]
  unfold Spec.dist sq3
  refine congrArg _ ?_
  exact if_congr (by rw [Fin.ext_iff]; exact eq_comm) rfl rfl

theorem nbC_eq (sub : FVec Ideal S200x20 .f32) (ix : IVec S200x1 32) (r j : Fin 200)
    (hj : ix (ix2 r 0) = BitVec.ofNat 32 j.val) (l : Fin 20) : nbC sub ix (ix2 r l) = sub (ix2 j l) := by
  pointwise [nbC, oneC, hotC, laneC, hj]
  exact Words.sum_pick (fun x : Fin 200 => sub (ix2 x l)) j (by decide)

theorem sumC_eq (sub : FVec Ideal S200x20 .f32) (c0 : FVec Ideal S200x200 .f32) (r : Fin 200) (l : Fin 20) (n : ℕ) :
    sumC sub c0 n (ix2 r l) = ∑ k : Fin n, sub (ix2 (sel (fun l : Fin 200 => c0 (ix2 r l)) k.val) l) := by
  induction n with
  | zero =>
    rw [show sumC sub c0 0 = broadcast S200x20 (fc 0x00000000#32) from rfl]
    pointwise [fc]
    simp
  | succ n ih =>
    rw [show sumC sub c0 (n + 1) = addf (sumC sub c0 n) (nbC sub (idxC c0 n)) from rfl]
    pointwise []
    rw [ih, Fin.sum_univ_castSucc, nbC_eq sub (idxC c0 n) r _ (idxC_eq c0 r n) l]
    rfl

theorem maxC_eq (sub : FVec Ideal S200x20 .f32) (c0 : FVec Ideal S200x200 .f32) (r : Fin 200) (l : Fin 20) (n : ℕ) :
    maxC sub c0 n (ix2 r l) = Finset.univ.fold max ⊥ fun k : Fin n => sub (ix2 (sel (fun l : Fin 200 => c0 (ix2 r l)) k.val) l) := by
  induction n with
  | zero =>
    rw [show maxC sub c0 0 = broadcast S200x20 (fc 0xFF800000#32) from rfl]
    pointwise [fc]
    rw [Words.ofBits_ninf]
    simp
  | succ n ih =>
    rw [show maxC sub c0 (n + 1) = maximumf (maxC sub c0 n) (nbC sub (idxC c0 n)) from rfl]
    pointwise []
    rw [ih, Words.fold_max_succ, nbC_eq sub (idxC c0 n) r _ (idxC_eq c0 r n) l]
    rfl

theorem hidC_eq (sub : FVec Ideal S200x20 .f32) (c0 : FVec Ideal S200x200 .f32) (w3 : FVec Ideal S60x64 .f32) (B : PC)
    (Q : Pts 200) (G : Fin 200 → Fin 20 → EReal) (hs : ∀ i f, sub (ix2 i f) = G i f) (hc : ∀ i j, c0 (ix2 i j) = Spec.dist Q i j)
    (h3 : ∀ i j, w3 (ix2 i j) = B.W3 i j) (r : Fin 200) (l : Fin 64) :
    hidC sub c0 w3 (ix2 r l) = ∑ f : Fin 60, cat Q G r f * B.W3 f l := by
  pointwise [hidC]
  refine Finset.sum_congr rfl fun x _ => ?_
  rw [h3]
  refine congrArg (fun z => z * B.W3 x l) ?_
  unfold cat nbr
  have hr : (fun l : Fin 200 => c0 (ix2 r l)) = Spec.dist Q r := funext fun l => hc r l
  simp only [KA.mean15, sumC_eq, maxC_eq, hr, hs]
  by_cases h1 : x.val < 20
  · rw [dif_pos h1, dif_pos h1]
  · by_cases h2 : x.val < 40
    · rw [dif_neg h1, dif_pos (show x.val - 20 < 20 from by omega), dif_neg h1, dif_pos h2]
    · rw [dif_neg h1, dif_neg (show ¬ x.val - 20 < 20 from by omega), dif_neg h1, dif_neg h2]

theorem stageC_eq (i : grid0.Coords) (g : Fin 20) (hi : (i 0).val = g.val + 5) (sub : FVec Ideal S200x20 .f32)
    (px py pz : FVec Ideal S20x200 .f32) (w3 : FVec Ideal S60x64 .f32) (b3 : FVec Ideal S1x64 .f32)
    (w4 : FVec Ideal S64x32 .f32) (b4 : FVec Ideal S1x32 .f32) (ys : FVec Ideal S20x32 .f32) (B : PC)
    (Q : Pts 200) (G : Fin 200 → Fin 20 → EReal) (hs : ∀ i f, sub (ix2 i f) = G i f)
    (hx : ∀ i, px (ix2 g i) = Q i 0) (hy : ∀ i, py (ix2 g i) = Q i 1) (hz : ∀ i, pz (ix2 g i) = Q i 2)
    (h3 : ∀ i j, w3 (ix2 i j) = B.W3 i j) (hb3 : ∀ j, b3 (ix2 0 j) = B.b3 j) (h4 : ∀ i j, w4 (ix2 i j) = B.W4 i j)
    (hb4 : ∀ j, b4 (ix2 0 j) = B.b4 j) (r : Fin 20) (l : Fin 32) :
    stageC i sub px py pz w3 b3 w4 b4 ys (ix2 r l) = ys (ix2 r l) + if r = g then pool B Q G l else 0 := by
  have hd := dist_eq (rowC i px) (rowC i py) (rowC i pz) Q (fun j => by rw [rowC_eq i g hi]; exact hx j)
    (fun j => by rw [rowC_eq i g hi]; exact hy j) (fun j => by rw [rowC_eq i g hi]; exact hz j)
  have hh := hidC_eq sub (distC (rowC i px) (rowC i py) (rowC i pz)) w3 B Q G hs hd h3
  unfold stageC
  generalize hidC sub (distC (rowC i px) (rowC i py) (rowC i pz)) w3 = h at hh ⊢
  pointwise [k0_pay15, maskC, hb3, h4, hb4, hh]
  rw [hi, word5, Words.select_eq _ _ (by omega) (by omega)]
  refine congrArg _ ?_
  refine if_congr (by rw [Fin.ext_iff]) ?_ rfl
  rfl

theorem head_eq (ys : FVec Ideal S20x32 .f32) (w5 : FVec Ideal S32x256 .f32) (b5 : FVec Ideal S1x256 .f32) (w6 : FVec Ideal S256x40 .f32)
    (b6 : FVec Ideal S1x40 .f32) (H : PH) (v : Fin 20 → Fin 32 → EReal) (hv : ∀ r y, ys (ix2 r y) = v r y)
    (h5 : ∀ i j, w5 (ix2 i j) = H.W5 i j) (hb5 : ∀ j, b5 (ix2 0 j) = H.b5 j) (h6 : ∀ i j, w6 (ix2 i j) = H.W6 i j)
    (hb6 : ∀ j, b6 (ix2 0 j) = H.b6 j) (r : Fin 20) (l : Fin 40) :
    k0_pay16 (F := Ideal) ys w5 b5 w6 b6 (ix2 r l) = head H (v r) l := by
  pointwise [k0_pay16]
  simp only [hv, h5, hb5, h6, hb6, Words.ofBits_ninf]
  rfl

end Cert.Proof.KC

end
-- ==== Proof.KF.lean ====
module

public import proofs.«01_k».proof.Proof.Clean
public import proofs.«01_k».proof.Proof.Spec

/-! The farthest points of the kernel, read entry by entry. -/

@[expose] public section

set_option maxRecDepth 16384

noncomputable section

namespace Cert.Proof.KF

open Cert.KernelIdeal Cert.KernelIdeal.Gen Cert.Proof.Clean Cert.Proof.Spec
open Idealize.ShloMosaic
open Cert.Proof.Sel (first sel)

theorem sum_pick_mul {n : ℕ} (g : Fin n → EReal) (j : Fin n) (hn : n < 4294967296) :
    (∑ x, g x * Scalar.select (IntOp.cmpi .eq (BitVec.ofNat 32 x.val) (BitVec.ofNat 32 j.val)) 1 0) = g j := by
  rw [Finset.sum_congr rfl fun x _ => congrArg (fun z => g x * z) (Words.select_eq x.val j.val (by omega) (by omega) (1 : EReal) 0)]
  rw [Finset.sum_eq_single j]
  · simp
  · intro b _ hb; rw [if_neg (fun h => hb (Fin.ext h)), mul_zero]
  · intro h; exact absurd (Finset.mem_univ _) h

/-- The first position of a largest value, as a word. -/
theorem hot (md : FVec Ideal S20x1000 .f32) (r : Fin 20) :
    Finset.fold IntOp.minsi (2147483647#32) (fun x : Fin 1000 => if md (ix2 r x) =
      Finset.fold max (Ideal.ofBits FTy.f32 4286578688#32) (fun y : Fin 1000 => md (ix2 r y)) Finset.univ then BitVec.ofNat 32 x.val else 1023#32) Finset.univ
      = BitVec.ofNat 32 (far fun l : Fin 1000 => md (ix2 r l)).val := by
  rw [Words.ofBits_ninf, Words.fold_max_eq]
  refine Words.fold_first (by decide) (fun x : Fin 1000 => md (ix2 r x) = _) _ rfl fun k hk => ?_
  exact Sel.first_min (fun l : Fin 1000 => - md (ix2 r l)) k (congrArg Neg.neg hk)

theorem pay3_eq (st : FVec Ideal S60x1000 .f32) (md : FVec Ideal S20x1000 .f32) (R : Fin 60) (r : Fin 20) (hR : R.val % 20 = r.val) :
    k0_pay3 (F := Ideal) laneF st md (ix2 R 0) = st (ix2 R (far fun l : Fin 1000 => md (ix2 r l))) := by
  pointwise [k0_pay3, laneF]
  refine Eq.trans (Finset.sum_congr rfl fun x _ => ?_) (sum_pick_mul (fun x : Fin 1000 => st (ix2 R x)) (far fun l : Fin 1000 => md (ix2 r l)) (by decide))
  refine congrArg (fun z => st (ix2 R x) * z) ?_
  by_cases h1 : R.val < 20
  · rw [dif_pos h1, show (⟨R.val, h1⟩ : Fin 20) = r from Fin.ext (by simp only; omega), hot]
  · by_cases h2 : R.val - 20 < 20
    · rw [dif_neg h1, dif_pos h2, show (⟨R.val - 20, h2⟩ : Fin 20) = r from Fin.ext (by simp only; omega), hot]
    · rw [dif_neg h1, dif_neg h2, show (⟨R.val - 20 - 20, by omega⟩ : Fin 20) = r from Fin.ext (by simp only; omega), hot]

theorem stack_eq (px py pz : FVec Ideal S20x1000 .f32) (r : Fin 20) (l : Fin 1000) :
    stackF px py pz (ix2 ⟨r.val, by omega⟩ l) = px (ix2 r l) ∧ stackF px py pz (ix2 ⟨20 + r.val, by omega⟩ l) = py (ix2 r l)
      ∧ stackF px py pz (ix2 ⟨40 + r.val, by omega⟩ l) = pz (ix2 r l) := by
  refine ⟨?_, ?_, ?_⟩
  · pointwise [stackF]
  · pointwise [stackF]
  · pointwise [stackF]
    rw [dif_neg (by omega), dif_neg (by omega)]
    exact congrArg (fun z => pz (ix2 z l)) (Fin.ext (by simp only; omega))

theorem coords_eq (px py pz md : FVec Ideal S20x1000 .f32) (r : Fin 20) :
    k0_pay4 (F := Ideal) laneF (stackF px py pz) md (ix2 r 0) = px (ix2 r (far fun l : Fin 1000 => md (ix2 r l)))
    ∧ k0_pay5 (F := Ideal) laneF (stackF px py pz) md (ix2 r 0) = py (ix2 r (far fun l : Fin 1000 => md (ix2 r l)))
    ∧ k0_pay6 (F := Ideal) laneF (stackF px py pz) md (ix2 r 0) = pz (ix2 r (far fun l : Fin 1000 => md (ix2 r l))) := by
  refine ⟨?_, ?_, ?_⟩
  · rw [← (stack_eq px py pz r _).1]
    unfold k0_pay4
    pointwise []
    exact pay3_eq _ _ _ r (by simp only; omega)
  · rw [← (stack_eq px py pz r _).2.1]
    unfold k0_pay5
    pointwise []
    exact pay3_eq _ _ _ r (by simp only; omega)
  · rw [← (stack_eq px py pz r _).2.2]
    unfold k0_pay6
    pointwise []
    exact pay3_eq _ _ _ r (by simp only; omega)

theorem trips_eq : k0_t1_loop.trips = 199 := by decide

/-- What one trip does, read at an entry. -/
theorem step_eq (px py pz : FVec Ideal S20x1000 .f32) (k : Fin k0_t1_loop.trips) (s : StF Ideal) (r : Fin 20) (P : Pts 1000)
    (hx : ∀ l : Fin 1000, px (ix2 r l) = P l 0) (hy : ∀ l : Fin 1000, py (ix2 r l) = P l 1) (hz : ∀ l : Fin 1000, pz (ix2 r l) = P l 2)
    (j : Fin 1000) (hj : (far fun l : Fin 1000 => s.1 (ix2 r l)) = j) :
    (∀ l : Fin 1000, (stepF px py pz k s).1 (ix2 r l) = min (s.1 (ix2 r l)) (sq3 (P l) (P j)))
    ∧ (∀ l : Fin 200, (stepF px py pz k s).2.1 (ix2 r l) = if l.val = k.val + 1 then P j 0 else s.2.1 (ix2 r l))
    ∧ (∀ l : Fin 200, (stepF px py pz k s).2.2.1 (ix2 r l) = if l.val = k.val + 1 then P j 1 else s.2.2.1 (ix2 r l))
    ∧ (∀ l : Fin 200, (stepF px py pz k s).2.2.2 (ix2 r l) = if l.val = k.val + 1 then P j 2 else s.2.2.2 (ix2 r l)) := by
  obtain ⟨c1, c2, c3⟩ := coords_eq px py pz s.1 r
  rw [hj] at c1 c2 c3
  have hk : k.val < 199 := trips_eq ▸ k.isLt
  have hiv : Scf.iv 1#32 1#32 k.val = BitVec.ofNat 32 (k.val + 1) := by
    simp [Scf.iv, BitVec.ofNat_add]; exact BitVec.add_comm _ _
  have h8 : ∀ l : Fin 200, k0_pay8 lane2F k (ix2 r l) = IntOp.cmpi .eq (BitVec.ofNat 32 l.val) (BitVec.ofNat 32 (k.val + 1)) := fun l => by
    pointwise [k0_pay8, lane2F]
    rw [hiv]
  simp only [stepF]
  refine ⟨fun l => ?_, fun l => ?_, fun l => ?_, fun l => ?_⟩
  · pointwise [k0_pay7]
    rw [c1, c2, c3]
    simp only [hx, hy, hz]
    rfl
  · pointwise [k0_pay9]
    rw [c1, h8, Words.select_eq _ _ (by omega) (by omega), hx]
  · pointwise [k0_pay10]
    rw [c2, h8, Words.select_eq _ _ (by omega) (by omega), hy]
  · pointwise [k0_pay11]
    rw [c3, h8, Words.select_eq _ _ (by omega) (by omega), hz]

/-- The loop's state before trip `k`, at one graph. -/
def InvF (P : Pts 1000) (r : Fin 20) (k : ℕ) (s : StF Ideal) : Prop :=
  (∀ l : Fin 1000, s.1 (ix2 r l) = (fps P k).2 l)
  ∧ (∀ l : Fin 200, l.val ≤ k → s.2.1 (ix2 r l) = P (fps P l.val).1 0)
  ∧ (∀ l : Fin 200, l.val ≤ k → s.2.2.1 (ix2 r l) = P (fps P l.val).1 1)
  ∧ (∀ l : Fin 200, l.val ≤ k → s.2.2.2 (ix2 r l) = P (fps P l.val).1 2)

theorem inv_step (px py pz : FVec Ideal S20x1000 .f32) (r : Fin 20) (P : Pts 1000)
    (hx : ∀ l : Fin 1000, px (ix2 r l) = P l 0) (hy : ∀ l : Fin 1000, py (ix2 r l) = P l 1) (hz : ∀ l : Fin 1000, pz (ix2 r l) = P l 2)
    (k : Fin k0_t1_loop.trips) (s : StF Ideal) (h : InvF P r k.val s) : InvF P r (k.val + 1) (stepF px py pz k s) := by
  obtain ⟨h1, h2, h3, h4⟩ := h
  have hj : (far fun l : Fin 1000 => s.1 (ix2 r l)) = (fps P (k.val + 1)).1 := by
    rw [show (fun l : Fin 1000 => s.1 (ix2 r l)) = (fps P k.val).2 from funext h1]; rfl
  obtain ⟨g1, g2, g3, g4⟩ := step_eq px py pz k s r P hx hy hz _ hj
  refine ⟨fun l => ?_, fun l hl => ?_, fun l hl => ?_, fun l hl => ?_⟩
  · rw [g1, h1]; rfl
  · rw [g2]
    by_cases e : l.val = k.val + 1
    · rw [if_pos e, e]
    · rw [if_neg e]; exact h2 l (by omega)
  · rw [g3]
    by_cases e : l.val = k.val + 1
    · rw [if_pos e, e]
    · rw [if_neg e]; exact h3 l (by omega)
  · rw [g4]
    by_cases e : l.val = k.val + 1
    · rw [if_pos e, e]
    · rw [if_neg e]; exact h4 l (by omega)

theorem fold_rule {σ : Type} {n : ℕ} {g : Fin n → σ → σ} {a : σ} (Q : ℕ → σ → Prop) (h0 : Q 0 a)
    (hs : ∀ (k : Fin n) (s : σ), Q k.val s → Q (k.val + 1) (g k s)) : Q n (Scf.fold g a) := by
  rw [Scf.fold_eq]
  induction n with
  | zero => simpa using h0
  | succ n ih =>
    rw [List.finRange_succ_last, List.foldl_append, List.foldl_map]
    exact hs (Fin.last n) _ (ih (g := fun k => g k.castSucc) fun k s h => hs k.castSucc s h)

theorem fps_eq (px py pz : FVec Ideal S20x1000 .f32) (r : Fin 20) (P : Pts 1000)
    (hx : ∀ l : Fin 1000, px (ix2 r l) = P l 0) (hy : ∀ l : Fin 1000, py (ix2 r l) = P l 1) (hz : ∀ l : Fin 1000, pz (ix2 r l) = P l 2) :
    InvF P r k0_t1_loop.trips (fpsF px py pz) := by
  refine fold_rule (fun k s => InvF P r k s) ?_ fun k s h => inv_step px py pz r P hx hy hz k s h
  refine ⟨fun l => ?_, fun l hl => ?_, fun l hl => ?_, fun l hl => ?_⟩
  · pointwise [sqF, firstF]
    simp only [hx, hy, hz]
    rfl
  · pointwise [initF, k0_pay2, firstF, lane2F]
    rw [show l.val = 0 from by omega, hx]
    rfl
  · pointwise [initF, k0_pay2, firstF, lane2F]
    rw [show l.val = 0 from by omega, hy]
    rfl
  · pointwise [initF, k0_pay2, firstF, lane2F]
    rw [show l.val = 0 from by omega, hz]
    rfl

theorem stageF_eq (x2 : FVec Ideal S3x20x1000 .f32) (r : Fin 20) (P : Pts 1000)
    (hx : ∀ (l : Fin 1000) (a : Fin 3), x2 (ix3 a r l) = P l a) (l : Fin 200) :
    (stageF x2).1 (ix2 r l) = sub P 200 l 0 ∧ (stageF x2).2.1 (ix2 r l) = sub P 200 l 1 ∧ (stageF x2).2.2 (ix2 r l) = sub P 200 l 2 := by
  have h0 : ∀ l : Fin 1000, rowF x2 0 (ix2 r l) = P l 0 := fun l => by
    pointwise [rowF]; exact hx l 0
  have h1 : ∀ l : Fin 1000, rowF x2 1 (ix2 r l) = P l 1 := fun l => by
    pointwise [rowF]; exact hx l 1
  have h2 : ∀ l : Fin 1000, rowF x2 2 (ix2 r l) = P l 2 := fun l => by
    pointwise [rowF]; exact hx l 2
  obtain ⟨_, g1, g2, g3⟩ := fps_eq _ _ _ r P h0 h1 h2
  have hl : l.val ≤ k0_t1_loop.trips := by rw [trips_eq]; omega
  refine ⟨?_, ?_, ?_⟩
  · pointwise [stageF, k0_pay12]; exact g1 l hl
  · pointwise [stageF, k0_pay13]; exact g2 l hl
  · pointwise [stageF, k0_pay14]; exact g3 l hl

end Cert.Proof.KF

end
-- ==== Proof.Net.lean ====
module

public import proofs.«01_k».proof.Proof.Spec

/-! The whole network on twenty graphs. -/

@[expose] public section

noncomputable section

namespace Cert.Proof.Spec

open Idealize.ShloMosaic Cert.Proof.Sel

/-- The first level's features of the points that one graph's second level reads: the first four thousand rows are cut in
    twenties of two hundred, so they belong to the first four graphs. -/
def own (A : PA) (P : Fin 20 → Pts 1000) (g : Fin 20) (i : Fin 200) (f : Fin 20) : EReal :=
  lev1 A (P ⟨(g.val * 200 + i.val) / 1000, by omega⟩) ⟨(g.val * 200 + i.val) % 1000, by omega⟩ f

/-- The network's result. -/
def net (P : Fin 20 → Pts 1000) (A : PA) (B : PC) (H : PH) (g : Fin 20) (l : Fin 40) : EReal :=
  head H (pool B (sub (P g) 200) (own A P g)) l

theorem dist_lt_top {n : ℕ} (P : Pts n) (h : ∀ i a, ∃ r : ℝ, P i a = (r : EReal)) (i j : Fin n) : Spec.dist P i j < ⊤ := by
  have hr : ∃ r : ℝ, Spec.dist P i j = (r : EReal) := by
    obtain ⟨a0, h0⟩ := h i 0
    obtain ⟨a1, h1⟩ := h i 1
    obtain ⟨a2, h2⟩ := h i 2
    obtain ⟨b0, g0⟩ := h j 0
    obtain ⟨b1, g1⟩ := h j 1
    obtain ⟨b2, g2⟩ := h j 2
    unfold Spec.dist sq3
    rw [h0, h1, h2, g0, g1, g2, Words.ofBits_big]
    by_cases e : i = j
    · rw [if_pos e]; exact ⟨(a0 - b0) * (a0 - b0) + (a1 - b1) * (a1 - b1) + (a2 - b2) * (a2 - b2) + 1000000000, by push_cast; rfl⟩
    · rw [if_neg e]; exact ⟨(a0 - b0) * (a0 - b0) + (a1 - b1) * (a1 - b1) + (a2 - b2) * (a2 - b2) + 0, by push_cast; rfl⟩
  obtain ⟨r, hr⟩ := hr
  rw [hr]
  exact EReal.coe_lt_top r

end Cert.Proof.Spec

end
-- ==== Proof.PostDefs.lean ====
module

public import proofs.«01_k».proof.Proof.Gen.ReferenceIdeal
public import Idealize.ShloMosaic.Lib.Pipeline.ValueKit

/-! The operations after the reference's loop as functions of what they read. -/

@[expose] public section

set_option maxRecDepth 16384
set_option maxHeartbeats 1000000

noncomputable section

namespace Cert.Proof.Post

open Cert.ReferenceIdeal Cert.ReferenceIdeal.Gen
open Idealize.ShloMosaic Idealize.ShloMosaic.TcCoe Idealize.SL.Sem

variable {F : FTy → Type} [FloatOps F]

/-- `main_v21` from what its operations read. -/
def R0 (xarg0 : FVec F S20000x3 .f32) (xv7_4 : IVec S20x200 32) : FVec F S4000x3 .f32 :=
  (Host.gather gather_S20000x3_S4000x1_S4000x3_1_0_n_n_0_1_13 xarg0 (broadcastInDim S4000x1 ![0] bcast_S4000_S4000x1_0 (select (cmpi .slt (shapeCast S4000 (addi xv7_4 (broadcastInDim S20x200 ![0, 1] bcast_S20x1_S20x200_0_1 (broadcastInDim S20x1 ![0] bcast_S20_S20x1_0 (muli (iotaInDim S20 32 0) (broadcastInDim S20 ![] bcast_S_S20 (constantI S_ 32 1000#32)))))) shapeCasts_S20x200_S4000) (broadcastInDim S4000 ![] bcast_S_S4000 (constantI S_ 32 0#32))) (addi (shapeCast S4000 (addi xv7_4 (broadcastInDim S20x200 ![0, 1] bcast_S20x1_S20x200_0_1 (broadcastInDim S20x1 ![0] bcast_S20_S20x1_0 (muli (iotaInDim S20 32 0) (broadcastInDim S20 ![] bcast_S_S20 (constantI S_ 32 1000#32)))))) shapeCasts_S20x200_S4000) (broadcastInDim S4000 ![] bcast_S_S4000 (constantI S_ 32 20000#32))) (shapeCast S4000 (addi xv7_4 (broadcastInDim S20x200 ![0, 1] bcast_S20x1_S20x200_0_1 (broadcastInDim S20x1 ![0] bcast_S20_S20x1_0 (muli (iotaInDim S20 32 0) (broadcastInDim S20 ![] bcast_S_S20 (constantI S_ 32 1000#32)))))) shapeCasts_S20x200_S4000))))

/-- `main_indices` from what its operations read. -/
def R1 (xv0 : FVec F S20x1000x3 .f32) : IVec S20x1000x15 32 :=
  ((Host.topK S20x1000x15 2 (FloatOps.cmpfTotal .gt) (Host.negf (addf (Host.reduceAdd (mulf (subf (broadcastInDim S20x1000x1000x3 ![0, 1, 2, 3] bcast_S20x1000x1x3_S20x1000x1000x3_0_1_2_3 (broadcastInDim S20x1000x1x3 ![0, 1, 3] bcast_S20x1000x3_S20x1000x1x3_0_1_3 xv0)) (broadcastInDim S20x1000x1000x3 ![0, 1, 2, 3] bcast_S20x1x1000x3_S20x1000x1000x3_0_1_2_3 (broadcastInDim S20x1x1000x3 ![0, 2, 3] bcast_S20x1000x3_S20x1x1000x3_0_2_3 xv0))) (subf (broadcastInDim S20x1000x1000x3 ![0, 1, 2, 3] bcast_S20x1000x1x3_S20x1000x1000x3_0_1_2_3 (broadcastInDim S20x1000x1x3 ![0, 1, 3] bcast_S20x1000x3_S20x1000x1x3_0_1_3 xv0)) (broadcastInDim S20x1000x1000x3 ![0, 1, 2, 3] bcast_S20x1x1000x3_S20x1000x1000x3_0_1_2_3 (broadcastInDim S20x1x1000x3 ![0, 2, 3] bcast_S20x1000x3_S20x1x1000x3_0_2_3 xv0)))) (constant S_ .f32 0x00000000#32) reducesTo_S20x1000x1000x3_S20x1000x1000_d3 h_S_) (broadcastInDim S20x1000x1000 ![0, 1, 2] bcast_S1x1000x1000_S20x1000x1000_0_1_2 (mulf (broadcastInDim S1x1000x1000 ![1, 2] bcast_S1000x1000_S1x1000x1000_1_2 (uitofp .f32 (cmpi .eq (addi (iotaInDim S1000x1000 32 0) (broadcastInDim S1000x1000 ![] bcast_S_S1000x1000 (constantI S_ 32 0#32))) (iotaInDim S1000x1000 32 1)))) (broadcastInDim S1x1000x1000 ![] bcast_S_S1x1000x1000 (constant S_ .f32 0x4E6E6B28#32)))))) sliceFits_S20x1000x1000_S20x1000x15).2)

/-- `main_v47` from what its operations read. -/
def R2 (xindices : IVec S20x1000x15 32) : IVec S20000x15 32 :=
  (shapeCast S20000x15 (addi xindices (broadcastInDim S20x1000x15 ![0, 1, 2] bcast_S20x1x1_S20x1000x15_0_1_2 (broadcastInDim S20x1x1 ![0] bcast_S20_S20x1x1_0 (muli (iotaInDim S20 32 0) (broadcastInDim S20 ![] bcast_S_S20 (constantI S_ 32 1000#32)))))) shapeCasts_S20x1000x15_S20000x15)

/-- `main_v57` from what its operations read. -/
def R3 (xarg0 : FVec F S20000x3 .f32) (xv47 : IVec S20000x15 32) : FVec F S20000x15x3 .f32 :=
  (subf (Host.gather gather_S20000x3_S20000x15x1_S20000x15x3_2_0_n_n_0_2_13 xarg0 (broadcastInDim S20000x15x1 ![0, 1] bcast_S20000x15_S20000x15x1_0_1 (select (cmpi .slt xv47 (broadcastInDim S20000x15 ![] bcast_S_S20000x15 (constantI S_ 32 0#32))) (addi xv47 (broadcastInDim S20000x15 ![] bcast_S_S20000x15 (constantI S_ 32 20000#32))) xv47))) (broadcastInDim S20000x15x3 ![0, 1, 2] bcast_S20000x1x3_S20000x15x3_0_1_2 (broadcastInDim S20000x1x3 ![0, 2] bcast_S20000x3_S20000x1x3_0_2 xarg0)))

/-- `main_v87` from what its operations read. -/
def R4 (xarg3 : FVec F S10x5x3 .f32) (xv57 : FVec F S20000x15x3 .f32) : FVec F S20000x30 .f32 :=
  (Host.divf (broadcastInDim S20000x30 ![] bcast_S_S20000x30 (constant S_ .f32 0x3F800000#32)) (addf (broadcastInDim S20000x30 ![] bcast_S_S20000x30 (constant S_ .f32 0x3F800000#32)) (Host.exp (Host.negf (shapeCast S20000x30 (Host.divf (Host.reduceAdd (transpose S20000x15x10x3 [2, 3, 1, 0] (Host.dotGeneral dot_S10x5x3_S20000x15x3x5_S3x10x20000x15_1_3_0_01_2_2 none xarg3 (maximumf (subf (broadcastInDim S20000x15x3x5 ![] bcast_S_S20000x15x3x5 (constant S_ .f32 0x3F800000#32)) (Host.absf (subf (broadcastInDim S20000x15x3x5 ![0, 1, 2, 3] bcast_S20000x15x3x1_S20000x15x3x5_0_1_2_3 (broadcastInDim S20000x15x3x1 ![0, 1, 2] bcast_S20000x15x3_S20000x15x3x1_0_1_2 (mulf (mulf (addf (Host.tanh xv57) (broadcastInDim S20000x15x3 ![] bcast_S_S20000x15x3 (constant S_ .f32 0x3F800000#32))) (broadcastInDim S20000x15x3 ![] bcast_S_S20000x15x3 (constant S_ .f32 0x3F000000#32))) (broadcastInDim S20000x15x3 ![] bcast_S_S20000x15x3 (constant S_ .f32 0x40800000#32))))) (broadcastInDim S20000x15x3x5 ![0, 1, 2, 3] bcast_S1x1x1x5_S20000x15x3x5_0_1_2_3 (broadcastInDim S1x1x1x5 ![3] bcast_S5_S1x1x1x5_3 (sitofp .f32 (iotaInDim S5 32 0))))))) (broadcastInDim S20000x15x3x5 ![] bcast_S_S20000x15x3x5 (constant S_ .f32 0x00000000#32)))) transposes_S3x10x20000x15_S20000x15x10x3_2_3_1_0) (constant S_ .f32 0x00000000#32) reducesTo_S20000x15x10x3_S20000x10x3_d1 h_S_) (broadcastInDim S20000x10x3 ![] bcast_S_S20000x10x3 (constant S_ .f32 0x41700000#32))) shapeCasts_S20000x10x3_S20000x30)))))

/-- `main_v95` from what its operations read. -/
def R5 (xv87 : FVec F S20000x30 .f32) (xv47 : IVec S20000x15 32) (xv57 : FVec F S20000x15x3 .f32) : FVec F S20000x15x33 .f32 :=
  (concatenate S20000x15x33 2 [⟨S20000x15x30, (Host.gather gather_S20000x30_S20000x15x1_S20000x15x30_2_0_n_n_0_2_130 xv87 (broadcastInDim S20000x15x1 ![0, 1] bcast_S20000x15_S20000x15x1_0_1 (select (cmpi .slt xv47 (broadcastInDim S20000x15 ![] bcast_S_S20000x15 (constantI S_ 32 0#32))) (addi xv47 (broadcastInDim S20000x15 ![] bcast_S_S20000x15 (constantI S_ 32 20000#32))) xv47)))⟩, ⟨S20000x15x3, xv57⟩] concatenates_S20000x15x30_S20000x15x3_S20000x15x33_d2)

/-- `main_v114` from what its operations read. -/
def R6 (xv95 : FVec F S20000x15x33 .f32) (xarg4 : FVec F S33x20 .f32) (xarg5 : FVec F S20 .f32) (xarg6 : FVec F S20x20 .f32) (xarg7 : FVec F S20 .f32) : FVec F S20000x20 .f32 :=
  (Host.divf (broadcastInDim S20000x20 ![] bcast_S_S20000x20 (constant S_ .f32 0x3F800000#32)) (addf (broadcastInDim S20000x20 ![] bcast_S_S20000x20 (constant S_ .f32 0x3F800000#32)) (Host.exp (Host.negf (Host.reduce FloatOps.maximumf (maximumf (addf (Host.dotGeneral dot_S20000x15x20_S20x20_S20000x15x20_2_0_01_1_n_n none (maximumf (addf (Host.dotGeneral dot_S20000x15x33_S33x20_S20000x15x20_2_0_01_1_n_n none xv95 xarg4) (broadcastInDim S20000x15x20 ![0, 1, 2] bcast_S1x1x20_S20000x15x20_0_1_2 (broadcastInDim S1x1x20 ![2] bcast_S20_S1x1x20_2 xarg5))) (broadcastInDim S20000x15x20 ![] bcast_S_S20000x15x20 (constant S_ .f32 0x00000000#32))) xarg6) (broadcastInDim S20000x15x20 ![0, 1, 2] bcast_S1x1x20_S20000x15x20_0_1_2 (broadcastInDim S1x1x20 ![2] bcast_S20_S1x1x20_2 xarg7))) (broadcastInDim S20000x15x20 ![] bcast_S_S20000x15x20 (constant S_ .f32 0x00000000#32))) (constant S_ .f32 0xFF800000#32) reducesTo_S20000x15x20_S20000x20_d1 h_S_)))))

/-- `main_indices_31` from what its operations read. -/
def R7 (xv21 : FVec F S4000x3 .f32) : IVec S20x200x15 32 :=
  ((Host.topK S20x200x15 2 (FloatOps.cmpfTotal .gt) (Host.negf (addf (Host.reduceAdd (mulf (subf (broadcastInDim S20x200x200x3 ![0, 1, 2, 3] bcast_S20x200x1x3_S20x200x200x3_0_1_2_3 (broadcastInDim S20x200x1x3 ![0, 1, 3] bcast_S20x200x3_S20x200x1x3_0_1_3 (shapeCast S20x200x3 xv21 shapeCasts_S4000x3_S20x200x3))) (broadcastInDim S20x200x200x3 ![0, 1, 2, 3] bcast_S20x1x200x3_S20x200x200x3_0_1_2_3 (broadcastInDim S20x1x200x3 ![0, 2, 3] bcast_S20x200x3_S20x1x200x3_0_2_3 (shapeCast S20x200x3 xv21 shapeCasts_S4000x3_S20x200x3)))) (subf (broadcastInDim S20x200x200x3 ![0, 1, 2, 3] bcast_S20x200x1x3_S20x200x200x3_0_1_2_3 (broadcastInDim S20x200x1x3 ![0, 1, 3] bcast_S20x200x3_S20x200x1x3_0_1_3 (shapeCast S20x200x3 xv21 shapeCasts_S4000x3_S20x200x3))) (broadcastInDim S20x200x200x3 ![0, 1, 2, 3] bcast_S20x1x200x3_S20x200x200x3_0_1_2_3 (broadcastInDim S20x1x200x3 ![0, 2, 3] bcast_S20x200x3_S20x1x200x3_0_2_3 (shapeCast S20x200x3 xv21 shapeCasts_S4000x3_S20x200x3))))) (constant S_ .f32 0x00000000#32) reducesTo_S20x200x200x3_S20x200x200_d3 h_S_) (broadcastInDim S20x200x200 ![0, 1, 2] bcast_S1x200x200_S20x200x200_0_1_2 (mulf (broadcastInDim S1x200x200 ![1, 2] bcast_S200x200_S1x200x200_1_2 (uitofp .f32 (cmpi .eq (addi (iotaInDim S200x200 32 0) (broadcastInDim S200x200 ![] bcast_S_S200x200 (constantI S_ 32 0#32))) (iotaInDim S200x200 32 1)))) (broadcastInDim S1x200x200 ![] bcast_S_S1x200x200 (constant S_ .f32 0x4E6E6B28#32)))))) sliceFits_S20x200x200_S20x200x15).2)

/-- `main_v141` from what its operations read. -/
def R8 (xindices_31 : IVec S20x200x15 32) : IVec S4000x15 32 :=
  (shapeCast S4000x15 (addi xindices_31 (broadcastInDim S20x200x15 ![0, 1, 2] bcast_S20x1x1_S20x200x15_0_1_2 (broadcastInDim S20x1x1 ![0] bcast_S20_S20x1x1_0 (muli (iotaInDim S20 32 0) (broadcastInDim S20 ![] bcast_S_S20 (constantI S_ 32 200#32)))))) shapeCasts_S20x200x15_S4000x15)

/-- `main_v148` from what its operations read. -/
def R9 (xv114 : FVec F S20000x20 .f32) (xv141 : IVec S4000x15 32) : FVec F S4000x15x20 .f32 :=
  (Host.gather gather_S20000x20_S4000x15x1_S4000x15x20_2_0_n_n_0_2_120 xv114 (broadcastInDim S4000x15x1 ![0, 1] bcast_S4000x15_S4000x15x1_0_1 (select (cmpi .slt xv141 (broadcastInDim S4000x15 ![] bcast_S_S4000x15 (constantI S_ 32 0#32))) (addi xv141 (broadcastInDim S4000x15 ![] bcast_S_S4000x15 (constantI S_ 32 20000#32))) xv141)))

/-- `main_v149` from what its operations read. -/
def R10a (xv114 : FVec F S20000x20 .f32) : FVec F S4000x20 .f32 :=
  (extractStridedSlice S4000x20 ![0, 0] xv114 slices_S20000x20_S4000x20_0_0)

/-- `main_v152` from what its operations read. -/
def R10b (xv148 : FVec F S4000x15x20 .f32) : FVec F S4000x20 .f32 :=
  (Host.divf (Host.reduceAdd xv148 (constant S_ .f32 0x00000000#32) reducesTo_S4000x15x20_S4000x20_d1 h_S_) (broadcastInDim S4000x20 ![] bcast_S_S4000x20 (constant S_ .f32 0x41700000#32)))

/-- `main_v153` from what its operations read. -/
def R10c (xv148 : FVec F S4000x15x20 .f32) : FVec F S4000x20 .f32 :=
  (Host.reduce FloatOps.maximumf xv148 (constant S_ .f32 0xFF800000#32) reducesTo_S4000x15x20_S4000x20_d1 h_S_)

/-- `main_v154` from what its operations read. -/
def R11 (xv149 : FVec F S4000x20 .f32) (xv152 : FVec F S4000x20 .f32) (xv153 : FVec F S4000x20 .f32) : FVec F S4000x60 .f32 :=
  (concatenate S4000x60 1 [⟨S4000x20, xv149⟩, ⟨S4000x20, xv152⟩, ⟨S4000x20, xv153⟩] concatenates_S4000x20_S4000x20_S4000x20_S4000x60_d1)

/-- `main_v176` from what its operations read. -/
def R12 (xv154 : FVec F S4000x60 .f32) (xarg8 : FVec F S60x64 .f32) (xarg9 : FVec F S64 .f32) (xarg10 : FVec F S64x32 .f32) (xarg11 : FVec F S32 .f32) : FVec F S20x32 .f32 :=
  (Host.divf (Host.reduceAdd (shapeCast S20x200x32 (Host.divf (broadcastInDim S4000x32 ![] bcast_S_S4000x32 (constant S_ .f32 0x3F800000#32)) (addf (broadcastInDim S4000x32 ![] bcast_S_S4000x32 (constant S_ .f32 0x3F800000#32)) (Host.exp (Host.negf (maximumf (addf (Host.dotGeneral dot_S4000x64_S64x32_S4000x32_1_0_0_1_n_n none (maximumf (addf (Host.dotGeneral dot_S4000x60_S60x64_S4000x64_1_0_0_1_n_n none xv154 xarg8) (broadcastInDim S4000x64 ![0, 1] bcast_S1x64_S4000x64_0_1 (broadcastInDim S1x64 ![1] bcast_S64_S1x64_1 xarg9))) (broadcastInDim S4000x64 ![] bcast_S_S4000x64 (constant S_ .f32 0x00000000#32))) xarg10) (broadcastInDim S4000x32 ![0, 1] bcast_S1x32_S4000x32_0_1 (broadcastInDim S1x32 ![1] bcast_S32_S1x32_1 xarg11))) (broadcastInDim S4000x32 ![] bcast_S_S4000x32 (constant S_ .f32 0x00000000#32))))))) shapeCasts_S4000x32_S20x200x32) (constant S_ .f32 0x00000000#32) reducesTo_S20x200x32_S20x32_d1 h_S_) (broadcastInDim S20x32 ![] bcast_S_S20x32 (constant S_ .f32 0x43480000#32)))

/-- `main_v200` from what its operations read. -/
def R13 (xv176 : FVec F S20x32 .f32) (xarg12 : FVec F S32x256 .f32) (xarg13 : FVec F S256 .f32) (xarg14 : FVec F S256x40 .f32) (xarg15 : FVec F S40 .f32) : FVec F S20x40 .f32 :=
  (subf (subf (addf (Host.dotGeneral dot_S20x256_S256x40_S20x40_1_0_0_1_n_n none (select (cmpf .ogt (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))) (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (Host.expm1 (minimumf (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))))) xarg14) (broadcastInDim S20x40 ![0, 1] bcast_S1x40_S20x40_0_1 (broadcastInDim S1x40 ![1] bcast_S40_S1x40_1 xarg15))) (broadcastInDim S20x40 ![0, 1] bcast_S20x1_S20x40_0_1 (broadcastInDim S20x1 ![0] bcast_S20_S20x1_0 (Host.reduce FloatOps.maximumf (addf (Host.dotGeneral dot_S20x256_S256x40_S20x40_1_0_0_1_n_n none (select (cmpf .ogt (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))) (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (Host.expm1 (minimumf (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))))) xarg14) (broadcastInDim S20x40 ![0, 1] bcast_S1x40_S20x40_0_1 (broadcastInDim S1x40 ![1] bcast_S40_S1x40_1 xarg15))) (constant S_ .f32 0xFF800000#32) reducesTo_S20x40_S20_d1 h_S_)))) (broadcastInDim S20x40 ![0, 1] bcast_S20x1_S20x40_0_1 (Host.log (broadcastInDim S20x1 ![0] bcast_S20_S20x1_0 (Host.reduceAdd (Host.exp (subf (addf (Host.dotGeneral dot_S20x256_S256x40_S20x40_1_0_0_1_n_n none (select (cmpf .ogt (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))) (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (Host.expm1 (minimumf (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))))) xarg14) (broadcastInDim S20x40 ![0, 1] bcast_S1x40_S20x40_0_1 (broadcastInDim S1x40 ![1] bcast_S40_S1x40_1 xarg15))) (broadcastInDim S20x40 ![0, 1] bcast_S20x1_S20x40_0_1 (broadcastInDim S20x1 ![0] bcast_S20_S20x1_0 (Host.reduce FloatOps.maximumf (addf (Host.dotGeneral dot_S20x256_S256x40_S20x40_1_0_0_1_n_n none (select (cmpf .ogt (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))) (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (Host.expm1 (minimumf (addf (Host.dotGeneral dot_S20x32_S32x256_S20x256_1_0_0_1_n_n none xv176 xarg12) (broadcastInDim S20x256 ![0, 1] bcast_S1x256_S20x256_0_1 (broadcastInDim S1x256 ![1] bcast_S256_S1x256_1 xarg13))) (broadcastInDim S20x256 ![] bcast_S_S20x256 (constant S_ .f32 0x00000000#32))))) xarg14) (broadcastInDim S20x40 ![0, 1] bcast_S1x40_S20x40_0_1 (broadcastInDim S1x40 ![1] bcast_S40_S1x40_1 xarg15))) (constant S_ .f32 0xFF800000#32) reducesTo_S20x40_S20_d1 h_S_))))) (constant S_ .f32 0x00000000#32) reducesTo_S20x40_S20_d1 h_S_)))))

end Cert.Proof.Post

end
-- ==== Proof.RL.lean ====
module

public import proofs.«01_k».proof.Proof.PostDefs
public import proofs.«01_k».proof.Proof.Spec
public import Idealize.ShloMosaic.Lib.Pointwise

@[expose] public section
set_option maxRecDepth 16384
noncomputable section
namespace Cert.Proof.RL
open Cert.ReferenceIdeal Cert.ReferenceIdeal.Gen Cert.Proof.Post Cert.Proof.Spec Cert.Proof.Sel
open Idealize.ShloMosaic Idealize.ShloMosaic.TcCoe

/-- Rows taken by a column of words. -/
@[reducible] def take2 (N D R : ℕ) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndexMap := [0]
  startIndicesBatchingDims := []
  indexVectorDim := 1
  sliceSizes := ![1, D]
  wf := wf

/-- Rows taken by a table of words. -/
@[reducible] def take3 (N D R C : ℕ) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndexMap := [0]
  startIndicesBatchingDims := []
  indexVectorDim := 2
  sliceSizes := ![1, D]
  wf := wf

theorem word_nat (N m : ℕ) (h : m < N) (hb : N < 2147483648) : min (BitVec.ofNat 32 m).toInt.toNat (N - 1) = m := by
  have : (BitVec.ofNat 32 m).toInt = (m : ℤ) := by
    rw [BitVec.toInt_eq_toNat_of_lt] <;> rw [BitVec.toNat_ofNat, Nat.mod_eq_of_lt] <;> omega
  rw [this]
  omega

theorem take2_apply {α : Type} {N D R : ℕ} (wf) (x : (⟨2, ![N, D]⟩ : Shape).Idx → α) (w : IVec ⟨2, ![R, 1]⟩ 32)
    (r : Fin R) (d : Fin D) (m : Fin N) (hm : w (ix2 r 0) = BitVec.ofNat 32 m.val) (hb : N < 2147483648) :
    Host.gather (take2 N D R wf) x w (ix2 r d) = x (ix2 m d) := by
  unfold Host.gather
  have hs : ∀ c, (take2 N D R wf).siIdx (ix2 r d) c = ix2 r 0 := fun c => by
    funext b; refine Fin.ext ?_
    match b with
    | ⟨0, _⟩ => rfl
    | ⟨1, _⟩ => have := c.isLt; simp [GatherDims.siIdx]
  have h0 : (take2 N D R wf).start (ix2 r d) w (0 : Fin 2) = m.val := by
    unfold GatherDims.start
    rw [dif_pos (show (0 : Fin 2) ∈ (take2 N D R wf).startIndexMap from List.mem_singleton.mpr rfl), hs, hm]
    exact word_nat N m.val m.isLt hb
  have h1 : (take2 N D R wf).start (ix2 r d) w (1 : Fin 2) = 0 := by
    unfold GatherDims.start
    rw [dif_neg (show ¬ (1 : Fin 2) ∈ (take2 N D R wf).startIndexMap from by simp)]
  have o0 : (take2 N D R wf).offCoord (ix2 r d) (0 : Fin 2) = 0 :=
    GatherDims.offCoord_eq_zero _ _ _ (fun h => ((GatherDims.mem_sKept _ _).mp h).1 (List.mem_singleton.mpr rfl))
  have o1 : (take2 N D R wf).offCoord (ix2 r d) (1 : Fin 2) = d.val := rfl
  refine congrArg x (funext fun a => Fin.ext ?_)
  show (take2 N D R wf).start _ w a + (take2 N D R wf).batchCoord _ a + (take2 N D R wf).offCoord _ a = _
  rw [GatherDims.batchCoord_eq_zero _ _ _ List.not_mem_nil, Nat.add_zero]
  match a with
  | ⟨0, _⟩ => exact (congrArg₂ (· + ·) h0 o0).trans (Nat.add_zero _)
  | ⟨1, _⟩ => exact (congrArg₂ (· + ·) h1 o1).trans (Nat.zero_add _)

theorem take3_apply {α : Type} {N D R C : ℕ} (wf) (x : (⟨2, ![N, D]⟩ : Shape).Idx → α) (w : IVec ⟨3, ![R, C, 1]⟩ 32)
    (r : Fin R) (c : Fin C) (d : Fin D) (m : Fin N) (hm : w (ix3 r c 0) = BitVec.ofNat 32 m.val) (hb : N < 2147483648) :
    Host.gather (take3 N D R C wf) x w (ix3 r c d) = x (ix2 m d) := by
  unfold Host.gather
  have hs : ∀ k, (take3 N D R C wf).siIdx (ix3 r c d) k = ix3 r c 0 := fun k => by
    funext b; refine Fin.ext ?_
    match b with
    | ⟨0, _⟩ => rfl
    | ⟨1, _⟩ => rfl
    | ⟨2, _⟩ => have := k.isLt; simp [GatherDims.siIdx]
  have h0 : (take3 N D R C wf).start (ix3 r c d) w (0 : Fin 2) = m.val := by
    unfold GatherDims.start
    rw [dif_pos (show (0 : Fin 2) ∈ (take3 N D R C wf).startIndexMap from List.mem_singleton.mpr rfl), hs, hm]
    exact word_nat N m.val m.isLt hb
  have h1 : (take3 N D R C wf).start (ix3 r c d) w (1 : Fin 2) = 0 := by
    unfold GatherDims.start
    rw [dif_neg (show ¬ (1 : Fin 2) ∈ (take3 N D R C wf).startIndexMap from by simp)]
  have o0 : (take3 N D R C wf).offCoord (ix3 r c d) (0 : Fin 2) = 0 :=
    GatherDims.offCoord_eq_zero _ _ _ (fun h => ((GatherDims.mem_sKept _ _).mp h).1 (List.mem_singleton.mpr rfl))
  have o1 : (take3 N D R C wf).offCoord (ix3 r c d) (1 : Fin 2) = d.val := rfl
  refine congrArg x (funext fun a => Fin.ext ?_)
  show (take3 N D R C wf).start _ w a + (take3 N D R C wf).batchCoord _ a + (take3 N D R C wf).offCoord _ a = _
  rw [GatherDims.batchCoord_eq_zero _ _ _ List.not_mem_nil, Nat.add_zero]
  match a with
  | ⟨0, _⟩ => exact (congrArg₂ (· + ·) h0 o0).trans (Nat.add_zero _)
  | ⟨1, _⟩ => exact (congrArg₂ (· + ·) h1 o1).trans (Nat.zero_add _)

theorem gt_eq (a b : EReal) : (FloatOps.cmpfTotal (F := Ideal) (φ := .f32) .gt a b == 1#1) = decide (b < a) := by
  show (BitVec.ofBool (decide (b < a)) == 1#1) = _
  by_cases h : b < a <;> simp [h]

/-- The places of the largest entries along the last axis of a table of three axes. -/
theorem topK3 {G n N K : ℕ} [NeZero N] (x : FVec Ideal ⟨3, ![G, n, N]⟩ .f32) (h : (⟨3, ![G, n, N]⟩ : Shape).Slices (fun _ => 0) ⟨3, ![G, n, K]⟩)
    (hK : K ≤ N) (g : Fin G) (i : Fin n) (k : Fin K) (c : Fin N → EReal) (hx : ∀ j, x (ix3 g i j) = - c j)
    (hc : 1 < K → ∀ j, c j < ⊤) :
    (Host.topK (s := ⟨3, ![G, n, N]⟩) ⟨3, ![G, n, K]⟩ 2 (FloatOps.cmpfTotal (F := Ideal) (φ := .f32) .gt) x h).2 (ix3 g i k)
      = BitVec.ofNat 32 (sel c k.val).val := by
  rw [← sortedFrom_eq_sel c hc (fun a b => FloatOps.cmpfTotal (F := Ideal) (φ := .f32) .gt (x (ix3 g i a)) (x (ix3 g i b)) == 1#1)
    (fun a b => by rw [gt_eq, hx, hx]; exact decide_eq_decide.mpr EReal.neg_lt_neg_iff) hK k]
  have e3 : ∀ (J : (⟨3, ![G, n, N]⟩ : Shape).Idx), J = ix3 g i (k.castLE hK) → ((Host.sort2 (⟨3, ![G, n, N]⟩ : Shape) 2
      (fun l r : EReal × BitVec 32 => FloatOps.cmpfTotal (F := Ideal) (φ := .f32) .gt l.1 r.1) x (fun i => iotaInDim _ 32 2 i)).2 J
      = BitVec.ofNat 32 (sortedFrom (fun a b => FloatOps.cmpfTotal (F := Ideal) (φ := .f32) .gt (x (ix3 g i a)) (x (ix3 g i b)) == 1#1) (k.castLE hK)).val) := by
    rintro J rfl
    have ha : ∀ a : Fin N, (ix3 g i (k.castLE hK)).along (s := ⟨3, ![G, n, N]⟩) 2 a = ix3 g i a := fun a => by
      funext b
      match b with
      | ⟨0, _⟩ => rfl
      | ⟨1, _⟩ => rfl
      | ⟨2, _⟩ => rfl
    unfold Host.sort2
    rw [dif_pos (show 2 < (⟨3, ![G, n, N]⟩ : Shape).rank from (by decide : 2 < 3))]
    have hB : (fun a b => FloatOps.cmpfTotal (F := Ideal) (φ := .f32) .gt (x ((ix3 g i (k.castLE hK)).along (s := ⟨3, ![G, n, N]⟩) 2 a)) (x ((ix3 g i (k.castLE hK)).along (s := ⟨3, ![G, n, N]⟩) 2 b)) == 1#1)
        = fun a b => FloatOps.cmpfTotal (F := Ideal) (φ := .f32) .gt (x (ix3 g i a)) (x (ix3 g i b)) == 1#1 :=
      funext fun a => funext fun b => congrArg₂ (fun p q => FloatOps.cmpfTotal (F := Ideal) (φ := .f32) .gt (x p) (x q) == 1#1) (ha a) (ha b)
    exact (congrArg (fun B => iotaInDim ⟨3, ![G, n, N]⟩ 32 2 ((ix3 g i (k.castLE hK)).along (s := ⟨3, ![G, n, N]⟩) 2 (sortedFrom B (k.castLE hK)))) hB).trans
      (congrArg (fun q => iotaInDim ⟨3, ![G, n, N]⟩ 32 2 q) (ha _))
  refine e3 _ ?_
  funext b
  refine Fin.ext ?_
  match b with
  | ⟨0, _⟩ => exact Nat.zero_add _
  | ⟨1, _⟩ => exact Nat.zero_add _
  | ⟨2, _⟩ => exact Nat.zero_add _

/-- The places of the largest entries along the last axis of a table of two axes. -/
theorem topK2 {G N K : ℕ} [NeZero N] (x : FVec Ideal ⟨2, ![G, N]⟩ .f32) (h : (⟨2, ![G, N]⟩ : Shape).Slices (fun _ => 0) ⟨2, ![G, K]⟩)
    (hK : K ≤ N) (g : Fin G) (k : Fin K) (c : Fin N → EReal) (hx : ∀ j, x (ix2 g j) = - c j)
    (hc : 1 < K → ∀ j, c j < ⊤) :
    (Host.topK (s := ⟨2, ![G, N]⟩) ⟨2, ![G, K]⟩ 1 (FloatOps.cmpfTotal (F := Ideal) (φ := .f32) .gt) x h).2 (ix2 g k)
      = BitVec.ofNat 32 (sel c k.val).val := by
  rw [← sortedFrom_eq_sel c hc (fun a b => FloatOps.cmpfTotal (F := Ideal) (φ := .f32) .gt (x (ix2 g a)) (x (ix2 g b)) == 1#1)
    (fun a b => by rw [gt_eq, hx, hx]; exact decide_eq_decide.mpr EReal.neg_lt_neg_iff) hK k]
  have e3 : ∀ (J : (⟨2, ![G, N]⟩ : Shape).Idx), J = ix2 g (k.castLE hK) → ((Host.sort2 (⟨2, ![G, N]⟩ : Shape) 1
      (fun l r : EReal × BitVec 32 => FloatOps.cmpfTotal (F := Ideal) (φ := .f32) .gt l.1 r.1) x (fun i => iotaInDim _ 32 1 i)).2 J
      = BitVec.ofNat 32 (sortedFrom (fun a b => FloatOps.cmpfTotal (F := Ideal) (φ := .f32) .gt (x (ix2 g a)) (x (ix2 g b)) == 1#1) (k.castLE hK)).val) := by
    rintro J rfl
    have ha : ∀ a : Fin N, (ix2 g (k.castLE hK)).along (s := ⟨2, ![G, N]⟩) 1 a = ix2 g a := fun a => by
      funext b
      match b with
      | ⟨0, _⟩ => rfl
      | ⟨1, _⟩ => rfl
    unfold Host.sort2
    rw [dif_pos (show 1 < (⟨2, ![G, N]⟩ : Shape).rank from (by decide : 1 < 2))]
    have hB : (fun a b => FloatOps.cmpfTotal (F := Ideal) (φ := .f32) .gt (x ((ix2 g (k.castLE hK)).along (s := ⟨2, ![G, N]⟩) 1 a)) (x ((ix2 g (k.castLE hK)).along (s := ⟨2, ![G, N]⟩) 1 b)) == 1#1)
        = fun a b => FloatOps.cmpfTotal (F := Ideal) (φ := .f32) .gt (x (ix2 g a)) (x (ix2 g b)) == 1#1 :=
      funext fun a => funext fun b => congrArg₂ (fun p q => FloatOps.cmpfTotal (F := Ideal) (φ := .f32) .gt (x p) (x q) == 1#1) (ha a) (ha b)
    exact (congrArg (fun B => iotaInDim ⟨2, ![G, N]⟩ 32 1 ((ix2 g (k.castLE hK)).along (s := ⟨2, ![G, N]⟩) 1 (sortedFrom B (k.castLE hK)))) hB).trans
      (congrArg (fun q => iotaInDim ⟨2, ![G, N]⟩ 32 1 q) (ha _))
  refine e3 _ ?_
  funext b
  refine Fin.ext ?_
  match b with
  | ⟨0, _⟩ => exact Nat.zero_add _
  | ⟨1, _⟩ => exact Nat.zero_add _

end Cert.Proof.RL
end
-- ==== Proof.RW.lean ====
module

public import proofs.«01_k».proof.Proof.PostDefs
public import proofs.«01_k».proof.Proof.RL
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

/-- A row's graph and its point there. -/
abbrev gr (R : Fin 20000) : Fin 20 := ⟨R.val / 1000, by omega⟩
abbrev pr (R : Fin 20000) : Fin 1000 := ⟨R.val % 1000, by omega⟩
abbrev gs (R : Fin 4000) : Fin 20 := ⟨R.val / 200, by omega⟩
abbrev ps (R : Fin 4000) : Fin 200 := ⟨R.val % 200, by omega⟩

theorem sel_nonneg (m : ℕ) (h : m < 2147483648) (y : BitVec 32) :
    Scalar.select (IntOp.cmpi .slt (BitVec.ofNat 32 m) 0#32) y (BitVec.ofNat 32 m) = BitVec.ofNat 32 m := by
  have e : (BitVec.ofNat 32 m).slt 0#32 = false := by
    have : (BitVec.ofNat 32 m).toInt = (m : ℤ) := by
      rw [BitVec.toInt_eq_toNat_of_lt] <;> rw [BitVec.toNat_ofNat, Nat.mod_eq_of_lt] <;> omega
    simp [BitVec.slt, this]
  simp [Scalar.select, IntOp.cmpi, e]

theorem word_add (a b c : ℕ) : IntOp.addi (BitVec.ofNat 32 a) (IntOp.muli (BitVec.ofNat 32 b) (BitVec.ofNat 32 c)) = BitVec.ofNat 32 (b * c + a) := by
  simp only [IntOp.addi, IntOp.muli, ← BitVec.ofNat_mul, ← BitVec.ofNat_add, Nat.add_comm]

theorem word_add' (a b c : ℕ) : IntOp.addi (BitVec.ofNat 32 a) (IntOp.muli (BitVec.ofNat 32 b) (BitVec.ofNat 32 c)) = BitVec.ofNat 32 (b * c + a) := word_add a b c

theorem word_zero (w : BitVec 32) : IntOp.addi w 0#32 = w := by simp [IntOp.addi]

theorem bit_eq {n : ℕ} (i j : Fin n) (hn : n < 4294967296 := by decide) :
    FloatOps.uitofp (F := Ideal) .f32 (IntOp.cmpi .eq (BitVec.ofNat 32 i.val) (BitVec.ofNat 32 j.val)) = if i = j then 1 else 0 := by
  by_cases e : i = j
  · simp [e, IntOp.cmpi, FloatOps.uitofp]
  · have : BitVec.ofNat 32 i.val ≠ BitVec.ofNat 32 j.val := fun h => e (Fin.ext (by
      have := congrArg BitVec.toNat h
      rw [BitVec.toNat_ofNat, BitVec.toNat_ofNat, Nat.mod_eq_of_lt (by omega), Nat.mod_eq_of_lt (by omega)] at this
      exact this))
    simp [e, this, IntOp.cmpi, FloatOps.uitofp]

end Cert.Proof.RA

end
-- ==== Proof.RLoop.lean ====
module

public import proofs.«01_k».proof.Proof.RW
public import proofs.«01_k».proof.Proof.Gen.ReferenceIdeal.Run
public import Idealize.ShloMosaic.Lib.Pointwise

/-! The reference's loop chooses the farthest points. -/

@[expose] public section

set_option maxRecDepth 16384

noncomputable section

namespace Cert.Proof.RLoop

open Cert.ReferenceIdeal Cert.ReferenceIdeal.Gen Cert.ReferenceIdeal.Value Cert.Proof.Spec Cert.Proof.Sel Cert.Proof.RL Cert.Proof.RA
open Idealize.ShloMosaic Idealize.ShloMosaic.TcCoe Idealize.ShloMosaic.StableHlo

/-- The words of the farthest points. -/
def idxL (md : FVec Ideal S20x1000 .f32) : IVec S20 32 :=
  shapeCast S20 ((Host.topK S20x1 1 (FloatOps.cmpfTotal (F := Ideal) (φ := .f32) .gt) md sliceFits_S20x1000_S20x1).2) shapeCasts_S20x1_S20
/-- Their rows. -/
def rowL (md : FVec Ideal S20x1000 .f32) : IVec S20 32 :=
  addi (idxL md) (muli (iotaInDim S20 32 0) (broadcastInDim S20 ![] bcast_S_S20 (constantI S_ 32 1000#32)))
/-- The chosen points' coordinates. -/
def pickL (pos : FVec Ideal S20x1000x3 .f32) (r : IVec S20 32) : FVec Ideal S20x3 .f32 :=
  Host.gather gather_S20000x3_S20x1_S20x3_1_0_n_n_0_1_13 (shapeCast S20000x3 pos shapeCasts_S20x1000x3_S20000x3) (broadcastInDim S20x1 ![0] bcast_S20_S20x1_0 (select (cmpi .slt r (broadcastInDim S20 ![] bcast_S_S20 (constantI S_ 32 0#32))) (addi r (broadcastInDim S20 ![] bcast_S_S20 (constantI S_ 32 20000#32))) r))
/-- The differences from the chosen points. -/
def diffL (pos : FVec Ideal S20x1000x3 .f32) (p : FVec Ideal S20x3 .f32) : FVec Ideal S20x1000x3 .f32 :=
  subf pos (broadcastInDim S20x1000x3 ![0, 1, 2] bcast_S20x1x3_S20x1000x3_0_1_2 (broadcastInDim S20x1x3 ![0, 2] bcast_S20x3_S20x1x3_0_2 p))
/-- The distances left. -/
def minL (md : FVec Ideal S20x1000 .f32) (d : FVec Ideal S20x1000x3 .f32) : FVec Ideal S20x1000 .f32 :=
  minimumf md (Host.reduceAdd (mulf d d) (constant S_ .f32 0x00000000#32) reducesTo_S20x1000x3_S20x1000_d2 h_S_)
/-- The table of choices with a column put in. -/
def putL (t : IVec S20x200 32) (x : IVec S20 32) (c : IVec S_ 32) : IVec S20x200 32 :=
  Host.dynamicUpdateSlice t (broadcastInDim S20x1 ![0] bcast_S20_S20x1_0 x) (fun k => (((![constantI S_ 32 0#32, select (cmpi .slt c (constantI S_ 32 0#32)) (addi (id c) (constantI S_ 32 200#32)) c] : Fin 2 → IVec S_ 32)) k (Shape.Idx.first h_S_)).toInt) updateFits_S20x200_S20x1

theorem idxL_eq (md : FVec Ideal S20x1000 .f32) (g : Fin 20) : idxL md (ix1 g) = BitVec.ofNat 32 (far fun l : Fin 1000 => md (ix2 g l)).val := by
  pointwise [idxL]
  exact topK2 md _ (by decide) g 0 (fun l : Fin 1000 => - md (ix2 g l)) (fun j => (neg_neg _).symm) (fun h => absurd h (by decide))

theorem rowL_eq (md : FVec Ideal S20x1000 .f32) (g : Fin 20) :
    rowL md (ix1 g) = BitVec.ofNat 32 (g.val * 1000 + (far fun l : Fin 1000 => md (ix2 g l)).val) := by
  pointwise [rowL]
  rw [idxL_eq, word_add]

theorem pickL_eq (pos : FVec Ideal S20x1000x3 .f32) (r : IVec S20 32) (g : Fin 20) (j : Fin 1000) (hr : r (ix1 g) = BitVec.ofNat 32 (g.val * 1000 + j.val)) (a : Fin 3) :
    pickL pos r (ix2 g a) = pos (ix3 g j a) := by
  unfold pickL
  refine (take2_apply _ _ _ g a ⟨g.val * 1000 + j.val, by omega⟩ ?_ (by decide)).trans ?_
  · pointwise []
    rw [hr, sel_nonneg _ (by omega)]
  · pointwise []

theorem minL_eq (md : FVec Ideal S20x1000 .f32) (pos : FVec Ideal S20x1000x3 .f32) (p : FVec Ideal S20x3 .f32) (g : Fin 20) (l : Fin 1000) :
    minL md (diffL pos p) (ix2 g l) = min (md (ix2 g l)) (∑ a, (pos (ix3 g l a) - p (ix2 g a)) * (pos (ix3 g l a) - p (ix2 g a))) := by
  pointwise [minL, diffL]

theorem putL_eq (t : IVec S20x200 32) (x : IVec S20 32) (c : IVec S_ 32) (q : ℕ) (hq : q < 200) (hc : c = fun _ => BitVec.ofNat 32 q) (g : Fin 20) (l : Fin 200) :
    putL t x c (ix2 g l) = if l.val = q then x (ix1 g) else t (ix2 g l) := by
  subst hc
  have h0 : (0#32 : BitVec 32).toInt = 0 := by decide
  have hs := sel_nonneg q (by omega) (IntOp.addi (BitVec.ofNat 32 q) 200#32)
  have hi : (BitVec.ofNat 32 q).toInt = (q : ℤ) := by
    rw [BitVec.toInt_eq_toNat_of_lt] <;> rw [BitVec.toNat_ofNat, Nat.mod_eq_of_lt] <;> omega
  have hst : (fun k => (((![constantI S_ 32 0#32, select (cmpi .slt (fun _ => BitVec.ofNat 32 q) (constantI S_ 32 0#32)) (addi (id fun _ => BitVec.ofNat 32 q) (constantI S_ 32 200#32)) (fun _ => BitVec.ofNat 32 q)] : Fin 2 → IVec S_ 32)) k (Shape.Idx.first h_S_)).toInt)
      = (![0, (q : ℤ)] : Fin 2 → ℤ) := by
    funext k
    match k with
    | ⟨0, _⟩ => exact h0
    | ⟨1, _⟩ => exact (congrArg BitVec.toInt hs).trans hi
  have hput : putL t x (fun _ => BitVec.ofNat 32 q) = Host.dynamicUpdateSlice t (broadcastInDim S20x1 ![0] bcast_S20_S20x1_0 x) (![0, (q : ℤ)] : Fin 2 → ℤ) updateFits_S20x200_S20x1 :=
    (fun U : IVec S20x1 32 => congrArg (fun st => Host.dynamicUpdateSlice t U st updateFits_S20x200_S20x1) hst) _
  have c0 : ∀ h, Host.clampedStart S20x200 S20x1 h (![0, (q : ℤ)] : Fin 2 → ℤ) 0 = 0 := fun h => by
    show (min (max (0 : ℤ) 0) _).toNat = 0
    simp
  have c1 : ∀ h, Host.clampedStart S20x200 S20x1 h (![0, (q : ℤ)] : Fin 2 → ℤ) 1 = q := fun h => by
    show (min (max (q : ℤ) 0) ((200 - 1 : ℕ) : ℤ)).toNat = q
    omega
  rw [hput]
  pointwise []
  simp only [c0, c1]
  by_cases e : l.val = q
  · rw [dif_pos ⟨Nat.zero_le _, by omega, by omega⟩, if_pos e]
    rfl
  · rw [dif_neg (by omega), if_neg e]

variable (P : Fin 20 → Pts 1000)

/-- What the loop holds before trip `k`. -/
def Inv (k : ℕ) (V : Valuation τ sig (Elt Ideal)) : Prop :=
  (∀ g i a, (V (Proc.devRef .tc main_v7_0) : FVec Ideal S20x1000x3 .f32) (ix3 g i a) = P g i a)
  ∧ (V (Proc.devRef .tc main_v7_2) : IVec S_ 32) = (fun _ => BitVec.ofNat 32 (k + 1))
  ∧ (∀ g l, (V (Proc.devRef .tc main_v7_3) : FVec Ideal S20x1000 .f32) (ix2 g l) = (fps (P g) k).2 l)
  ∧ (∀ (g : Fin 20) (j : Fin 200), j.val ≤ k → (V (Proc.devRef .tc main_v7_4) : IVec S20x200 32) (ix2 g j) = BitVec.ofNat 32 (fps (P g) j.val).1.val)

theorem inv_step (k : ℕ) (hk : k < 199) (V : Valuation τ sig (Elt Ideal)) (h : Inv P k V) : Inv P (k + 1) (STEP V) := by
  obtain ⟨h0, h2, h3, h4⟩ := h
  have hfar : ∀ g, (far fun l : Fin 1000 => (V (Proc.devRef .tc main_v7_3) : FVec Ideal S20x1000 .f32) (ix2 g l)) = (fps (P g) (k + 1)).1 := fun g => by
    rw [show (fun l : Fin 1000 => (V (Proc.devRef .tc main_v7_3) : FVec Ideal S20x1000 .f32) (ix2 g l)) = (fps (P g) k).2 from funext (h3 g)]
    rfl
  refine ⟨fun g i a => ?_, ?_, fun g l => ?_, fun g j hj => ?_⟩
  · rw [STEP_main_v7_0]; exact h0 g i a
  · rw [STEP_main_v7_2]
    funext q
    show IntOp.addi ((V (Proc.devRef .tc main_v7_2) : IVec S_ 32) q) 1#32 = _
    rw [h2]
    simp [IntOp.addi, BitVec.ofNat_add]
  · rw [STEP_main_v7_3]
    show minL (V (Proc.devRef .tc main_v7_3)) (diffL (V (Proc.devRef .tc main_v7_0)) (pickL (V (Proc.devRef .tc main_v7_0)) (rowL (V (Proc.devRef .tc main_v7_3))))) (ix2 g l) = _
    rw [minL_eq, h3 g l, Fin.sum_univ_three]
    have hp : ∀ a, pickL (V (Proc.devRef .tc main_v7_0)) (rowL (V (Proc.devRef .tc main_v7_3))) (ix2 g a) = P g (fps (P g) (k + 1)).1 a := fun a => by
      rw [pickL_eq _ _ g (fps (P g) (k + 1)).1 (by rw [rowL_eq, hfar]) a]
      exact h0 _ _ _
    rw [hp, hp, hp, h0, h0, h0]
    rfl
  · rw [STEP_main_v7_4]
    show putL (V (Proc.devRef .tc main_v7_4)) (idxL (V (Proc.devRef .tc main_v7_3))) (V (Proc.devRef .tc main_v7_2)) (ix2 g j) = _
    rw [putL_eq _ _ _ (k + 1) (by omega) h2]
    by_cases e : j.val = k + 1
    · rw [if_pos e, idxL_eq, hfar, e]
    · rw [if_neg e]; exact h4 g j (by omega)

theorem inv_iter (V : Valuation τ sig (Elt Ideal)) (h : Inv P 0 V) : ∀ k, k ≤ 199 → Inv P k (STEP^[k] V)
  | 0, _ => h
  | k + 1, hk => by
    rw [Function.iterate_succ_apply']
    exact inv_step P k (by omega) _ (inv_iter V h k (by omega))

/-- The coordinates as the loop's operand. -/
def posL (x : FVec Ideal S20000x3 .f32) : FVec Ideal S20x1000x3 .f32 := shapeCast S20x1000x3 x shapeCasts_S20000x3_S20x1000x3
/-- The distances from the first points. -/
def md0L (p : FVec Ideal S20x1000x3 .f32) : FVec Ideal S20x1000 .f32 :=
  Host.reduceAdd (mulf (subf p (broadcastInDim S20x1000x3 ![0, 1, 2] bcast_S20x1x3_S20x1000x3_0_1_2 (extractStridedSlice S20x1x3 ![0, 0, 0] p slices_S20x1000x3_S20x1x3_0_0_0))) (subf p (broadcastInDim S20x1000x3 ![0, 1, 2] bcast_S20x1x3_S20x1000x3_0_1_2 (extractStridedSlice S20x1x3 ![0, 0, 0] p slices_S20x1000x3_S20x1x3_0_0_0)))) (constant (F := Ideal) S_ .f32 0x00000000#32) reducesTo_S20x1000x3_S20x1000_d2 h_S_

theorem posL_eq (x : FVec Ideal S20000x3 .f32) (hx : ∀ R a, x (ix2 R a) = P (gr R) (pr R) a) (g : Fin 20) (i : Fin 1000) (a : Fin 3) : posL x (ix3 g i a) = P g i a := by
  pointwise [posL]
  rw [hx]
  refine congrArg₂ (fun g i => P g i a) (Fin.ext ?_) (Fin.ext ?_)
  · show (g.val * 1000 + i.val) / 1000 = g.val
    omega
  · show (g.val * 1000 + i.val) % 1000 = i.val
    omega

theorem md0L_eq (p : FVec Ideal S20x1000x3 .f32) (hp : ∀ g i a, p (ix3 g i a) = P g i a) (g : Fin 20) (l : Fin 1000) : md0L p (ix2 g l) = (fps (P g) 0).2 l := by
  pointwise [md0L]
  rw [Fin.sum_univ_three]
  simp only [hp]
  rfl

section
variable {F : FTy → Type} [FloatOps F] (m : (ℓ : Loc nD τ sig) → Buf (Elt F) ℓ)

theorem entry_v0 (c : Dev nD) : entryContents preI m c (Proc.devRef .tc main_v0) = shapeCast S20x1000x3 (m ((c.tc : Thread nD τ).loc main_arg0)) shapeCasts_S20000x3_S20x1000x3 := by
  simp only [entryContents, afterL_cons, afterL_nil]
  after_reads_simp
  rfl
theorem entry_v7_0 (c : Dev nD) : entryContents preI m c (Proc.devRef .tc main_v7_0) = shapeCast S20x1000x3 (m ((c.tc : Thread nD τ).loc main_arg0)) shapeCasts_S20000x3_S20x1000x3 := by
  simp only [entryContents, afterL_cons, afterL_nil]
  after_reads_simp
  rfl
theorem entry_v7_2 (c : Dev nD) : entryContents preI m c (Proc.devRef .tc main_v7_2) = constantI S_ 32 1#32 := by
  simp only [entryContents, afterL_cons, afterL_nil]
  after_reads_simp
  rfl
theorem entry_v7_3 (c : Dev nD) : entryContents preI m c (Proc.devRef .tc main_v7_3) =
    (fun p => Host.reduceAdd (mulf (subf p (broadcastInDim S20x1000x3 ![0, 1, 2] bcast_S20x1x3_S20x1000x3_0_1_2 (extractStridedSlice S20x1x3 ![0, 0, 0] p slices_S20x1000x3_S20x1x3_0_0_0))) (subf p (broadcastInDim S20x1000x3 ![0, 1, 2] bcast_S20x1x3_S20x1000x3_0_1_2 (extractStridedSlice S20x1x3 ![0, 0, 0] p slices_S20x1000x3_S20x1x3_0_0_0)))) (constant (F := F) S_ .f32 0x00000000#32) reducesTo_S20x1000x3_S20x1000_d2 h_S_)
      (shapeCast S20x1000x3 (m ((c.tc : Thread nD τ).loc main_arg0)) shapeCasts_S20000x3_S20x1000x3) := by
  simp only [entryContents, afterL_cons, afterL_nil]
  after_reads_simp
  rfl
theorem entry_v7_4 (c : Dev nD) : entryContents preI m c (Proc.devRef .tc main_v7_4) = broadcastInDim S20x200 ![] bcast_S_S20x200 (constantI S_ 32 0#32) := by
  simp only [entryContents, afterL_cons, afterL_nil]
  after_reads_simp
  rfl
end

variable (m : (ℓ : Loc nD τ sig) → Buf (Elt Ideal) ℓ)

theorem inv_entry (c : Dev nD) (hx : ∀ R a, (m ((c.tc : Thread nD τ).loc main_arg0) : FVec Ideal S20000x3 .f32) (ix2 R a) = P (gr R) (pr R) a) :
    Inv P 0 (entryContents preI m c) := by
  have hp := posL_eq P (m ((c.tc : Thread nD τ).loc main_arg0)) hx
  refine ⟨fun g i a => ?_, ?_, fun g l => ?_, fun g j hj => ?_⟩
  · rw [entry_v7_0]; exact hp g i a
  · rw [entry_v7_2]; rfl
  · rw [entry_v7_3]; exact md0L_eq P _ hp g l
  · rw [entry_v7_4, show j.val = 0 from by omega]; rfl

/-- The words after the loop. -/
theorem words (c : Dev nD) (hx : ∀ R a, (m ((c.tc : Thread nD τ).loc main_arg0) : FVec Ideal S20000x3 .f32) (ix2 R a) = P (gr R) (pr R) a)
    (g : Fin 20) (j : Fin 200) : (atK m 199 c (Proc.devRef .tc main_v7_4) : IVec S20x200 32) (ix2 g j) = BitVec.ofNat 32 (fps (P g) j.val).1.val := by
  rw [atK_agree m c 199 main_v7_4 (by decide)]
  exact (inv_iter P _ (inv_entry P m c hx) 199 le_rfl).2.2.2 g j (by omega)

end Cert.Proof.RLoop

end
-- ==== Proof.PostA.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 0 to 16 after the loop. -/
abbrev ch0 : List (HloOp τ sig (Elt F)) :=
  [ StableHlo.nullary main_v8 (iotaInDim S20 32 0),
    StableHlo.nullary main_c_2 (constantI S_ 32 1000#32),
    StableHlo.unary main_c_2 main_v9 (broadcastInDim S20 ![] bcast_S_S20 : (⟨S_, .i32⟩ : BufTy).Contents (Elt F) → (⟨S20, .i32⟩ : BufTy).Contents (Elt F)),
    StableHlo.binary main_v8 main_v9 main_v10 (muli : (⟨S20, .i32⟩ : BufTy).Contents (Elt F) → (⟨S20, .i32⟩ : BufTy).Contents (Elt F) → (⟨S20, .i32⟩ : BufTy).Contents (Elt F)),
    StableHlo.unary main_v10 main_v11 (broadcastInDim S20x1 ![0] bcast_S20_S20x1_0 : (⟨S20, .i32⟩ : BufTy).Contents (Elt F) → (⟨S20x1, .i32⟩ : BufTy).Contents (Elt F)),
    StableHlo.unary main_v11 main_v12 (broadcastInDim S20x200 ![0, 1] bcast_S20x1_S20x200_0_1 : (⟨S20x1, .i32⟩ : BufTy).Contents (Elt F) → (⟨S20x200, .i32⟩ : BufTy).Contents (Elt F)),
    StableHlo.binary main_v7_4 main_v12 main_v13 (addi : (⟨S20x200, .i32⟩ : BufTy).Contents (Elt F) → (⟨S20x200, .i32⟩ : BufTy).Contents (Elt F) → (⟨S20x200, .i32⟩ : BufTy).Contents (Elt F)),
    StableHlo.reshape main_v13 main_v14 (rfl : (.i32 : EltTy) = .i32) shapeCasts_S20x200_S4000,
    StableHlo.nullary main_c_3 (constantI S_ 32 0#32),
    StableHlo.unary main_c_3 main_v15 (broadcastInDim S4000 ![] bcast_S_S4000 : (⟨S_, .i32⟩ : BufTy).Contents (Elt F) → (⟨S4000, .i32⟩ : BufTy).Contents (Elt F)),
    StableHlo.binary main_v14 main_v15 main_v16 (cmpi .slt : (⟨S4000, .i32⟩ : BufTy).Contents (Elt F) → (⟨S4000, .i32⟩ : BufTy).Contents (Elt F) → (⟨S4000, .i1⟩ : BufTy).Contents (Elt F)),
    StableHlo.nullary main_c_4 (constantI S_ 32 20000#32),
    StableHlo.unary main_c_4 main_v17 (broadcastInDim S4000 ![] bcast_S_S4000 : (⟨S_, .i32⟩ : BufTy).Contents (Elt F) → (⟨S4000, .i32⟩ : BufTy).Contents (Elt F)),
    StableHlo.binary main_v14 main_v17 main_v18 (addi : (⟨S4000, .i32⟩ : BufTy).Contents (Elt F) → (⟨S4000, .i32⟩ : BufTy).Contents (Elt F) → (⟨S4000, .i32⟩ : BufTy).Contents (Elt F)),
    StableHlo.ternary main_v16 main_v18 main_v14 main_v19 (select : (⟨S4000, .i1⟩ : BufTy).Contents (Elt F) → (⟨S4000, .i32⟩ : BufTy).Contents (Elt F) → (⟨S4000, .i32⟩ : BufTy).Contents (Elt F) → (⟨S4000, .i32⟩ : BufTy).Contents (Elt F)),
    StableHlo.unary main_v19 main_v20 (broadcastInDim S4000x1 ![0] bcast_S4000_S4000x1_0 : (⟨S4000, .i32⟩ : BufTy).Contents (Elt F) → (⟨S4000x1, .i32⟩ : BufTy).Contents (Elt F)),
    StableHlo.binary main_arg0 main_v20 main_v21 ((fun x i => Host.gather gather_S20000x3_S4000x1_S4000x3_1_0_n_n_0_1_13 x i) : (⟨S20000x3, .f32⟩ : BufTy).Contents (Elt F) → (⟨S4000x1, .i32⟩ : BufTy).Contents (Elt F) → (⟨S4000x3, .f32⟩ : BufTy).Contents (Elt F)) ]
/-- The buffers they write. -/
abbrev W0 : List (Ref sig .tc) := [main_v8, main_c_2, main_v9, main_v10, main_v11, main_v12, main_v13, main_v14, main_c_3, main_v15, main_v16, main_c_4, main_v17, main_v18, main_v19, main_v20, main_v21]
theorem keep0 (V : Valuation τ sig (Elt F)) (r : Ref sig .tc) (h : r ∉ W0) :
    after (ch0 (F := F)) V (Proc.devRef .tc r) = V (Proc.devRef .tc r) :=
  after_of_writes_sub (ch0 (F := F)) _ (StableHlo.forall_writes_sub_of_map rfl) h
theorem val0 (V : Valuation τ sig (Elt F)) : after (ch0 (F := F)) V (Proc.devRef .tc main_v21) = R0 (V (Proc.devRef .tc main_arg0)) (V (Proc.devRef .tc main_v7_4)) := by
  unfold R0
  after_results_entrywise []

/-- The operations 17 to 40 after the loop. -/
abbrev ch1 : List (HloOp τ sig (Elt F)) :=
  [ StableHlo.unary main_v0 main_v22 (broadcastInDim S20x1000x1x3 ![0, 1, 3] bcast_S20x1000x3_S20x1000x1x3_0_1_3 : (⟨S20x1000x3, .f32⟩ : BufTy).Contents (Elt F) → (⟨S20x1000x1x3, .f32⟩ : BufTy).Contents (Elt F)),
    StableHlo.unary main_v0 main_v23 (broadcastInDim S20x1x1000x3 ![0, 2, 3] bcast_S20x1000x3_S20x1x1000x3_0_2_3 : (⟨S20x1000x3, .f32⟩ : BufTy).Contents (Elt F) → (⟨S20x1x1000x3, .f32⟩ : BufTy).Contents (Elt F)),
    StableHlo.unary main_v22 main_v24 (broadcastInDim S20x1000x1000x3 ![0, 1, 2, 3] bcast_S20x1000x1x3_S20x1000x1000x3_0_1_2_3 : (⟨S20x1000x1x3, .f32⟩ : BufTy).Contents (Elt F) → (⟨S20x1000x1000x3, .f32⟩ : BufTy).Contents (Elt F)),
    StableHlo.unary main_v23 main_v25 (broadcastInDim S20x1000x1000x3 ![0, 1, 2, 3] bcast_S20x1x1000x3_S20x1000x1000x3_0_1_2_3 : (⟨S20x1x1000x3, .f32⟩ : BufTy).Contents (Elt F) → (⟨S20x1000x1000x3, .f32⟩ : BufTy).Contents (Elt F)),
    StableHlo.binary main_v24 main_v25 main_v26 (subf : (⟨S20x1000x1000x3, .f32⟩ : BufTy).Contents (Elt F) → (⟨S20x1000x1000x3, .f32⟩ : BufTy).Contents (Elt F) → (⟨S20x1000x1000x3, .f32⟩ : BufTy).Contents (Elt F)),
    StableHlo.binary main_v26 main_v26 main_v27 (mulf : (⟨S20x1000x1000x3, .f32⟩ : BufTy).Contents (Elt F) → (⟨S20x1000x1000x3, .f32⟩ : BufTy).Contents (Elt F) → (⟨S20x1000x1000x3, .f32⟩ : BufTy).Contents (Elt F)),
    StableHlo.nullary main_cst_5 (constant S_ .f32 0x00000000#32),
    StableHlo.binary main_v27 main_cst_5 main_v28 ((fun x v => Host.reduceAdd x v reducesTo_S20x1000x1000x3_S20x1000x1000_d3 h_S_) : (⟨S20x1000x1000x3, .f32⟩ : BufTy).Contents (Elt F) → (⟨S_, .f32⟩ : BufTy).Contents (Elt F) → (⟨S20x1000x1000, .f32⟩ : BufTy).Contents (Elt F)),
    StableHlo.nullary main_v29 (iotaInDim S1000x1000 32 0),
    StableHlo.nullary main_v30 (iotaInDim S1000x1000 32 1),
    StableHlo.nullary main_c_6 (constantI S_ 32 0#32),
    StableHlo.unary main_c_6 main_v31 (broadcastInDim S1000x1000 ![] bcast_S_S1000x1000 : (⟨S_, .i32⟩ : BufTy).Contents (Elt F) → (⟨S1000x1000, .i32⟩ : BufTy).Contents (Elt F)),
    StableHlo.binary main_v29 main_v31 main_v32 (addi : (⟨S1000x1000, .i32⟩ : BufTy).Contents (Elt F) → (⟨S1000x1000, .i32⟩ : BufTy).Contents (Elt F) → (⟨S1000x1000, .i32⟩ : BufTy).Contents (Elt F)),
    StableHlo.binary main_v32 main_v30 main_v33 (cmpi .eq : (⟨S1000x1000, .i32⟩ : BufTy).Contents (Elt F) → (⟨S1000x1000, .i32⟩ : BufTy).Contents (Elt F) → (⟨S1000x1000, .i1⟩ : BufTy).Contents (Elt F)),
    StableHlo.unary main_v33 main_v34 (uitofp .f32 : (⟨S1000x1000, .i1⟩ : BufTy).Contents (Elt F) → (⟨S1000x1000, .f32⟩ : BufTy).Contents (Elt F)),
    StableHlo.unary main_v34 main_v35 (broadcastInDim S1x1000x1000 ![1, 2] bcast_S1000x1000_S1x1000x1000_1_2 : (⟨S1000x1000, .f32⟩ : BufTy).Contents (Elt F) → (⟨S1x1000x1000, .f32⟩ : BufTy).Contents (Elt F)),
    StableHlo.nullary main_cst_7 (constant S_ .f32 0x4E6E6B28#32),
    StableHlo.unary main_cst_7 main_v36 (broadcastInDim S1x1000x1000 ![] bcast_S_S1x1000x1000 : (⟨S_, .f32⟩ : BufTy).Contents (Elt F) → (⟨S1x1000x1000, .f32⟩ : BufTy).Contents (Elt F)),
    StableHlo.binary main_v35 main_v36 main_v37 (mulf : (⟨S1x1000x1000, .f32⟩ : BufTy).Contents (Elt F) → (⟨S1x1000x1000, .f32⟩ : BufTy).Contents (Elt F) → (⟨S1x1000x1000, .f32⟩ : BufTy).Contents (Elt F)),
    StableHlo.unary main_v37 main_v38 (broadcastInDim S20x1000x1000 ![0, 1, 2] bcast_S1x1000x1000_S20x1000x1000_0_1_2 : (⟨S1x1000x1000, .f32⟩ : BufTy).Contents (Elt F) → (⟨S20x1000x1000, .f32⟩ : BufTy).Contents (Elt F)),
    StableHlo.binary main_v28 main_v38 main_v39 (addf : (⟨S20x1000x1000, .f32⟩ : BufTy).Contents (Elt F) → (⟨S20x1000x1000, .f32⟩ : BufTy).Contents (Elt F) → (⟨S20x1000x1000, .f32⟩ : BufTy).Contents (Elt F)),
    StableHlo.unary main_v39 main_v40 (Host.negf : (⟨S20x1000x1000, .f32⟩ : BufTy).Contents (Elt F) → (⟨S20x1000x1000, .f32⟩ : BufTy).Contents (Elt F)),
    StableHlo.unary main_v40 main_values ((fun x => (Host.topK S20x1000x15 2 (FloatOps.cmpfTotal .gt) x sliceFits_S20x1000x1000_S20x1000x15).1) : (⟨S20x1000x1000, .f32⟩ : BufTy).Contents (Elt F) → (⟨S20x1000x15, .f32⟩ : BufTy).Contents (Elt F)),
    StableHlo.unary main_v40 main_indices ((fun x => (Host.topK S20x1000x15 2 (FloatOps.cmpfTotal .gt) x sliceFits_S20x1000x1000_S20x1000x15).2) : (⟨S20x1000x1000, .f32⟩ : BufTy).Contents (Elt F) → (⟨S20x1000x15, .i32⟩ : BufTy).Contents (Elt F)) ]
/-- The buffers they write. -/
abbrev W1 : List (Ref sig .tc) := [main_v22, main_v23, main_v24, main_v25, main_v26, main_v27, main_cst_5, main_v28, main_v29, main_v30, main_c_6, main_v31, main_v32, main_v33, main_v34, main_v35, main_cst_7, main_v36, main_v37, main_v38, main_v39, main_v40, main_values, main_indices]
theorem keep1 (V : Valuation τ sig (Elt F)) (r : Ref sig .tc) (h : r ∉ W1) :
    after (ch1 (F := F)) V (Proc.devRef .tc r) = V (Proc.devRef .tc r) :=
  after_of_writes_sub (ch1 (F := F)) _ (StableHlo.forall_writes_sub_of_map rfl) h
theorem val1 (V : Valuation τ sig (Elt F)) : after (ch1 (F := F)) V (Proc.devRef .tc main_indices) = R1 (V (Proc.devRef .tc main_v0)) := by
  unfold R1
  after_results_entrywise []

end Cert.Proof.Post

end
-- ==== Proof.PostB.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 41 to 48 after the loop. -/
abbrev ch2 : List (HloOp τ sig (Elt F)) :=
  [ StableHlo.nullary main_v41 (iotaInDim S20 32 0),
    StableHlo.nullary main_c_8 (constantI S_ 32 1000#32),
    StableHlo.unary main_c_8 main_v42 (broadcastInDim S20 ![] bcast_S_S20 : (⟨S_, .i32⟩ : BufTy).Contents (Elt F) → (⟨S20, .i32⟩ : BufTy).Contents (Elt F)),
    StableHlo.binary main_v41 main_v42 main_v43 (muli : (⟨S20, .i32⟩ : BufTy).Contents (Elt F) → (⟨S20, .i32⟩ : BufTy).Contents (Elt F) → (⟨S20, .i32⟩ : BufTy).Contents (Elt F)),
    StableHlo.unary main_v43 main_v44 (broadcastInDim S20x1x1 ![0] bcast_S20_S20x1x1_0 : (⟨S20, .i32⟩ : BufTy).Contents (Elt F) → (⟨S20x1x1, .i32⟩ : BufTy).Contents (Elt F)),
    StableHlo.unary main_v44 main_v45 (broadcastInDim S20x1000x15 ![0, 1, 2] bcast_S20x1x1_S20x1000x15_0_1_2 : (⟨S20x1x1, .i32⟩ : BufTy).Contents (Elt F) → (⟨S20x1000x15, .i32⟩ : BufTy).Contents (Elt F)),
    StableHlo.binary main_indices main_v45 main_v46 (addi : (⟨S20x1000x15, .i32⟩ : BufTy).Contents (Elt F) → (⟨S20x1000x15, .i32⟩ : BufTy).Contents (Elt F) → (⟨S20x1000x15, .i32⟩ : BufTy).Contents (Elt F)),
    StableHlo.reshape main_v46 main_v47 (rfl : (.i32 : EltTy) = .i32) shapeCasts_S20x1000x15_S20000x15 ]
/-- The buffers they write. -/
abbrev W2 : List (Ref sig .tc) := [main_v41, main_c_8, main_v42, main_v43, main_v44, main_v45, main_v46, main_v47]
theorem keep2 (V : Valuation τ sig (Elt F)) (r : Ref sig .tc) (h : r ∉ W2) :
    after (ch2 (F := F)) V (Proc.devRef .tc r) = V (Proc.devRef .tc r) :=
  after_of_writes_sub (ch2 (F := F)) _ (StableHlo.forall_writes_sub_of_map rfl) h
theorem val2 (V : Valuation τ sig (Elt F)) : after (ch2 (F := F)) V (Proc.devRef .tc main_v47) = R2 (V (Proc.devRef .tc main_indices)) := by
  unfold R2
  after_results_entrywise []

/-- The operations 49 to 60 after the loop. -/
abbrev ch3 : List (HloOp τ sig (Elt F)) :=
  [ StableHlo.nullary main_c_9 (constantI S_ 32 0#32),
    StableHlo.unary main_c_9 main_v48 (broadcastInDim S20000x15 ![] bcast_S_S20000x15 : (⟨S_, .i32⟩ : BufTy).Contents (Elt F) → (⟨S20000x15, .i32⟩ : BufTy).Contents (Elt F)),
    StableHlo.binary main_v47 main_v48 main_v49 (cmpi .slt : (⟨S20000x15, .i32⟩ : BufTy).Contents (Elt F) → (⟨S20000x15, .i32⟩ : BufTy).Contents (Elt F) → (⟨S20000x15, .i1⟩ : BufTy).Contents (Elt F)),
    StableHlo.nullary main_c_10 (constantI S_ 32 20000#32),
    StableHlo.unary main_c_10 main_v50 (broadcastInDim S20000x15 ![] bcast_S_S20000x15 : (⟨S_, .i32⟩ : BufTy).Contents (Elt F) → (⟨S20000x15, .i32⟩ : BufTy).Contents (Elt F)),
    StableHlo.binary main_v47 main_v50 main_v51 (addi : (⟨S20000x15, .i32⟩ : BufTy).Contents (Elt F) → (⟨S20000x15, .i32⟩ : BufTy).Contents (Elt F) → (⟨S20000x15, .i32⟩ : BufTy).Contents (Elt F)),
    StableHlo.ternary main_v49 main_v51 main_v47 main_v52 (select : (⟨S20000x15, .i1⟩ : BufTy).Contents (Elt F) → (⟨S20000x15, .i32⟩ : BufTy).Contents (Elt F) → (⟨S20000x15, .i32⟩ : BufTy).Contents (Elt F) → (⟨S20000x15, .i32⟩ : BufTy).Contents (Elt F)),
    StableHlo.unary main_v52 main_v53 (broadcastInDim S20000x15x1 ![0, 1] bcast_S20000x15_S20000x15x1_0_1 : (⟨S20000x15, .i32⟩ : BufTy).Contents (Elt F) → (⟨S20000x15x1, .i32⟩ : BufTy).Contents (Elt F)),
    StableHlo.binary main_arg0 main_v53 main_v54 ((fun x i => Host.gather gather_S20000x3_S20000x15x1_S20000x15x3_2_0_n_n_0_2_13 x i) : (⟨S20000x3, .f32⟩ : BufTy).Contents (Elt F) → (⟨S20000x15x1, .i32⟩ : BufTy).Contents (Elt F) → (⟨S20000x15x3, .f32⟩ : BufTy).Contents (Elt F)),
    StableHlo.unary main_arg0 main_v55 (broadcastInDim S20000x1x3 ![0, 2] bcast_S20000x3_S20000x1x3_0_2 : (⟨S20000x3, .f32⟩ : BufTy).Contents (Elt F) → (⟨S20000x1x3, .f32⟩ : BufTy).Contents (Elt F)),
    StableHlo.unary main_v55 main_v56 (broadcastInDim S20000x15x3 ![0, 1, 2] bcast_S20000x1x3_S20000x15x3_0_1_2 : (⟨S20000x1x3, .f32⟩ : BufTy).Contents (Elt F) → (⟨S20000x15x3, .f32⟩ : BufTy).Contents (Elt F)),
    StableHlo.binary main_v54 main_v56 main_v57 (subf : (⟨S20000x15x3, .f32⟩ : BufTy).Contents (Elt F) → (⟨S20000x15x3, .f32⟩ : BufTy).Contents (Elt F) → (⟨S20000x15x3, .f32⟩ : BufTy).Contents (Elt F)) ]
/-- The buffers they write. -/
abbrev W3 : List (Ref sig .tc) := [main_c_9, main_v48, main_v49, main_c_10, main_v50, main_v51, main_v52, main_v53, main_v54, main_v55, main_v56, main_v57]
theorem keep3 (V : Valuation τ sig (Elt F)) (r : Ref sig .tc) (h : r ∉ W3) :
    after (ch3 (F := F)) V (Proc.devRef .tc r) = V (Proc.devRef .tc r) :=
  after_of_writes_sub (ch3 (F := F)) _ (StableHlo.forall_writes_sub_of_map rfl) h
theorem val3 (V : Valuation τ sig (Elt F)) : after (ch3 (F := F)) V (Proc.devRef .tc main_v57) = R3 (V (Proc.devRef .tc main_arg0)) (V (Proc.devRef .tc main_v47)) := by
  unfold R3
  after_results_entrywise []

end Cert.Proof.Post

end
-- ==== Proof.PostC.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 61 to 99 after the loop. -/
abbrev ch4 : List (HloOp τ sig (Elt F)) :=
  [ StableHlo.unary main_v57 main_v58 (Host.tanh : (⟨S20000x15x3, .f32⟩ : BufTy).Contents (Elt F) → (⟨S20000x15x3, .f32⟩ : BufTy).Contents (Elt F)),
    StableHlo.nullary main_cst_11 (constant S_ .f32 0x3F800000#32),
    StableHlo.unary main_cst_11 main_v59 (broadcastInDim S20000x15x3 ![] bcast_S_S20000x15x3 : (⟨S_, .f32⟩ : BufTy).Contents (Elt F) → (⟨S20000x15x3, .f32⟩ : BufTy).Contents (Elt F)),
    StableHlo.binary main_v58 main_v59 main_v60 (addf : (⟨S20000x15x3, .f32⟩ : BufTy).Contents (Elt F) → (⟨S20000x15x3, .f32⟩ : BufTy).Contents (Elt F) → (⟨S20000x15x3, .f32⟩ : BufTy).Contents (Elt F)),
    StableHlo.nullary main_cst_12 (constant S_ .f32 0x3F000000#32),
    StableHlo.unary main_cst_12 main_v61 (broadcastInDim S20000x15x3 ![] bcast_S_S20000x15x3 : (⟨S_, .f32⟩ : BufTy).Contents (Elt F) → (⟨S20000x15x3, .f32⟩ : BufTy).Contents (Elt F)),
    StableHlo.binary main_v60 main_v61 main_v62 (mulf : (⟨S20000x15x3, .f32⟩ : BufTy).Contents (Elt F) → (⟨S20000x15x3, .f32⟩ : BufTy).Contents (Elt F) → (⟨S20000x15x3, .f32⟩ : BufTy).Contents (Elt F)),
    StableHlo.nullary main_cst_13 (constant S_ .f32 0x40800000#32),
    StableHlo.unary main_cst_13 main_v63 (broadcastInDim S20000x15x3 ![] bcast_S_S20000x15x3 : (⟨S_, .f32⟩ : BufTy).Contents (Elt F) → (⟨S20000x15x3, .f32⟩ : BufTy).Contents (Elt F)),
    StableHlo.binary main_v62 main_v63 main_v64 (mulf : (⟨S20000x15x3, .f32⟩ : BufTy).Contents (Elt F) → (⟨S20000x15x3, .f32⟩ : BufTy).Contents (Elt F) → (⟨S20000x15x3, .f32⟩ : BufTy).Contents (Elt F)),
    StableHlo.nullary main_v65 (sitofp .f32 (iotaInDim S5 32 0)),
    StableHlo.unary main_v64 main_v66 (broadcastInDim S20000x15x3x1 ![0, 1, 2] bcast_S20000x15x3_S20000x15x3x1_0_1_2 : (⟨S20000x15x3, .f32⟩ : BufTy).Contents (Elt F) → (⟨S20000x15x3x1, .f32⟩ : BufTy).Contents (Elt F)),
    StableHlo.unary main_v65 main_v67 (broadcastInDim S1x1x1x5 ![3] bcast_S5_S1x1x1x5_3 : (⟨S5, .f32⟩ : BufTy).Contents (Elt F) → (⟨S1x1x1x5, .f32⟩ : BufTy).Contents (Elt F)),
    StableHlo.unary main_v66 main_v68 (broadcastInDim S20000x15x3x5 ![0, 1, 2, 3] bcast_S20000x15x3x1_S20000x15x3x5_0_1_2_3 : (⟨S20000x15x3x1, .f32⟩ : BufTy).Contents (Elt F) → (⟨S20000x15x3x5, .f32⟩ : BufTy).Contents (Elt F)),
    StableHlo.unary main_v67 main_v69 (broadcastInDim S20000x15x3x5 ![0, 1, 2, 3] bcast_S1x1x1x5_S20000x15x3x5_0_1_2_3 : (⟨S1x1x1x5, .f32⟩ : BufTy).Contents (Elt F) → (⟨S20000x15x3x5, .f32⟩ : BufTy).Contents (Elt F)),
    StableHlo.binary main_v68 main_v69 main_v70 (subf : (⟨S20000x15x3x5, .f32⟩ : BufTy).Contents (Elt F) → (⟨S20000x15x3x5, .f32⟩ : BufTy).Contents (Elt F) → (⟨S20000x15x3x5, .f32⟩ : BufTy).Contents (Elt F)),
    StableHlo.unary main_v70 main_v71 (Host.absf : (⟨S20000x15x3x5, .f32⟩ : BufTy).Contents (Elt F) → (⟨S20000x15x3x5, .f32⟩ : BufTy).Contents (Elt F)),
    StableHlo.nullary main_cst_14 (constant S_ .f32 0x3F800000#32),
    StableHlo.unary main_cst_14 main_v72 (broadcastInDim S20000x15x3x5 ![] bcast_S_S20000x15x3x5 : (⟨S_, .f32⟩ : BufTy).Contents (Elt F) → (⟨S20000x15x3x5, .f32⟩ : BufTy).Contents (Elt F)),
    StableHlo.binary main_v72 main_v71 main_v73 (subf : (⟨S20000x15x3x5, .f32⟩ : BufTy).Contents (Elt F) → (⟨S20000x15x3x5, .f32⟩ : BufTy).Contents (Elt F) → (⟨S20000x15x3x5, .f32⟩ : BufTy).Contents (Elt F)),
    StableHlo.nullary main_cst_15 (constant S_ .f32 0x00000000#32),
    StableHlo.unary main_cst_15 main_v74 (broadcastInDim S20000x15x3x5 ![] bcast_S_S20000x15x3x5 : (⟨S_, .f32⟩ : BufTy).Contents (Elt F) → (⟨S20000x15x3x5, .f32⟩ : BufTy).Contents (Elt F)),
    StableHlo.binary main_v73 main_v74 main_v75 (maximumf : (⟨S20000x15x3x5, .f32⟩ : BufTy).Contents (Elt F) → (⟨S20000x15x3x5, .f32⟩ : BufTy).Contents (Elt F) → (⟨S20000x15x3x5, .f32⟩ : BufTy).Contents (Elt F)),
    StableHlo.binary main_arg3 main_v75 main_v76 ((fun l r => Host.dotGeneral dot_S10x5x3_S20000x15x3x5_S3x10x20000x15_1_3_0_01_2_2 none l r) : (⟨S10x5x3, .f32⟩ : BufTy).Contents (Elt F) → (⟨S20000x15x3x5, .f32⟩ : BufTy).Contents (Elt F) → (⟨S3x10x20000x15, .f32⟩ : BufTy).Contents (Elt F)),
    StableHlo.unary main_v76 main_v77 ((transpose S20000x15x10x3 [2, 3, 1, 0] · transposes_S3x10x20000x15_S20000x15x10x3_2_3_1_0) : (⟨S3x10x20000x15, .f32⟩ : BufTy).Contents (Elt F) → (⟨S20000x15x10x3, .f32⟩ : BufTy).Contents (Elt F)),
    StableHlo.nullary main_cst_16 (constant S_ .f32 0x00000000#32),
    StableHlo.binary main_v77 main_cst_16 main_v78 ((fun x v => Host.reduceAdd x v reducesTo_S20000x15x10x3_S20000x10x3_d1 h_S_) : (⟨S20000x15x10x3, .f32⟩ : BufTy).Contents (Elt F) → (⟨S_, .f32⟩ : BufTy).Contents (Elt F) → (⟨S20000x10x3, .f32⟩ : BufTy).Contents (Elt F)),
    StableHlo.nullary main_cst_17 (constant S_ .f32 0x41700000#32),
    StableHlo.unary main_cst_17 main_v79 (broadcastInDim S20000x10x3 ![] bcast_S_S20000x10x3 : (⟨S_, .f32⟩ : BufTy).Contents (Elt F) → (⟨S20000x10x3, .f32⟩ : BufTy).Contents (Elt F)),
    StableHlo.binary main_v78 main_v79 main_v80 (Host.divf : (⟨S20000x10x3, .f32⟩ : BufTy).Contents (Elt F) → (⟨S20000x10x3, .f32⟩ : BufTy).Contents (Elt F) → (⟨S20000x10x3, .f32⟩ : BufTy).Contents (Elt F)),
    StableHlo.reshape main_v80 main_v81 (rfl : (.f32 : EltTy) = .f32) shapeCasts_S20000x10x3_S20000x30,
    StableHlo.unary main_v81 main_v82 (Host.negf : (⟨S20000x30, .f32⟩ : BufTy).Contents (Elt F) → (⟨S20000x30, .f32⟩ : BufTy).Contents (Elt F)),
    StableHlo.unary main_v82 main_v83 (Host.exp : (⟨S20000x30, .f32⟩ : BufTy).Contents (Elt F) → (⟨S20000x30, .f32⟩ : BufTy).Contents (Elt F)),
    StableHlo.nullary main_cst_18 (constant S_ .f32 0x3F800000#32),
    StableHlo.unary main_cst_18 main_v84 (broadcastInDim S20000x30 ![] bcast_S_S20000x30 : (⟨S_, .f32⟩ : BufTy).Contents (Elt F) → (⟨S20000x30, .f32⟩ : BufTy).Contents (Elt F)),
    StableHlo.binary main_v84 main_v83 main_v85 (addf : (⟨S20000x30, .f32⟩ : BufTy).Contents (Elt F) → (⟨S20000x30, .f32⟩ : BufTy).Contents (Elt F) → (⟨S20000x30, .f32⟩ : BufTy).Contents (Elt F)),
    StableHlo.nullary main_cst_19 (constant S_ .f32 0x3F800000#32),
    StableHlo.unary main_cst_19 main_v86 (broadcastInDim S20000x30 ![] bcast_S_S20000x30 : (⟨S_, .f32⟩ : BufTy).Contents (Elt F) → (⟨S20000x30, .f32⟩ : BufTy).Contents (Elt F)),
    StableHlo.binary main_v86 main_v85 main_v87 (Host.divf : (⟨S20000x30, .f32⟩ : BufTy).Contents (Elt F) → (⟨S20000x30, .f32⟩ : BufTy).Contents (Elt F) → (⟨S20000x30, .f32⟩ : BufTy).Contents (Elt F)) ]
/-- The buffers they write. -/
abbrev W4 : List (Ref sig .tc) := [main_v58, main_cst_11, main_v59, main_v60, main_cst_12, main_v61, main_v62, main_cst_13, main_v63, main_v64, main_v65, main_v66, main_v67, main_v68, main_v69, main_v70, main_v71, main_cst_14, main_v72, main_v73, main_cst_15, main_v74, main_v75, main_v76, main_v77, main_cst_16, main_v78, main_cst_17, main_v79, main_v80, main_v81, main_v82, main_v83, main_cst_18, main_v84, main_v85, main_cst_19, main_v86, main_v87]
theorem keep4 (V : Valuation τ sig (Elt F)) (r : Ref sig .tc) (h : r ∉ W4) :
    after (ch4 (F := F)) V (Proc.devRef .tc r) = V (Proc.devRef .tc r) :=
  after_of_writes_sub (ch4 (F := F)) _ (StableHlo.forall_writes_sub_of_map rfl) h
theorem val4 (V : Valuation τ sig (Elt F)) : after (ch4 (F := F)) V (Proc.devRef .tc main_v87) = R4 (V (Proc.devRef .tc main_arg3)) (V (Proc.devRef .tc main_v57)) := by
  unfold R4
  after_results_entrywise []

/-- The operations 159 to 166 after the loop. -/
abbrev ch8 : List (HloOp τ sig (Elt F)) :=
  [ StableHlo.nullary main_v135 (iotaInDim S20 32 0),
    StableHlo.nullary main_c_32 (constantI S_ 32 200#32),
    StableHlo.unary main_c_32 main_v136 (broadcastInDim S20 ![] bcast_S_S20 : (⟨S_, .i32⟩ : BufTy).Contents (Elt F) → (⟨S20, .i32⟩ : BufTy).Contents (Elt F)),
    StableHlo.binary main_v135 main_v136 main_v137 (muli : (⟨S20, .i32⟩ : BufTy).Contents (Elt F) → (⟨S20, .i32⟩ : BufTy).Contents (Elt F) → (⟨S20, .i32⟩ : BufTy).Contents (Elt F)),
    StableHlo.unary main_v137 main_v138 (broadcastInDim S20x1x1 ![0] bcast_S20_S20x1x1_0 : (⟨S20, .i32⟩ : BufTy).Contents (Elt F) → (⟨S20x1x1, .i32⟩ : BufTy).Contents (Elt F)),
    StableHlo.unary main_v138 main_v139 (broadcastInDim S20x200x15 ![0, 1, 2] bcast_S20x1x1_S20x200x15_0_1_2 : (⟨S20x1x1, .i32⟩ : BufTy).Contents (Elt F) → (⟨S20x200x15, .i32⟩ : BufTy).Contents (Elt F)),
    StableHlo.binary main_indices_31 main_v139 main_v140 (addi : (⟨S20x200x15, .i32⟩ : BufTy).Contents (Elt F) → (⟨S20x200x15, .i32⟩ : BufTy).Contents (Elt F) → (⟨S20x200x15, .i32⟩ : BufTy).Contents (Elt F)),
    StableHlo.reshape main_v140 main_v141 (rfl : (.i32 : EltTy) = .i32) shapeCasts_S20x200x15_S4000x15 ]
/-- The buffers they write. -/
abbrev W8 : List (Ref sig .tc) := [main_v135, main_c_32, main_v136, main_v137, main_v138, main_v139, main_v140, main_v141]
theorem keep8 (V : Valuation τ sig (Elt F)) (r : Ref sig .tc) (h : r ∉ W8) :
    after (ch8 (F := F)) V (Proc.devRef .tc r) = V (Proc.devRef .tc r) :=
  after_of_writes_sub (ch8 (F := F)) _ (StableHlo.forall_writes_sub_of_map rfl) h
theorem val8 (V : Valuation τ sig (Elt F)) : after (ch8 (F := F)) V (Proc.devRef .tc main_v141) = R8 (V (Proc.devRef .tc main_indices_31)) := by
  unfold R8
  after_results_entrywise []

/-- The operations 167 to 175 after the loop. -/
abbrev ch9 : List (HloOp τ sig (Elt F)) :=
  [ StableHlo.nullary main_c_33 (constantI S_ 32 0#32),
    StableHlo.unary main_c_33 main_v142 (broadcastInDim S4000x15 ![] bcast_S_S4000x15 : (⟨S_, .i32⟩ : BufTy).Contents (Elt F) → (⟨S4000x15, .i32⟩ : BufTy).Contents (Elt F)),
    StableHlo.binary main_v141 main_v142 main_v143 (cmpi .slt : (⟨S4000x15, .i32⟩ : BufTy).Contents (Elt F) → (⟨S4000x15, .i32⟩ : BufTy).Contents (Elt F) → (⟨S4000x15, .i1⟩ : BufTy).Contents (Elt F)),
    StableHlo.nullary main_c_34 (constantI S_ 32 20000#32),
    StableHlo.unary main_c_34 main_v144 (broadcastInDim S4000x15 ![] bcast_S_S4000x15 : (⟨S_, .i32⟩ : BufTy).Contents (Elt F) → (⟨S4000x15, .i32⟩ : BufTy).Contents (Elt F)),
    StableHlo.binary main_v141 main_v144 main_v145 (addi : (⟨S4000x15, .i32⟩ : BufTy).Contents (Elt F) → (⟨S4000x15, .i32⟩ : BufTy).Contents (Elt F) → (⟨S4000x15, .i32⟩ : BufTy).Contents (Elt F)),
    StableHlo.ternary main_v143 main_v145 main_v141 main_v146 (select : (⟨S4000x15, .i1⟩ : BufTy).Contents (Elt F) → (⟨S4000x15, .i32⟩ : BufTy).Contents (Elt F) → (⟨S4000x15, .i32⟩ : BufTy).Contents (Elt F) → (⟨S4000x15, .i32⟩ : BufTy).Contents (Elt F)),
    StableHlo.unary main_v146 main_v147 (broadcastInDim S4000x15x1 ![0, 1] bcast_S4000x15_S4000x15x1_0_1 : (⟨S4000x15, .i32⟩ : BufTy).Contents (Elt F) → (⟨S4000x15x1, .i32⟩ : BufTy).Contents (Elt F)),
    StableHlo.binary main_v114 main_v147 main_v148 ((fun x i => Host.gather gather_S20000x20_S4000x15x1_S4000x15x20_2_0_n_n_0_2_120 x i) : (⟨S20000x20, .f32⟩ : BufTy).Contents (Elt F) → (⟨S4000x15x1, .i32⟩ : BufTy).Contents (Elt F) → (⟨S4000x15x20, .f32⟩ : BufTy).Contents (Elt F)) ]
/-- The buffers they write. -/
abbrev W9 : List (Ref sig .tc) := [main_c_33, main_v142, main_v143, main_c_34, main_v144, main_v145, main_v146, main_v147, main_v148]
theorem keep9 (V : Valuation τ sig (Elt F)) (r : Ref sig .tc) (h : r ∉ W9) :
    after (ch9 (F := F)) V (Proc.devRef .tc r) = V (Proc.devRef .tc r) :=
  after_of_writes_sub (ch9 (F := F)) _ (StableHlo.forall_writes_sub_of_map rfl) h
theorem val9 (V : Valuation τ sig (Elt F)) : after (ch9 (F := F)) V (Proc.devRef .tc main_v148) = R9 (V (Proc.devRef .tc main_v114)) (V (Proc.devRef .tc main_v141)) := by
  unfold R9
  after_results_entrywise []

end Cert.Proof.Post

end
-- ==== Proof.PostD.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 100 to 109 after the loop. -/
abbrev ch5 : List (HloOp τ sig (Elt F)) :=
  [ StableHlo.nullary main_c_20 (constantI S_ 32 0#32),
    StableHlo.unary main_c_20 main_v88 (broadcastInDim S20000x15 ![] bcast_S_S20000x15 : (⟨S_, .i32⟩ : BufTy).Contents (Elt F) → (⟨S20000x15, .i32⟩ : BufTy).Contents (Elt F)),
    StableHlo.binary main_v47 main_v88 main_v89 (cmpi .slt : (⟨S20000x15, .i32⟩ : BufTy).Contents (Elt F) → (⟨S20000x15, .i32⟩ : BufTy).Contents (Elt F) → (⟨S20000x15, .i1⟩ : BufTy).Contents (Elt F)),
    StableHlo.nullary main_c_21 (constantI S_ 32 20000#32),
    StableHlo.unary main_c_21 main_v90 (broadcastInDim S20000x15 ![] bcast_S_S20000x15 : (⟨S_, .i32⟩ : BufTy).Contents (Elt F) → (⟨S20000x15, .i32⟩ : BufTy).Contents (Elt F)),
    StableHlo.binary main_v47 main_v90 main_v91 (addi : (⟨S20000x15, .i32⟩ : BufTy).Contents (Elt F) → (⟨S20000x15, .i32⟩ : BufTy).Contents (Elt F) → (⟨S20000x15, .i32⟩ : BufTy).Contents (Elt F)),
    StableHlo.ternary main_v89 main_v91 main_v47 main_v92 (select : (⟨S20000x15, .i1⟩ : BufTy).Contents (Elt F) → (⟨S20000x15, .i32⟩ : BufTy).Contents (Elt F) → (⟨S20000x15, .i32⟩ : BufTy).Contents (Elt F) → (⟨S20000x15, .i32⟩ : BufTy).Contents (Elt F)),
    StableHlo.unary main_v92 main_v93 (broadcastInDim S20000x15x1 ![0, 1] bcast_S20000x15_S20000x15x1_0_1 : (⟨S20000x15, .i32⟩ : BufTy).Contents (Elt F) → (⟨S20000x15x1, .i32⟩ : BufTy).Contents (Elt F)),
    StableHlo.binary main_v87 main_v93 main_v94 ((fun x i => Host.gather gather_S20000x30_S20000x15x1_S20000x15x30_2_0_n_n_0_2_130 x i) : (⟨S20000x30, .f32⟩ : BufTy).Contents (Elt F) → (⟨S20000x15x1, .i32⟩ : BufTy).Contents (Elt F) → (⟨S20000x15x30, .f32⟩ : BufTy).Contents (Elt F)),
    StableHlo.binary main_v94 main_v57 main_v95 ((fun a b => concatenate S20000x15x33 2 [⟨S20000x15x30, a⟩, ⟨S20000x15x3, b⟩] concatenates_S20000x15x30_S20000x15x3_S20000x15x33_d2) : (⟨S20000x15x30, .f32⟩ : BufTy).Contents (Elt F) → (⟨S20000x15x3, .f32⟩ : BufTy).Contents (Elt F) → (⟨S20000x15x33, .f32⟩ : BufTy).Contents (Elt F)) ]
/-- The buffers they write. -/
abbrev W5 : List (Ref sig .tc) := [main_c_20, main_v88, main_v89, main_c_21, main_v90, main_v91, main_v92, main_v93, main_v94, main_v95]
theorem keep5 (V : Valuation τ sig (Elt F)) (r : Ref sig .tc) (h : r ∉ W5) :
    after (ch5 (F := F)) V (Proc.devRef .tc r) = V (Proc.devRef .tc r) :=
  after_of_writes_sub (ch5 (F := F)) _ (StableHlo.forall_writes_sub_of_map rfl) h
theorem val5 (V : Valuation τ sig (Elt F)) : after (ch5 (F := F)) V (Proc.devRef .tc main_v95) = R5 (V (Proc.devRef .tc main_v87)) (V (Proc.devRef .tc main_v47)) (V (Proc.devRef .tc main_v57)) := by
  unfold R5
  after_results_entrywise []

/-- The operations 110 to 133 after the loop. -/
abbrev ch6 : List (HloOp τ sig (Elt F)) :=
  [ StableHlo.binary main_v95 main_arg4 main_v96 ((fun l r => Host.dotGeneral dot_S20000x15x33_S33x20_S20000x15x20_2_0_01_1_n_n none l r) : (⟨S20000x15x33, .f32⟩ : BufTy).Contents (Elt F) → (⟨S33x20, .f32⟩ : BufTy).Contents (Elt F) → (⟨S20000x15x20, .f32⟩ : BufTy).Contents (Elt F)),
    StableHlo.unary main_arg5 main_v97 (broadcastInDim S1x1x20 ![2] bcast_S20_S1x1x20_2 : (⟨S20, .f32⟩ : BufTy).Contents (Elt F) → (⟨S1x1x20, .f32⟩ : BufTy).Contents (Elt F)),
    StableHlo.unary main_v97 main_v98 (broadcastInDim S20000x15x20 ![0, 1, 2] bcast_S1x1x20_S20000x15x20_0_1_2 : (⟨S1x1x20, .f32⟩ : BufTy).Contents (Elt F) → (⟨S20000x15x20, .f32⟩ : BufTy).Contents (Elt F)),
    StableHlo.binary main_v96 main_v98 main_v99 (addf : (⟨S20000x15x20, .f32⟩ : BufTy).Contents (Elt F) → (⟨S20000x15x20, .f32⟩ : BufTy).Contents (Elt F) → (⟨S20000x15x20, .f32⟩ : BufTy).Contents (Elt F)),
    StableHlo.nullary main_cst_22 (constant S_ .f32 0x00000000#32),
    StableHlo.unary main_cst_22 main_v100 (broadcastInDim S20000x15x20 ![] bcast_S_S20000x15x20 : (⟨S_, .f32⟩ : BufTy).Contents (Elt F) → (⟨S20000x15x20, .f32⟩ : BufTy).Contents (Elt F)),
    StableHlo.binary main_v99 main_v100 main_v101 (maximumf : (⟨S20000x15x20, .f32⟩ : BufTy).Contents (Elt F) → (⟨S20000x15x20, .f32⟩ : BufTy).Contents (Elt F) → (⟨S20000x15x20, .f32⟩ : BufTy).Contents (Elt F)),
    StableHlo.binary main_v101 main_arg6 main_v102 ((fun l r => Host.dotGeneral dot_S20000x15x20_S20x20_S20000x15x20_2_0_01_1_n_n none l r) : (⟨S20000x15x20, .f32⟩ : BufTy).Contents (Elt F) → (⟨S20x20, .f32⟩ : BufTy).Contents (Elt F) → (⟨S20000x15x20, .f32⟩ : BufTy).Contents (Elt F)),
    StableHlo.unary main_arg7 main_v103 (broadcastInDim S1x1x20 ![2] bcast_S20_S1x1x20_2 : (⟨S20, .f32⟩ : BufTy).Contents (Elt F) → (⟨S1x1x20, .f32⟩ : BufTy).Contents (Elt F)),
    StableHlo.unary main_v103 main_v104 (broadcastInDim S20000x15x20 ![0, 1, 2] bcast_S1x1x20_S20000x15x20_0_1_2 : (⟨S1x1x20, .f32⟩ : BufTy).Contents (Elt F) → (⟨S20000x15x20, .f32⟩ : BufTy).Contents (Elt F)),
    StableHlo.binary main_v102 main_v104 main_v105 (addf : (⟨S20000x15x20, .f32⟩ : BufTy).Contents (Elt F) → (⟨S20000x15x20, .f32⟩ : BufTy).Contents (Elt F) → (⟨S20000x15x20, .f32⟩ : BufTy).Contents (Elt F)),
    StableHlo.nullary main_cst_23 (constant S_ .f32 0x00000000#32),
    StableHlo.unary main_cst_23 main_v106 (broadcastInDim S20000x15x20 ![] bcast_S_S20000x15x20 : (⟨S_, .f32⟩ : BufTy).Contents (Elt F) → (⟨S20000x15x20, .f32⟩ : BufTy).Contents (Elt F)),
    StableHlo.binary main_v105 main_v106 main_v107 (maximumf : (⟨S20000x15x20, .f32⟩ : BufTy).Contents (Elt F) → (⟨S20000x15x20, .f32⟩ : BufTy).Contents (Elt F) → (⟨S20000x15x20, .f32⟩ : BufTy).Contents (Elt F)),
    StableHlo.nullary main_cst_24 (constant S_ .f32 0xFF800000#32),
    StableHlo.binary main_v107 main_cst_24 main_v108 ((fun x v => Host.reduce FloatOps.maximumf x v reducesTo_S20000x15x20_S20000x20_d1 h_S_) : (⟨S20000x15x20, .f32⟩ : BufTy).Contents (Elt F) → (⟨S_, .f32⟩ : BufTy).Contents (Elt F) → (⟨S20000x20, .f32⟩ : BufTy).Contents (Elt F)),
    StableHlo.unary main_v108 main_v109 (Host.negf : (⟨S20000x20, .f32⟩ : BufTy).Contents (Elt F) → (⟨S20000x20, .f32⟩ : BufTy).Contents (Elt F)),
    StableHlo.unary main_v109 main_v110 (Host.exp : (⟨S20000x20, .f32⟩ : BufTy).Contents (Elt F) → (⟨S20000x20, .f32⟩ : BufTy).Contents (Elt F)),
    StableHlo.nullary main_cst_25 (constant S_ .f32 0x3F800000#32),
    StableHlo.unary main_cst_25 main_v111 (broadcastInDim S20000x20 ![] bcast_S_S20000x20 : (⟨S_, .f32⟩ : BufTy).Contents (Elt F) → (⟨S20000x20, .f32⟩ : BufTy).Contents (Elt F)),
    StableHlo.binary main_v111 main_v110 main_v112 (addf : (⟨S20000x20, .f32⟩ : BufTy).Contents (Elt F) → (⟨S20000x20, .f32⟩ : BufTy).Contents (Elt F) → (⟨S20000x20, .f32⟩ : BufTy).Contents (Elt F)),
    StableHlo.nullary main_cst_26 (constant S_ .f32 0x3F800000#32),
    StableHlo.unary main_cst_26 main_v113 (broadcastInDim S20000x20 ![] bcast_S_S20000x20 : (⟨S_, .f32⟩ : BufTy).Contents (Elt F) → (⟨S20000x20, .f32⟩ : BufTy).Contents (Elt F)),
    StableHlo.binary main_v113 main_v112 main_v114 (Host.divf : (⟨S20000x20, .f32⟩ : BufTy).Contents (Elt F) → (⟨S20000x20, .f32⟩ : BufTy).Contents (Elt F) → (⟨S20000x20, .f32⟩ : BufTy).Contents (Elt F)) ]
/-- The buffers they write. -/
abbrev W6 : List (Ref sig .tc) := [main_v96, main_v97, main_v98, main_v99, main_cst_22, main_v100, main_v101, main_v102, main_v103, main_v104, main_v105, main_cst_23, main_v106, main_v107, main_cst_24, main_v108, main_v109, main_v110, main_cst_25, main_v111, main_v112, main_cst_26, main_v113, main_v114]
theorem keep6 (V : Valuation τ sig (Elt F)) (r : Ref sig .tc) (h : r ∉ W6) :
    after (ch6 (F := F)) V (Proc.devRef .tc r) = V (Proc.devRef .tc r) :=
  after_of_writes_sub (ch6 (F := F)) _ (StableHlo.forall_writes_sub_of_map rfl) h
theorem val6 (V : Valuation τ sig (Elt F)) : after (ch6 (F := F)) V (Proc.devRef .tc main_v114) = R6 (V (Proc.devRef .tc main_v95)) (V (Proc.devRef .tc main_arg4)) (V (Proc.devRef .tc main_arg5)) (V (Proc.devRef .tc main_arg6)) (V (Proc.devRef .tc main_arg7)) := by
  unfold R6
  after_results_entrywise []

/-- The operations 134 to 158 after the loop. -/
abbrev ch7 : List (HloOp τ sig (Elt F)) :=
  [ StableHlo.reshape main_v21 main_v115 (rfl : (.f32 : EltTy) = .f32) shapeCasts_S4000x3_S20x200x3,
    StableHlo.unary main_v115 main_v116 (broadcastInDim S20x200x1x3 ![0, 1, 3] bcast_S20x200x3_S20x200x1x3_0_1_3 : (⟨S20x200x3, .f32⟩ : BufTy).Contents (Elt F) → (⟨S20x200x1x3, .f32⟩ : BufTy).Contents (Elt F)),
    StableHlo.unary main_v115 main_v117 (broadcastInDim S20x1x200x3 ![0, 2, 3] bcast_S20x200x3_S20x1x200x3_0_2_3 : (⟨S20x200x3, .f32⟩ : BufTy).Contents (Elt F) → (⟨S20x1x200x3, .f32⟩ : BufTy).Contents (Elt F)),
    StableHlo.unary main_v116 main_v118 (broadcastInDim S20x200x200x3 ![0, 1, 2, 3] bcast_S20x200x1x3_S20x200x200x3_0_1_2_3 : (⟨S20x200x1x3, .f32⟩ : BufTy).Contents (Elt F) → (⟨S20x200x200x3, .f32⟩ : BufTy).Contents (Elt F)),
    StableHlo.unary main_v117 main_v119 (broadcastInDim S20x200x200x3 ![0, 1, 2, 3] bcast_S20x1x200x3_S20x200x200x3_0_1_2_3 : (⟨S20x1x200x3, .f32⟩ : BufTy).Contents (Elt F) → (⟨S20x200x200x3, .f32⟩ : BufTy).Contents (Elt F)),
    StableHlo.binary main_v118 main_v119 main_v120 (subf : (⟨S20x200x200x3, .f32⟩ : BufTy).Contents (Elt F) → (⟨S20x200x200x3, .f32⟩ : BufTy).Contents (Elt F) → (⟨S20x200x200x3, .f32⟩ : BufTy).Contents (Elt F)),
    StableHlo.binary main_v120 main_v120 main_v121 (mulf : (⟨S20x200x200x3, .f32⟩ : BufTy).Contents (Elt F) → (⟨S20x200x200x3, .f32⟩ : BufTy).Contents (Elt F) → (⟨S20x200x200x3, .f32⟩ : BufTy).Contents (Elt F)),
    StableHlo.nullary main_cst_27 (constant S_ .f32 0x00000000#32),
    StableHlo.binary main_v121 main_cst_27 main_v122 ((fun x v => Host.reduceAdd x v reducesTo_S20x200x200x3_S20x200x200_d3 h_S_) : (⟨S20x200x200x3, .f32⟩ : BufTy).Contents (Elt F) → (⟨S_, .f32⟩ : BufTy).Contents (Elt F) → (⟨S20x200x200, .f32⟩ : BufTy).Contents (Elt F)),
    StableHlo.nullary main_v123 (iotaInDim S200x200 32 0),
    StableHlo.nullary main_v124 (iotaInDim S200x200 32 1),
    StableHlo.nullary main_c_28 (constantI S_ 32 0#32),
    StableHlo.unary main_c_28 main_v125 (broadcastInDim S200x200 ![] bcast_S_S200x200 : (⟨S_, .i32⟩ : BufTy).Contents (Elt F) → (⟨S200x200, .i32⟩ : BufTy).Contents (Elt F)),
    StableHlo.binary main_v123 main_v125 main_v126 (addi : (⟨S200x200, .i32⟩ : BufTy).Contents (Elt F) → (⟨S200x200, .i32⟩ : BufTy).Contents (Elt F) → (⟨S200x200, .i32⟩ : BufTy).Contents (Elt F)),
    StableHlo.binary main_v126 main_v124 main_v127 (cmpi .eq : (⟨S200x200, .i32⟩ : BufTy).Contents (Elt F) → (⟨S200x200, .i32⟩ : BufTy).Contents (Elt F) → (⟨S200x200, .i1⟩ : BufTy).Contents (Elt F)),
    StableHlo.unary main_v127 main_v128 (uitofp .f32 : (⟨S200x200, .i1⟩ : BufTy).Contents (Elt F) → (⟨S200x200, .f32⟩ : BufTy).Contents (Elt F)),
    StableHlo.unary main_v128 main_v129 (broadcastInDim S1x200x200 ![1, 2] bcast_S200x200_S1x200x200_1_2 : (⟨S200x200, .f32⟩ : BufTy).Contents (Elt F) → (⟨S1x200x200, .f32⟩ : BufTy).Contents (Elt F)),
    StableHlo.nullary main_cst_29 (constant S_ .f32 0x4E6E6B28#32),
    StableHlo.unary main_cst_29 main_v130 (broadcastInDim S1x200x200 ![] bcast_S_S1x200x200 : (⟨S_, .f32⟩ : BufTy).Contents (Elt F) → (⟨S1x200x200, .f32⟩ : BufTy).Contents (Elt F)),
    StableHlo.binary main_v129 main_v130 main_v131 (mulf : (⟨S1x200x200, .f32⟩ : BufTy).Contents (Elt F) → (⟨S1x200x200, .f32⟩ : BufTy).Contents (Elt F) → (⟨S1x200x200, .f32⟩ : BufTy).Contents (Elt F)),
    StableHlo.unary main_v131 main_v132 (broadcastInDim S20x200x200 ![0, 1, 2] bcast_S1x200x200_S20x200x200_0_1_2 : (⟨S1x200x200, .f32⟩ : BufTy).Contents (Elt F) → (⟨S20x200x200, .f32⟩ : BufTy).Contents (Elt F)),
    StableHlo.binary main_v122 main_v132 main_v133 (addf : (⟨S20x200x200, .f32⟩ : BufTy).Contents (Elt F) → (⟨S20x200x200, .f32⟩ : BufTy).Contents (Elt F) → (⟨S20x200x200, .f32⟩ : BufTy).Contents (Elt F)),
    StableHlo.unary main_v133 main_v134 (Host.negf : (⟨S20x200x200, .f32⟩ : BufTy).Contents (Elt F) → (⟨S20x200x200, .f32⟩ : BufTy).Contents (Elt F)),
    StableHlo.unary main_v134 main_values_30 ((fun x => (Host.topK S20x200x15 2 (FloatOps.cmpfTotal .gt) x sliceFits_S20x200x200_S20x200x15).1) : (⟨S20x200x200, .f32⟩ : BufTy).Contents (Elt F) → (⟨S20x200x15, .f32⟩ : BufTy).Contents (Elt F)),
    StableHlo.unary main_v134 main_indices_31 ((fun x => (Host.topK S20x200x15 2 (FloatOps.cmpfTotal .gt) x sliceFits_S20x200x200_S20x200x15).2) : (⟨S20x200x200, .f32⟩ : BufTy).Contents (Elt F) → (⟨S20x200x15, .i32⟩ : BufTy).Contents (Elt F)) ]
/-- The buffers they write. -/
abbrev W7 : List (Ref sig .tc) := [main_v115, main_v116, main_v117, main_v118, main_v119, main_v120, main_v121, main_cst_27, main_v122, main_v123, main_v124, main_c_28, main_v125, main_v126, main_v127, main_v128, main_v129, main_cst_29, main_v130, main_v131, main_v132, main_v133, main_v134, main_values_30, main_indices_31]
theorem keep7 (V : Valuation τ sig (Elt F)) (r : Ref sig .tc) (h : r ∉ W7) :
    after (ch7 (F := F)) V (Proc.devRef .tc r) = V (Proc.devRef .tc r) :=
  after_of_writes_sub (ch7 (F := F)) _ (StableHlo.forall_writes_sub_of_map rfl) h
theorem val7 (V : Valuation τ sig (Elt F)) : after (ch7 (F := F)) V (Proc.devRef .tc main_indices_31) = R7 (V (Proc.devRef .tc main_v21)) := by
  unfold R7
  after_results_entrywise []

end Cert.Proof.Post

end
-- ==== Proof.PostE.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 176 to 183 after the loop. -/
abbrev ch10 : List (HloOp τ sig (Elt F)) :=
  [ StableHlo.unary main_v114 main_v149 ((extractStridedSlice S4000x20 ![0, 0] · slices_S20000x20_S4000x20_0_0) : (⟨S20000x20, .f32⟩ : BufTy).Contents (Elt F) → (⟨S4000x20, .f32⟩ : BufTy).Contents (Elt F)),
    StableHlo.nullary main_cst_35 (constant S_ .f32 0x00000000#32),
    StableHlo.binary main_v148 main_cst_35 main_v150 ((fun x v => Host.reduceAdd x v reducesTo_S4000x15x20_S4000x20_d1 h_S_) : (⟨S4000x15x20, .f32⟩ : BufTy).Contents (Elt F) → (⟨S_, .f32⟩ : BufTy).Contents (Elt F) → (⟨S4000x20, .f32⟩ : BufTy).Contents (Elt F)),
    StableHlo.nullary main_cst_36 (constant S_ .f32 0x41700000#32),
    StableHlo.unary main_cst_36 main_v151 (broadcastInDim S4000x20 ![] bcast_S_S4000x20 : (⟨S_, .f32⟩ : BufTy).Contents (Elt F) → (⟨S4000x20, .f32⟩ : BufTy).Contents (Elt F)),
    StableHlo.binary main_v150 main_v151 main_v152 (Host.divf : (⟨S4000x20, .f32⟩ : BufTy).Contents (Elt F) → (⟨S4000x20, .f32⟩ : BufTy).Contents (Elt F) → (⟨S4000x20, .f32⟩ : BufTy).Contents (Elt F)),
    StableHlo.nullary main_cst_37 (constant S_ .f32 0xFF800000#32),
    StableHlo.binary main_v148 main_cst_37 main_v153 ((fun x v => Host.reduce FloatOps.maximumf x v reducesTo_S4000x15x20_S4000x20_d1 h_S_) : (⟨S4000x15x20, .f32⟩ : BufTy).Contents (Elt F) → (⟨S_, .f32⟩ : BufTy).Contents (Elt F) → (⟨S4000x20, .f32⟩ : BufTy).Contents (Elt F)) ]
/-- The buffers they write. -/
abbrev W10 : List (Ref sig .tc) := [main_v149, main_cst_35, main_v150, main_cst_36, main_v151, main_v152, main_cst_37, main_v153]
theorem keep10 (V : Valuation τ sig (Elt F)) (r : Ref sig .tc) (h : r ∉ W10) :
    after (ch10 (F := F)) V (Proc.devRef .tc r) = V (Proc.devRef .tc r) :=
  after_of_writes_sub (ch10 (F := F)) _ (StableHlo.forall_writes_sub_of_map rfl) h
theorem val10a (V : Valuation τ sig (Elt F)) : after (ch10 (F := F)) V (Proc.devRef .tc main_v149) = R10a (V (Proc.devRef .tc main_v114)) := by
  unfold R10a
  after_results_entrywise []
theorem val10b (V : Valuation τ sig (Elt F)) : after (ch10 (F := F)) V (Proc.devRef .tc main_v152) = R10b (V (Proc.devRef .tc main_v148)) := by
  unfold R10b
  after_results_entrywise []
theorem val10c (V : Valuation τ sig (Elt F)) : after (ch10 (F := F)) V (Proc.devRef .tc main_v153) = R10c (V (Proc.devRef .tc main_v148)) := by
  unfold R10c
  after_results_entrywise []

end Cert.Proof.Post

end
-- ==== Proof.PostG.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 184 to 184 after the loop. -/
abbrev ch11 : List (HloOp τ sig (Elt F)) :=
  [ StableHlo.nary ![main_v149, main_v152, main_v153] main_v154 (fun u => (concatenate S4000x60 1 [⟨S4000x20, (u 0 : (⟨S4000x20, .f32⟩ : BufTy).Contents (Elt F))⟩, ⟨S4000x20, (u 1 : (⟨S4000x20, .f32⟩ : BufTy).Contents (Elt F))⟩, ⟨S4000x20, (u 2 : (⟨S4000x20, .f32⟩ : BufTy).Contents (Elt F))⟩] concatenates_S4000x20_S4000x20_S4000x20_S4000x60_d1 : (⟨S4000x60, .f32⟩ : BufTy).Contents (Elt F))) ]
/-- The buffers they write. -/
abbrev W11 : List (Ref sig .tc) := [main_v154]
theorem keep11 (V : Valuation τ sig (Elt F)) (r : Ref sig .tc) (h : r ∉ W11) :
    after (ch11 (F := F)) V (Proc.devRef .tc r) = V (Proc.devRef .tc r) :=
  after_of_writes_sub (ch11 (F := F)) _ (StableHlo.forall_writes_sub_of_map rfl) h
theorem val11 (V : Valuation τ sig (Elt F)) : after (ch11 (F := F)) V (Proc.devRef .tc main_v154) = R11 (V (Proc.devRef .tc main_v149)) (V (Proc.devRef .tc main_v152)) (V (Proc.devRef .tc main_v153)) := rfl

/-- The operations 185 to 212 after the loop. -/
abbrev ch12 : List (HloOp τ sig (Elt F)) :=
  [ StableHlo.binary main_v154 main_arg8 main_v155 ((fun l r => Host.dotGeneral dot_S4000x60_S60x64_S4000x64_1_0_0_1_n_n none l r) : (⟨S4000x60, .f32⟩ : BufTy).Contents (Elt F) → (⟨S60x64, .f32⟩ : BufTy).Contents (Elt F) → (⟨S4000x64, .f32⟩ : BufTy).Contents (Elt F)),
    StableHlo.unary main_arg9 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S4000x64 ![0, 1] bcast_S1x64_S4000x64_0_1 : (⟨S1x64, .f32⟩ : BufTy).Contents (Elt F) → (⟨S4000x64, .f32⟩ : BufTy).Contents (Elt F)),
    StableHlo.binary main_v155 main_v157 main_v158 (addf : (⟨S4000x64, .f32⟩ : BufTy).Contents (Elt F) → (⟨S4000x64, .f32⟩ : BufTy).Contents (Elt F) → (⟨S4000x64, .f32⟩ : BufTy).Contents (Elt F)),
    StableHlo.nullary main_cst_38 (constant S_ .f32 0x00000000#32),
    StableHlo.unary main_cst_38 main_v159 (broadcastInDim S4000x64 ![] bcast_S_S4000x64 : (⟨S_, .f32⟩ : BufTy).Contents (Elt F) → (⟨S4000x64, .f32⟩ : BufTy).Contents (Elt F)),
    StableHlo.binary main_v158 main_v159 main_v160 (maximumf : (⟨S4000x64, .f32⟩ : BufTy).Contents (Elt F) → (⟨S4000x64, .f32⟩ : BufTy).Contents (Elt F) → (⟨S4000x64, .f32⟩ : BufTy).Contents (Elt F)),
    StableHlo.binary main_v160 main_arg10 main_v161 ((fun l r => Host.dotGeneral dot_S4000x64_S64x32_S4000x32_1_0_0_1_n_n none l r) : (⟨S4000x64, .f32⟩ : BufTy).Contents (Elt F) → (⟨S64x32, .f32⟩ : BufTy).Contents (Elt F) → (⟨S4000x32, .f32⟩ : BufTy).Contents (Elt F)),
    StableHlo.unary main_arg11 main_v162 (broadcastInDim S1x32 ![1] bcast_S32_S1x32_1 : (⟨S32, .f32⟩ : BufTy).Contents (Elt F) → (⟨S1x32, .f32⟩ : BufTy).Contents (Elt F)),
    StableHlo.unary main_v162 main_v163 (broadcastInDim S4000x32 ![0, 1] bcast_S1x32_S4000x32_0_1 : (⟨S1x32, .f32⟩ : BufTy).Contents (Elt F) → (⟨S4000x32, .f32⟩ : BufTy).Contents (Elt F)),
    StableHlo.binary main_v161 main_v163 main_v164 (addf : (⟨S4000x32, .f32⟩ : BufTy).Contents (Elt F) → (⟨S4000x32, .f32⟩ : BufTy).Contents (Elt F) → (⟨S4000x32, .f32⟩ : BufTy).Contents (Elt F)),
    StableHlo.nullary main_cst_39 (constant S_ .f32 0x00000000#32),
    StableHlo.unary main_cst_39 main_v165 (broadcastInDim S4000x32 ![] bcast_S_S4000x32 : (⟨S_, .f32⟩ : BufTy).Contents (Elt F) → (⟨S4000x32, .f32⟩ : BufTy).Contents (Elt F)),
    StableHlo.binary main_v164 main_v165 main_v166 (maximumf : (⟨S4000x32, .f32⟩ : BufTy).Contents (Elt F) → (⟨S4000x32, .f32⟩ : BufTy).Contents (Elt F) → (⟨S4000x32, .f32⟩ : BufTy).Contents (Elt F)),
    StableHlo.unary main_v166 main_v167 (Host.negf : (⟨S4000x32, .f32⟩ : BufTy).Contents (Elt F) → (⟨S4000x32, .f32⟩ : BufTy).Contents (Elt F)),
    StableHlo.unary main_v167 main_v168 (Host.exp : (⟨S4000x32, .f32⟩ : BufTy).Contents (Elt F) → (⟨S4000x32, .f32⟩ : BufTy).Contents (Elt F)),
    StableHlo.nullary main_cst_40 (constant S_ .f32 0x3F800000#32),
    StableHlo.unary main_cst_40 main_v169 (broadcastInDim S4000x32 ![] bcast_S_S4000x32 : (⟨S_, .f32⟩ : BufTy).Contents (Elt F) → (⟨S4000x32, .f32⟩ : BufTy).Contents (Elt F)),
    StableHlo.binary main_v169 main_v168 main_v170 (addf : (⟨S4000x32, .f32⟩ : BufTy).Contents (Elt F) → (⟨S4000x32, .f32⟩ : BufTy).Contents (Elt F) → (⟨S4000x32, .f32⟩ : BufTy).Contents (Elt F)),
    StableHlo.nullary main_cst_41 (constant S_ .f32 0x3F800000#32),
    StableHlo.unary main_cst_41 main_v171 (broadcastInDim S4000x32 ![] bcast_S_S4000x32 : (⟨S_, .f32⟩ : BufTy).Contents (Elt F) → (⟨S4000x32, .f32⟩ : BufTy).Contents (Elt F)),
    StableHlo.binary main_v171 main_v170 main_v172 (Host.divf : (⟨S4000x32, .f32⟩ : BufTy).Contents (Elt F) → (⟨S4000x32, .f32⟩ : BufTy).Contents (Elt F) → (⟨S4000x32, .f32⟩ : BufTy).Contents (Elt F)),
    StableHlo.reshape main_v172 main_v173 (rfl : (.f32 : EltTy) = .f32) shapeCasts_S4000x32_S20x200x32,
    StableHlo.nullary main_cst_42 (constant S_ .f32 0x00000000#32),
    StableHlo.binary main_v173 main_cst_42 main_v174 ((fun x v => Host.reduceAdd x v reducesTo_S20x200x32_S20x32_d1 h_S_) : (⟨S20x200x32, .f32⟩ : BufTy).Contents (Elt F) → (⟨S_, .f32⟩ : BufTy).Contents (Elt F) → (⟨S20x32, .f32⟩ : BufTy).Contents (Elt F)),
    StableHlo.nullary main_cst_43 (constant S_ .f32 0x43480000#32),
    StableHlo.unary main_cst_43 main_v175 (broadcastInDim S20x32 ![] bcast_S_S20x32 : (⟨S_, .f32⟩ : BufTy).Contents (Elt F) → (⟨S20x32, .f32⟩ : BufTy).Contents (Elt F)),
    StableHlo.binary main_v174 main_v175 main_v176 (Host.divf : (⟨S20x32, .f32⟩ : BufTy).Contents (Elt F) → (⟨S20x32, .f32⟩ : BufTy).Contents (Elt F) → (⟨S20x32, .f32⟩ : BufTy).Contents (Elt F)) ]
/-- The buffers they write. -/
abbrev W12 : List (Ref sig .tc) := [main_v155, main_v156, main_v157, main_v158, main_cst_38, main_v159, main_v160, main_v161, main_v162, main_v163, main_v164, main_cst_39, main_v165, main_v166, main_v167, main_v168, main_cst_40, main_v169, main_v170, main_cst_41, main_v171, main_v172, main_v173, main_cst_42, main_v174, main_cst_43, main_v175, main_v176]
theorem keep12 (V : Valuation τ sig (Elt F)) (r : Ref sig .tc) (h : r ∉ W12) :
    after (ch12 (F := F)) V (Proc.devRef .tc r) = V (Proc.devRef .tc r) :=
  after_of_writes_sub (ch12 (F := F)) _ (StableHlo.forall_writes_sub_of_map rfl) h
theorem val12 (V : Valuation τ sig (Elt F)) : after (ch12 (F := F)) V (Proc.devRef .tc main_v176) = R12 (V (Proc.devRef .tc main_v154)) (V (Proc.devRef .tc main_arg8)) (V (Proc.devRef .tc main_arg9)) (V (Proc.devRef .tc main_arg10)) (V (Proc.devRef .tc main_arg11)) := by
  unfold R12
  after_results_entrywise []

end Cert.Proof.Post

end
-- ==== Proof.PostH.lean ====
module

public import proofs.«01_k».proof.Proof.Ref
public import proofs.«01_k».proof.Proof.PostDefs

/-! The operations after the reference's loop in stretches: what each stretch leaves. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The operations 213 to 240 after the loop. -/
abbrev ch13 : List (HloOp τ sig (Elt F)) :=
  [ StableHlo.binary main_v176 main_arg12 main_v177 ((fun l r => Host.dotGeneral dot_S20x32_S32x256_S20x256_1_0_0_1_n_n none l r) : (⟨S20x32, .f32⟩ : BufTy).Contents (Elt F) → (⟨S32x256, .f32⟩ : BufTy).Contents (Elt F) → (⟨S20x256, .f32⟩ : BufTy).Contents (Elt F)),
    StableHlo.unary main_arg13 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S20x256 ![0, 1] bcast_S1x256_S20x256_0_1 : (⟨S1x256, .f32⟩ : BufTy).Contents (Elt F) → (⟨S20x256, .f32⟩ : BufTy).Contents (Elt F)),
    StableHlo.binary main_v177 main_v179 main_v180 (addf : (⟨S20x256, .f32⟩ : BufTy).Contents (Elt F) → (⟨S20x256, .f32⟩ : BufTy).Contents (Elt F) → (⟨S20x256, .f32⟩ : BufTy).Contents (Elt F)),
    StableHlo.nullary main_cst_44 (constant S_ .f32 0x00000000#32),
    StableHlo.unary main_cst_44 main_v181 (broadcastInDim S20x256 ![] bcast_S_S20x256 : (⟨S_, .f32⟩ : BufTy).Contents (Elt F) → (⟨S20x256, .f32⟩ : BufTy).Contents (Elt F)),
    StableHlo.binary main_v180 main_v181 main_v182 (cmpf .ogt : (⟨S20x256, .f32⟩ : BufTy).Contents (Elt F) → (⟨S20x256, .f32⟩ : BufTy).Contents (Elt F) → (⟨S20x256, .i1⟩ : BufTy).Contents (Elt F)),
    StableHlo.nullary main_cst_45 (constant S_ .f32 0x00000000#32),
    StableHlo.unary main_cst_45 main_v183 (broadcastInDim S20x256 ![] bcast_S_S20x256 : (⟨S_, .f32⟩ : BufTy).Contents (Elt F) → (⟨S20x256, .f32⟩ : BufTy).Contents (Elt F)),
    StableHlo.binary main_v180 main_v183 main_v184 (minimumf : (⟨S20x256, .f32⟩ : BufTy).Contents (Elt F) → (⟨S20x256, .f32⟩ : BufTy).Contents (Elt F) → (⟨S20x256, .f32⟩ : BufTy).Contents (Elt F)),
    StableHlo.unary main_v184 main_v185 (Host.expm1 : (⟨S20x256, .f32⟩ : BufTy).Contents (Elt F) → (⟨S20x256, .f32⟩ : BufTy).Contents (Elt F)),
    StableHlo.ternary main_v182 main_v180 main_v185 main_v186 (select : (⟨S20x256, .i1⟩ : BufTy).Contents (Elt F) → (⟨S20x256, .f32⟩ : BufTy).Contents (Elt F) → (⟨S20x256, .f32⟩ : BufTy).Contents (Elt F) → (⟨S20x256, .f32⟩ : BufTy).Contents (Elt F)),
    StableHlo.binary main_v186 main_arg14 main_v187 ((fun l r => Host.dotGeneral dot_S20x256_S256x40_S20x40_1_0_0_1_n_n none l r) : (⟨S20x256, .f32⟩ : BufTy).Contents (Elt F) → (⟨S256x40, .f32⟩ : BufTy).Contents (Elt F) → (⟨S20x40, .f32⟩ : BufTy).Contents (Elt F)),
    StableHlo.unary main_arg15 main_v188 (broadcastInDim S1x40 ![1] bcast_S40_S1x40_1 : (⟨S40, .f32⟩ : BufTy).Contents (Elt F) → (⟨S1x40, .f32⟩ : BufTy).Contents (Elt F)),
    StableHlo.unary main_v188 main_v189 (broadcastInDim S20x40 ![0, 1] bcast_S1x40_S20x40_0_1 : (⟨S1x40, .f32⟩ : BufTy).Contents (Elt F) → (⟨S20x40, .f32⟩ : BufTy).Contents (Elt F)),
    StableHlo.binary main_v187 main_v189 main_v190 (addf : (⟨S20x40, .f32⟩ : BufTy).Contents (Elt F) → (⟨S20x40, .f32⟩ : BufTy).Contents (Elt F) → (⟨S20x40, .f32⟩ : BufTy).Contents (Elt F)),
    StableHlo.nullary main_cst_46 (constant S_ .f32 0xFF800000#32),
    StableHlo.binary main_v190 main_cst_46 main_v191 ((fun x v => Host.reduce FloatOps.maximumf x v reducesTo_S20x40_S20_d1 h_S_) : (⟨S20x40, .f32⟩ : BufTy).Contents (Elt F) → (⟨S_, .f32⟩ : BufTy).Contents (Elt F) → (⟨S20, .f32⟩ : BufTy).Contents (Elt F)),
    StableHlo.unary main_v191 main_v192 (broadcastInDim S20x1 ![0] bcast_S20_S20x1_0 : (⟨S20, .f32⟩ : BufTy).Contents (Elt F) → (⟨S20x1, .f32⟩ : BufTy).Contents (Elt F)),
    StableHlo.unary main_v192 main_v193 (broadcastInDim S20x40 ![0, 1] bcast_S20x1_S20x40_0_1 : (⟨S20x1, .f32⟩ : BufTy).Contents (Elt F) → (⟨S20x40, .f32⟩ : BufTy).Contents (Elt F)),
    StableHlo.binary main_v190 main_v193 main_v194 (subf : (⟨S20x40, .f32⟩ : BufTy).Contents (Elt F) → (⟨S20x40, .f32⟩ : BufTy).Contents (Elt F) → (⟨S20x40, .f32⟩ : BufTy).Contents (Elt F)),
    StableHlo.unary main_v194 main_v195 (Host.exp : (⟨S20x40, .f32⟩ : BufTy).Contents (Elt F) → (⟨S20x40, .f32⟩ : BufTy).Contents (Elt F)),
    StableHlo.nullary main_cst_47 (constant S_ .f32 0x00000000#32),
    StableHlo.binary main_v195 main_cst_47 main_v196 ((fun x v => Host.reduceAdd x v reducesTo_S20x40_S20_d1 h_S_) : (⟨S20x40, .f32⟩ : BufTy).Contents (Elt F) → (⟨S_, .f32⟩ : BufTy).Contents (Elt F) → (⟨S20, .f32⟩ : BufTy).Contents (Elt F)),
    StableHlo.unary main_v196 main_v197 (broadcastInDim S20x1 ![0] bcast_S20_S20x1_0 : (⟨S20, .f32⟩ : BufTy).Contents (Elt F) → (⟨S20x1, .f32⟩ : BufTy).Contents (Elt F)),
    StableHlo.unary main_v197 main_v198 (Host.log : (⟨S20x1, .f32⟩ : BufTy).Contents (Elt F) → (⟨S20x1, .f32⟩ : BufTy).Contents (Elt F)),
    StableHlo.unary main_v198 main_v199 (broadcastInDim S20x40 ![0, 1] bcast_S20x1_S20x40_0_1 : (⟨S20x1, .f32⟩ : BufTy).Contents (Elt F) → (⟨S20x40, .f32⟩ : BufTy).Contents (Elt F)),
    StableHlo.binary main_v194 main_v199 main_v200 (subf : (⟨S20x40, .f32⟩ : BufTy).Contents (Elt F) → (⟨S20x40, .f32⟩ : BufTy).Contents (Elt F) → (⟨S20x40, .f32⟩ : BufTy).Contents (Elt F)) ]
/-- The buffers they write. -/
abbrev W13 : List (Ref sig .tc) := [main_v177, main_v178, main_v179, main_v180, main_cst_44, main_v181, main_v182, main_cst_45, main_v183, main_v184, main_v185, main_v186, main_v187, main_v188, main_v189, main_v190, main_cst_46, main_v191, main_v192, main_v193, main_v194, main_v195, main_cst_47, main_v196, main_v197, main_v198, main_v199, main_v200]
theorem keep13 (V : Valuation τ sig (Elt F)) (r : Ref sig .tc) (h : r ∉ W13) :
    after (ch13 (F := F)) V (Proc.devRef .tc r) = V (Proc.devRef .tc r) :=
  after_of_writes_sub (ch13 (F := F)) _ (StableHlo.forall_writes_sub_of_map rfl) h
theorem val13 (V : Valuation τ sig (Elt F)) : after (ch13 (F := F)) V (Proc.devRef .tc main_v200) = R13 (V (Proc.devRef .tc main_v176)) (V (Proc.devRef .tc main_arg12)) (V (Proc.devRef .tc main_arg13)) (V (Proc.devRef .tc main_arg14)) (V (Proc.devRef .tc main_arg15)) := by
  unfold R13
  after_results_entrywise []

end Cert.Proof.Post

end
-- ==== Proof.PostTop.lean ====
module

public import proofs.«01_k».proof.Proof.PostA
public import proofs.«01_k».proof.Proof.PostB
public import proofs.«01_k».proof.Proof.PostC
public import proofs.«01_k».proof.Proof.PostD
public import proofs.«01_k».proof.Proof.PostE
public import proofs.«01_k».proof.Proof.PostG
public import proofs.«01_k».proof.Proof.PostH

/-! The operations after the reference's loop, put together. -/

@[expose] public section

set_option maxRecDepth 16384
set_option maxHeartbeats 1000000

noncomputable section

namespace Cert.Proof.Post

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

theorem cut : (hostOps0_1 : List (HloOp τ sig (Elt F))) = ch0 ++ (ch1 ++ (ch2 ++ (ch3 ++ (ch4 ++ (ch5 ++ (ch6 ++ (ch7 ++ (ch8 ++ (ch9 ++ (ch10 ++ (ch11 ++ (ch12 ++ (ch13))))))))))))) := rfl

variable (X : Valuation τ sig (Elt F))

/-- The buffers after each part. -/
abbrev U0 : Valuation τ sig (Elt F) := X
def U1 : Valuation τ sig (Elt F) := after ch0 (U0 X)
def U2 : Valuation τ sig (Elt F) := after ch1 (U1 X)
def U3 : Valuation τ sig (Elt F) := after ch2 (U2 X)
def U4 : Valuation τ sig (Elt F) := after ch3 (U3 X)
def U5 : Valuation τ sig (Elt F) := after ch4 (U4 X)
def U6 : Valuation τ sig (Elt F) := after ch5 (U5 X)
def U7 : Valuation τ sig (Elt F) := after ch6 (U6 X)
def U8 : Valuation τ sig (Elt F) := after ch7 (U7 X)
def U9 : Valuation τ sig (Elt F) := after ch8 (U8 X)
def U10 : Valuation τ sig (Elt F) := after ch9 (U9 X)
def U11 : Valuation τ sig (Elt F) := after ch10 (U10 X)
def U12 : Valuation τ sig (Elt F) := after ch11 (U11 X)
def U13 : Valuation τ sig (Elt F) := after ch12 (U12 X)
def U14 : Valuation τ sig (Elt F) := after ch13 (U13 X)

/-- `main_v21`, from the buffers before. -/
def t_v21 := R0 (F := F) (X (Proc.devRef .tc main_arg0)) (X (Proc.devRef .tc main_v7_4))
theorem m_v21 : U1 X (Proc.devRef .tc main_v21) = t_v21 X := by
  refine (val0 (U0 X)).trans ?_
  have e0 : U0 X (Proc.devRef .tc main_arg0) = (X (Proc.devRef .tc main_arg0)) := rfl
  have e1 : U0 X (Proc.devRef .tc main_v7_4) = (X (Proc.devRef .tc main_v7_4)) := rfl
  rfl

/-- `main_indices`, from the buffers before. -/
def t_indices := R1 (F := F) (X (Proc.devRef .tc main_v0))
theorem m_indices : U2 X (Proc.devRef .tc main_indices) = t_indices X := by
  refine (val1 (U1 X)).trans ?_
  have e0 : U1 X (Proc.devRef .tc main_v0) = (X (Proc.devRef .tc main_v0)) := (keep0 (U0 X) main_v0 (by decide))
  rw [e0]
  rfl

/-- `main_v47`, from the buffers before. -/
def t_v47 := R2 (t_indices X)
theorem m_v47 : U3 X (Proc.devRef .tc main_v47) = t_v47 X := by
  refine (val2 (U2 X)).trans ?_
  have e0 : U2 X (Proc.devRef .tc main_indices) = (t_indices X) := m_indices X
  rw [e0]
  rfl

/-- `main_v57`, from the buffers before. -/
def t_v57 := R3 (F := F) (X (Proc.devRef .tc main_arg0)) (t_v47 X)
theorem m_v57 : U4 X (Proc.devRef .tc main_v57) = t_v57 X := by
  refine (val3 (U3 X)).trans ?_
  have e0 : U3 X (Proc.devRef .tc main_arg0) = (X (Proc.devRef .tc main_arg0)) := (keep2 (U2 X) main_arg0 (by decide)).trans ((keep1 (U1 X) main_arg0 (by decide)).trans ((keep0 (U0 X) main_arg0 (by decide))))
  have e1 : U3 X (Proc.devRef .tc main_v47) = (t_v47 X) := m_v47 X
  rw [e0]
  rw [e1]
  rfl

/-- `main_v87`, from the buffers before. -/
def t_v87 := R4 (F := F) (X (Proc.devRef .tc main_arg3)) (t_v57 X)
theorem m_v87 : U5 X (Proc.devRef .tc main_v87) = t_v87 X := by
  refine (val4 (U4 X)).trans ?_
  have e0 : U4 X (Proc.devRef .tc main_arg3) = (X (Proc.devRef .tc main_arg3)) := (keep3 (U3 X) main_arg3 (by decide)).trans ((keep2 (U2 X) main_arg3 (by decide)).trans ((keep1 (U1 X) main_arg3 (by decide)).trans ((keep0 (U0 X) main_arg3 (by decide)))))
  have e1 : U4 X (Proc.devRef .tc main_v57) = (t_v57 X) := m_v57 X
  rw [e0]
  rw [e1]
  rfl

/-- `main_v95`, from the buffers before. -/
def t_v95 := R5 (F := F) (t_v87 X) (t_v47 X) (t_v57 X)
theorem m_v95 : U6 X (Proc.devRef .tc main_v95) = t_v95 X := by
  refine (val5 (U5 X)).trans ?_
  have e0 : U5 X (Proc.devRef .tc main_v87) = (t_v87 X) := m_v87 X
  have e1 : U5 X (Proc.devRef .tc main_v47) = (t_v47 X) := (keep4 (U4 X) main_v47 (by decide)).trans ((keep3 (U3 X) main_v47 (by decide)).trans (m_v47 X))
  have e2 : U5 X (Proc.devRef .tc main_v57) = (t_v57 X) := (keep4 (U4 X) main_v57 (by decide)).trans (m_v57 X)
  rw [e0]
  rw [e1]
  rw [e2]
  rfl

/-- `main_v114`, from the buffers before. -/
def t_v114 := R6 (F := F) (t_v95 X) (X (Proc.devRef .tc main_arg4)) (X (Proc.devRef .tc main_arg5)) (X (Proc.devRef .tc main_arg6)) (X (Proc.devRef .tc main_arg7))
theorem m_v114 : U7 X (Proc.devRef .tc main_v114) = t_v114 X := by
  refine (val6 (U6 X)).trans ?_
  have e0 : U6 X (Proc.devRef .tc main_v95) = (t_v95 X) := m_v95 X
  have e1 : U6 X (Proc.devRef .tc main_arg4) = (X (Proc.devRef .tc main_arg4)) := (keep5 (U5 X) main_arg4 (by decide)).trans ((keep4 (U4 X) main_arg4 (by decide)).trans ((keep3 (U3 X) main_arg4 (by decide)).trans ((keep2 (U2 X) main_arg4 (by decide)).trans ((keep1 (U1 X) main_arg4 (by decide)).trans ((keep0 (U0 X) main_arg4 (by decide)))))))
  have e2 : U6 X (Proc.devRef .tc main_arg5) = (X (Proc.devRef .tc main_arg5)) := (keep5 (U5 X) main_arg5 (by decide)).trans ((keep4 (U4 X) main_arg5 (by decide)).trans ((keep3 (U3 X) main_arg5 (by decide)).trans ((keep2 (U2 X) main_arg5 (by decide)).trans ((keep1 (U1 X) main_arg5 (by decide)).trans ((keep0 (U0 X) main_arg5 (by decide)))))))
  have e3 : U6 X (Proc.devRef .tc main_arg6) = (X (Proc.devRef .tc main_arg6)) := (keep5 (U5 X) main_arg6 (by decide)).trans ((keep4 (U4 X) main_arg6 (by decide)).trans ((keep3 (U3 X) main_arg6 (by decide)).trans ((keep2 (U2 X) main_arg6 (by decide)).trans ((keep1 (U1 X) main_arg6 (by decide)).trans ((keep0 (U0 X) main_arg6 (by decide)))))))
  have e4 : U6 X (Proc.devRef .tc main_arg7) = (X (Proc.devRef .tc main_arg7)) := (keep5 (U5 X) main_arg7 (by decide)).trans ((keep4 (U4 X) main_arg7 (by decide)).trans ((keep3 (U3 X) main_arg7 (by decide)).trans ((keep2 (U2 X) main_arg7 (by decide)).trans ((keep1 (U1 X) main_arg7 (by decide)).trans ((keep0 (U0 X) main_arg7 (by decide)))))))
  rw [e0]
  rw [e1]
  rw [e2]
  rw [e3]
  rw [e4]
  rfl

/-- `main_indices_31`, from the buffers before. -/
def t_indices_31 := R7 (F := F) (t_v21 X)
theorem m_indices_31 : U8 X (Proc.devRef .tc main_indices_31) = t_indices_31 X := by
  refine (val7 (U7 X)).trans ?_
  have e0 : U7 X (Proc.devRef .tc main_v21) = (t_v21 X) := (keep6 (U6 X) main_v21 (by decide)).trans ((keep5 (U5 X) main_v21 (by decide)).trans ((keep4 (U4 X) main_v21 (by decide)).trans ((keep3 (U3 X) main_v21 (by decide)).trans ((keep2 (U2 X) main_v21 (by decide)).trans ((keep1 (U1 X) main_v21 (by decide)).trans (m_v21 X))))))
  rw [e0]
  rfl

/-- `main_v141`, from the buffers before. -/
def t_v141 := R8 (t_indices_31 X)
theorem m_v141 : U9 X (Proc.devRef .tc main_v141) = t_v141 X := by
  refine (val8 (U8 X)).trans ?_
  have e0 : U8 X (Proc.devRef .tc main_indices_31) = (t_indices_31 X) := m_indices_31 X
  rw [e0]
  rfl

/-- `main_v148`, from the buffers before. -/
def t_v148 := R9 (F := F) (t_v114 X) (t_v141 X)
theorem m_v148 : U10 X (Proc.devRef .tc main_v148) = t_v148 X := by
  refine (val9 (U9 X)).trans ?_
  have e0 : U9 X (Proc.devRef .tc main_v114) = (t_v114 X) := (keep8 (U8 X) main_v114 (by decide)).trans ((keep7 (U7 X) main_v114 (by decide)).trans (m_v114 X))
  have e1 : U9 X (Proc.devRef .tc main_v141) = (t_v141 X) := m_v141 X
  rw [e0]
  rw [e1]
  rfl

/-- `main_v149`, from the buffers before. -/
def t_v149 := R10a (F := F) (t_v114 X)
theorem m_v149 : U11 X (Proc.devRef .tc main_v149) = t_v149 X := by
  refine (val10a (U10 X)).trans ?_
  have e0 : U10 X (Proc.devRef .tc main_v114) = (t_v114 X) := (keep9 (U9 X) main_v114 (by decide)).trans ((keep8 (U8 X) main_v114 (by decide)).trans ((keep7 (U7 X) main_v114 (by decide)).trans (m_v114 X)))
  rw [e0]
  rfl

/-- `main_v152`, from the buffers before. -/
def t_v152 := R10b (F := F) (t_v148 X)
theorem m_v152 : U11 X (Proc.devRef .tc main_v152) = t_v152 X := by
  refine (val10b (U10 X)).trans ?_
  have e0 : U10 X (Proc.devRef .tc main_v148) = (t_v148 X) := m_v148 X
  rw [e0]
  rfl

/-- `main_v153`, from the buffers before. -/
def t_v153 := R10c (F := F) (t_v148 X)
theorem m_v153 : U11 X (Proc.devRef .tc main_v153) = t_v153 X := by
  refine (val10c (U10 X)).trans ?_
  have e0 : U10 X (Proc.devRef .tc main_v148) = (t_v148 X) := m_v148 X
  rw [e0]
  rfl

/-- `main_v154`, from the buffers before. -/
def t_v154 := R11 (F := F) (t_v149 X) (t_v152 X) (t_v153 X)
theorem m_v154 : U12 X (Proc.devRef .tc main_v154) = t_v154 X := by
  refine (val11 (U11 X)).trans ?_
  have e0 : U11 X (Proc.devRef .tc main_v149) = (t_v149 X) := m_v149 X
  have e1 : U11 X (Proc.devRef .tc main_v152) = (t_v152 X) := m_v152 X
  have e2 : U11 X (Proc.devRef .tc main_v153) = (t_v153 X) := m_v153 X
  rw [e0]
  rw [e1]
  rw [e2]
  rfl

/-- `main_v176`, from the buffers before. -/
def t_v176 := R12 (F := F) (t_v154 X) (X (Proc.devRef .tc main_arg8)) (X (Proc.devRef .tc main_arg9)) (X (Proc.devRef .tc main_arg10)) (X (Proc.devRef .tc main_arg11))
theorem m_v176 : U13 X (Proc.devRef .tc main_v176) = t_v176 X := by
  refine (val12 (U12 X)).trans ?_
  have e0 : U12 X (Proc.devRef .tc main_v154) = (t_v154 X) := m_v154 X
  have e1 : U12 X (Proc.devRef .tc main_arg8) = (X (Proc.devRef .tc main_arg8)) := (keep11 (U11 X) main_arg8 (by decide)).trans ((keep10 (U10 X) main_arg8 (by decide)).trans ((keep9 (U9 X) main_arg8 (by decide)).trans ((keep8 (U8 X) main_arg8 (by decide)).trans ((keep7 (U7 X) main_arg8 (by decide)).trans ((keep6 (U6 X) main_arg8 (by decide)).trans ((keep5 (U5 X) main_arg8 (by decide)).trans ((keep4 (U4 X) main_arg8 (by decide)).trans ((keep3 (U3 X) main_arg8 (by decide)).trans ((keep2 (U2 X) main_arg8 (by decide)).trans ((keep1 (U1 X) main_arg8 (by decide)).trans ((keep0 (U0 X) main_arg8 (by decide)))))))))))))
  have e2 : U12 X (Proc.devRef .tc main_arg9) = (X (Proc.devRef .tc main_arg9)) := (keep11 (U11 X) main_arg9 (by decide)).trans ((keep10 (U10 X) main_arg9 (by decide)).trans ((keep9 (U9 X) main_arg9 (by decide)).trans ((keep8 (U8 X) main_arg9 (by decide)).trans ((keep7 (U7 X) main_arg9 (by decide)).trans ((keep6 (U6 X) main_arg9 (by decide)).trans ((keep5 (U5 X) main_arg9 (by decide)).trans ((keep4 (U4 X) main_arg9 (by decide)).trans ((keep3 (U3 X) main_arg9 (by decide)).trans ((keep2 (U2 X) main_arg9 (by decide)).trans ((keep1 (U1 X) main_arg9 (by decide)).trans ((keep0 (U0 X) main_arg9 (by decide)))))))))))))
  have e3 : U12 X (Proc.devRef .tc main_arg10) = (X (Proc.devRef .tc main_arg10)) := (keep11 (U11 X) main_arg10 (by decide)).trans ((keep10 (U10 X) main_arg10 (by decide)).trans ((keep9 (U9 X) main_arg10 (by decide)).trans ((keep8 (U8 X) main_arg10 (by decide)).trans ((keep7 (U7 X) main_arg10 (by decide)).trans ((keep6 (U6 X) main_arg10 (by decide)).trans ((keep5 (U5 X) main_arg10 (by decide)).trans ((keep4 (U4 X) main_arg10 (by decide)).trans ((keep3 (U3 X) main_arg10 (by decide)).trans ((keep2 (U2 X) main_arg10 (by decide)).trans ((keep1 (U1 X) main_arg10 (by decide)).trans ((keep0 (U0 X) main_arg10 (by decide)))))))))))))
  have e4 : U12 X (Proc.devRef .tc main_arg11) = (X (Proc.devRef .tc main_arg11)) := (keep11 (U11 X) main_arg11 (by decide)).trans ((keep10 (U10 X) main_arg11 (by decide)).trans ((keep9 (U9 X) main_arg11 (by decide)).trans ((keep8 (U8 X) main_arg11 (by decide)).trans ((keep7 (U7 X) main_arg11 (by decide)).trans ((keep6 (U6 X) main_arg11 (by decide)).trans ((keep5 (U5 X) main_arg11 (by decide)).trans ((keep4 (U4 X) main_arg11 (by decide)).trans ((keep3 (U3 X) main_arg11 (by decide)).trans ((keep2 (U2 X) main_arg11 (by decide)).trans ((keep1 (U1 X) main_arg11 (by decide)).trans ((keep0 (U0 X) main_arg11 (by decide)))))))))))))
  rw [e0]
  rw [e1]
  rw [e2]
  rw [e3]
  rw [e4]
  rfl

/-- `main_v200`, from the buffers before. -/
def t_v200 := R13 (F := F) (t_v176 X) (X (Proc.devRef .tc main_arg12)) (X (Proc.devRef .tc main_arg13)) (X (Proc.devRef .tc main_arg14)) (X (Proc.devRef .tc main_arg15))
theorem m_v200 : U14 X (Proc.devRef .tc main_v200) = t_v200 X := by
  refine (val13 (U13 X)).trans ?_
  have e0 : U13 X (Proc.devRef .tc main_v176) = (t_v176 X) := m_v176 X
  have e1 : U13 X (Proc.devRef .tc main_arg12) = (X (Proc.devRef .tc main_arg12)) := (keep12 (U12 X) main_arg12 (by decide)).trans ((keep11 (U11 X) main_arg12 (by decide)).trans ((keep10 (U10 X) main_arg12 (by decide)).trans ((keep9 (U9 X) main_arg12 (by decide)).trans ((keep8 (U8 X) main_arg12 (by decide)).trans ((keep7 (U7 X) main_arg12 (by decide)).trans ((keep6 (U6 X) main_arg12 (by decide)).trans ((keep5 (U5 X) main_arg12 (by decide)).trans ((keep4 (U4 X) main_arg12 (by decide)).trans ((keep3 (U3 X) main_arg12 (by decide)).trans ((keep2 (U2 X) main_arg12 (by decide)).trans ((keep1 (U1 X) main_arg12 (by decide)).trans ((keep0 (U0 X) main_arg12 (by decide))))))))))))))
  have e2 : U13 X (Proc.devRef .tc main_arg13) = (X (Proc.devRef .tc main_arg13)) := (keep12 (U12 X) main_arg13 (by decide)).trans ((keep11 (U11 X) main_arg13 (by decide)).trans ((keep10 (U10 X) main_arg13 (by decide)).trans ((keep9 (U9 X) main_arg13 (by decide)).trans ((keep8 (U8 X) main_arg13 (by decide)).trans ((keep7 (U7 X) main_arg13 (by decide)).trans ((keep6 (U6 X) main_arg13 (by decide)).trans ((keep5 (U5 X) main_arg13 (by decide)).trans ((keep4 (U4 X) main_arg13 (by decide)).trans ((keep3 (U3 X) main_arg13 (by decide)).trans ((keep2 (U2 X) main_arg13 (by decide)).trans ((keep1 (U1 X) main_arg13 (by decide)).trans ((keep0 (U0 X) main_arg13 (by decide))))))))))))))
  have e3 : U13 X (Proc.devRef .tc main_arg14) = (X (Proc.devRef .tc main_arg14)) := (keep12 (U12 X) main_arg14 (by decide)).trans ((keep11 (U11 X) main_arg14 (by decide)).trans ((keep10 (U10 X) main_arg14 (by decide)).trans ((keep9 (U9 X) main_arg14 (by decide)).trans ((keep8 (U8 X) main_arg14 (by decide)).trans ((keep7 (U7 X) main_arg14 (by decide)).trans ((keep6 (U6 X) main_arg14 (by decide)).trans ((keep5 (U5 X) main_arg14 (by decide)).trans ((keep4 (U4 X) main_arg14 (by decide)).trans ((keep3 (U3 X) main_arg14 (by decide)).trans ((keep2 (U2 X) main_arg14 (by decide)).trans ((keep1 (U1 X) main_arg14 (by decide)).trans ((keep0 (U0 X) main_arg14 (by decide))))))))))))))
  have e4 : U13 X (Proc.devRef .tc main_arg15) = (X (Proc.devRef .tc main_arg15)) := (keep12 (U12 X) main_arg15 (by decide)).trans ((keep11 (U11 X) main_arg15 (by decide)).trans ((keep10 (U10 X) main_arg15 (by decide)).trans ((keep9 (U9 X) main_arg15 (by decide)).trans ((keep8 (U8 X) main_arg15 (by decide)).trans ((keep7 (U7 X) main_arg15 (by decide)).trans ((keep6 (U6 X) main_arg15 (by decide)).trans ((keep5 (U5 X) main_arg15 (by decide)).trans ((keep4 (U4 X) main_arg15 (by decide)).trans ((keep3 (U3 X) main_arg15 (by decide)).trans ((keep2 (U2 X) main_arg15 (by decide)).trans ((keep1 (U1 X) main_arg15 (by decide)).trans ((keep0 (U0 X) main_arg15 (by decide))))))))))))))
  rw [e0]
  rw [e1]
  rw [e2]
  rw [e3]
  rw [e4]
  rfl

theorem post_eq : after (hostOps0_1 (F := F)) X (Proc.devRef .tc main_v200) = t_v200 X := by
  rw [cut]
  simp only [after_append]
  exact m_v200 X

end Cert.Proof.Post

end
-- ==== Proof.RA0.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

theorem R0_eq (x : FVec Ideal S20000x3 .f32) (w : IVec S20x200 32) (hx : ∀ R a, x (ix2 R a) = P (gr R) (pr R) a)
    (hw : ∀ (g : Fin 20) (i : Fin 200), w (ix2 g i) = BitVec.ofNat 32 (fps (P g) i.val).1.val) (R : Fin 4000) (a : Fin 3) :
    R0 (F := Ideal) x w (ix2 R a) = sub (P (gs R)) 200 (ps R) a := by
  have hm := (fps (P (gs R)) (ps R).val).1.isLt
  have hR := R.isLt
  unfold R0
  refine (take2_apply _ x _ R a ⟨(R.val / 200) * 1000 + (fps (P (gs R)) (ps R).val).1.val, by omega⟩ ?_ (by decide)).trans ?_
  · pointwise []
    rw [hw ⟨R.val / 200, by omega⟩ ⟨R.val % 200, by omega⟩, word_add, sel_nonneg _ (by omega)]
  · rw [hx]
    unfold sub
    refine congrArg₂ (fun g i => P g i a) (Fin.ext ?_) (Fin.ext ?_)
    · show (R.val / 200 * 1000 + _) / 1000 = R.val / 200
      omega
    · show (R.val / 200 * 1000 + _) % 1000 = _
      omega

end Cert.Proof.RA

end
-- ==== Proof.RA1.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

theorem R1_eq (x : FVec Ideal S20x1000x3 .f32) (hx : ∀ g i a, x (ix3 g i a) = P g i a)
    (hfin : ∀ g i j, Spec.dist (P g) i j < ⊤) (g : Fin 20) (i : Fin 1000) (k : Fin 15) :
    R1 (F := Ideal) x (ix3 g i k) = BitVec.ofNat 32 (nbr (P g) i k.val).val := by
  unfold R1
  refine topK3 _ _ (by decide) g i k (Spec.dist (P g) i) (fun j => ?_) (fun _ j => hfin g i j)
  pointwise []
  refine congrArg Neg.neg ?_
  rw [word_zero]
  unfold Spec.dist
  refine congrArg₂ (· + ·) ?_ ?_
  · simp only [hx, Fin.sum_univ_three]
    rfl
  · rw [bit_eq i j]
    by_cases e : i = j
    · simp [e]
    · simp [e]

end Cert.Proof.RA

end
-- ==== Proof.RA2.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

theorem R2_eq (w) (hw : ∀ g i k, w (ix3 g i k) = BitVec.ofNat 32 (nbr (P g) i k.val).val) (R : Fin 20000) (k : Fin 15) :
    R2 w (ix2 R k) = BitVec.ofNat 32 (R.val / 1000 * 1000 + (nbr (P (gr R)) (pr R) k.val).val) := by
  pointwise [R2]
  rw [hw, word_add]

theorem R3_eq (x) (hx : ∀ R a, x (ix2 R a) = P (gr R) (pr R) a) (w)
    (hw : ∀ R k, w (ix2 R k) = BitVec.ofNat 32 (R.val / 1000 * 1000 + (nbr (P (gr R)) (pr R) k.val).val)) (R : Fin 20000) (k : Fin 15) (a : Fin 3) :
    R3 (F := Ideal) x w (ix3 R k a) = P (gr R) (nbr (P (gr R)) (pr R) k.val) a - P (gr R) (pr R) a := by
  have hm := (nbr (P (gr R)) (pr R) k.val).isLt
  have hR := R.isLt
  pointwise [R3]
  rw [hx]
  refine congrArg (fun z => z - P (gr R) (pr R) a) ?_
  refine (take3_apply _ x _ R k a ⟨R.val / 1000 * 1000 + (nbr (P (gr R)) (pr R) k.val).val, by omega⟩ ?_ (by decide)).trans ?_
  · pointwise []
    rw [hw, sel_nonneg _ (by omega)]
  · rw [hx]
    refine congrArg₂ (fun g i => P g i a) (Fin.ext ?_) (Fin.ext ?_)
    · show (R.val / 1000 * 1000 + _) / 1000 = R.val / 1000
      omega
    · show (R.val / 1000 * 1000 + _) % 1000 = _
      omega

end Cert.Proof.RA

end
-- ==== Proof.RA4.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

theorem scale_eq (x : EReal) : x * Ideal.ofBits .f32 1056964608#32 * Ideal.ofBits .f32 1082130432#32 = x * Ideal.ofBits .f32 0x40000000#32 := by
  rw [mul_assoc, Words.ofBits_half, Words.ofBits_four, Words.ofBits_two, ← EReal.coe_mul]
  norm_num

theorem R4_eq (x) (A : PA) (hx : ∀ (c : Fin 10) (u : Fin 5) (a : Fin 3), x (ix3 c u a) = A.W c u a) (w)
    (hw : ∀ R k a, w (ix3 R k a) = P (gr R) (nbr (P (gr R)) (pr R) k.val) a - P (gr R) (pr R) a) (R : Fin 20000) (f : Fin 30) :
    R4 (F := Ideal) x w (ix2 R f) = feat A.W (P (gr R)) (pr R) ⟨f.val / 3, by omega⟩ ⟨f.val % 3, by omega⟩ := by
  pointwise [R4]
  simp only [scale_eq, hx, hw]
  rfl

end Cert.Proof.RA

end
-- ==== Proof.RA5.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

theorem R5_eq (v87) (A : PA) (h87 : ∀ R (f : Fin 30), v87 (ix2 R f) = feat A.W (P (gr R)) (pr R) ⟨f.val / 3, by omega⟩ ⟨f.val % 3, by omega⟩) (v47)
    (h47 : ∀ R k, v47 (ix2 R k) = BitVec.ofNat 32 (R.val / 1000 * 1000 + (nbr (P (gr R)) (pr R) k.val).val)) (v57)
    (h57 : ∀ R k a, v57 (ix3 R k a) = P (gr R) (nbr (P (gr R)) (pr R) k.val) a - P (gr R) (pr R) a) (R : Fin 20000) (k : Fin 15) :
    (∀ f : Fin 30, R5 (F := Ideal) v87 v47 v57 (ix3 R k ⟨f.val, by omega⟩)
      = feat A.W (P (gr R)) (nbr (P (gr R)) (pr R) k.val) ⟨f.val / 3, by omega⟩ ⟨f.val % 3, by omega⟩)
    ∧ (∀ a : Fin 3, R5 (F := Ideal) v87 v47 v57 (ix3 R k ⟨30 + a.val, by omega⟩) = P (gr R) (nbr (P (gr R)) (pr R) k.val) a - P (gr R) (pr R) a) := by
  have hm := (nbr (P (gr R)) (pr R) k.val).isLt
  have hR := R.isLt
  refine ⟨fun f => ?_, fun a => ?_⟩
  · pointwise [R5]
    refine (take3_apply _ v87 _ R k f ⟨R.val / 1000 * 1000 + (nbr (P (gr R)) (pr R) k.val).val, by omega⟩ ?_ (by decide)).trans ?_
    · pointwise []
      rw [h47, sel_nonneg _ (by omega)]
    · rw [h87]
      refine congrArg₂ (fun g i => feat A.W (P g) i _ _) (Fin.ext ?_) (Fin.ext ?_)
      · show (R.val / 1000 * 1000 + _) / 1000 = R.val / 1000
        omega
      · show (R.val / 1000 * 1000 + _) % 1000 = _
        omega
  · pointwise [R5]
    rw [← h57]

end Cert.Proof.RA

end
-- ==== Proof.RA6.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (P : Fin 20 → Pts 1000)

/-- One layer on every pair of points. -/
def R6a (x : FVec Ideal S20000x15x33 .f32) (w : FVec Ideal S33x20 .f32) (b : FVec Ideal S20 .f32) : FVec Ideal S20000x15x20 .f32 :=
  (maximumf (addf (Host.dotGeneral dot_S20000x15x33_S33x20_S20000x15x20_2_0_01_1_n_n none x w) (broadcastInDim S20000x15x20 ![0, 1, 2] bcast_S1x1x20_S20000x15x20_0_1_2 (broadcastInDim S1x1x20 ![2] bcast_S20_S1x1x20_2 b))) (broadcastInDim S20000x15x20 ![] bcast_S_S20000x15x20 (constant S_ .f32 0x00000000#32)))
/-- The second layer on every pair of points. -/
def R6b (x : FVec Ideal S20000x15x20 .f32) (w : FVec Ideal S20x20 .f32) (b : FVec Ideal S20 .f32) : FVec Ideal S20000x15x20 .f32 :=
  (maximumf (addf (Host.dotGeneral dot_S20000x15x20_S20x20_S20000x15x20_2_0_01_1_n_n none x w) (broadcastInDim S20000x15x20 ![0, 1, 2] bcast_S1x1x20_S20000x15x20_0_1_2 (broadcastInDim S1x1x20 ![2] bcast_S20_S1x1x20_2 b))) (broadcastInDim S20000x15x20 ![] bcast_S_S20000x15x20 (constant S_ .f32 0x00000000#32)))
/-- The largest over a point's pairs. -/
def R6m (x : FVec Ideal S20000x15x20 .f32) : FVec Ideal S20000x20 .f32 :=
  Host.reduce FloatOps.maximumf x (constant (F := Ideal) S_ .f32 0xFF800000#32) reducesTo_S20000x15x20_S20000x20_d1 h_S_
/-- The sigmoid of every entry. -/
def R6c (y : FVec Ideal S20000x20 .f32) : FVec Ideal S20000x20 .f32 :=
  (Host.divf (broadcastInDim S20000x20 ![] bcast_S_S20000x20 (constant S_ .f32 0x3F800000#32)) (addf (broadcastInDim S20000x20 ![] bcast_S_S20000x20 (constant S_ .f32 0x3F800000#32)) (Host.exp (Host.negf y))))

theorem R6_parts (x w b w2 b2) : R6 (F := Ideal) x w b w2 b2 = R6c (R6m (R6b (R6a x w b) w2 b2)) := rfl

theorem R6a_eq (x w b) (R : Fin 20000) (k : Fin 15) (y : Fin 20) :
    R6a x w b (ix3 R k y) = max (∑ j : Fin 33, x (ix3 R k j) * w (ix2 j y) + b (ix1 y)) 0 := by
  pointwise [R6a]
theorem R6b_eq (x w b) (R : Fin 20000) (k : Fin 15) (y : Fin 20) :
    R6b x w b (ix3 R k y) = max (∑ j : Fin 20, x (ix3 R k j) * w (ix2 j y) + b (ix1 y)) 0 := by
  pointwise [R6b]
theorem R6m_eq (x) (R : Fin 20000) (y : Fin 20) :
    R6m x (ix2 R y) = Finset.univ.fold max (Ideal.ofBits .f32 0xFF800000#32) fun k : Fin 15 => x (ix3 R k y) := by
  pointwise [R6m]
theorem R6c_eq (x) (R : Fin 20000) (y : Fin 20) : R6c x (ix2 R y) = sigm (x (ix2 R y)) := by
  pointwise [R6c]
  rfl

theorem R6_eq (A : PA) (x w b w2 b2)
    (h1 : ∀ R k (f : Fin 30), x (ix3 R k ⟨f.val, by omega⟩)
      = feat A.W (P (gr R)) (nbr (P (gr R)) (pr R) k.val) ⟨f.val / 3, by omega⟩ ⟨f.val % 3, by omega⟩)
    (h2 : ∀ R k (a : Fin 3), x (ix3 R k ⟨30 + a.val, by omega⟩) = P (gr R) (nbr (P (gr R)) (pr R) k.val) a - P (gr R) (pr R) a)
    (hw : ∀ f y, w (ix2 f y) = A.W1 f y) (hb : ∀ y, b (ix1 y) = A.b1 y) (hw2 : ∀ f y, w2 (ix2 f y) = A.W2 f y) (hb2 : ∀ y, b2 (ix1 y) = A.b2 y)
    (R : Fin 20000) (y : Fin 20) :
    R6 (F := Ideal) x w b w2 b2 (ix2 R y) = lev1 A (P (gr R)) (pr R) y := by
  rw [R6_parts, R6c_eq, R6m_eq, Words.ofBits_ninf]
  unfold lev1
  refine congrArg sigm (Finset.fold_congr fun k _ => ?_)
  rw [R6b_eq, hb2]
  unfold lay2
  refine congrArg (fun z => max (z + A.b2 y) 0) (Finset.sum_congr rfl fun z _ => ?_)
  rw [hw2, R6a_eq, hb]
  unfold lay1
  refine congrArg (fun q => max (q + A.b1 z) 0 * A.W2 z y) ?_
  refine (Fin.sum_univ_add (a := 30) (b := 3) fun j : Fin 33 => x (ix3 R k j) * w (ix2 j z)).trans ?_
  refine congrArg₂ (· + ·) (Finset.sum_congr rfl fun f _ => ?_) (Finset.sum_congr rfl fun a _ => ?_)
  · exact congrArg₂ (· * ·) (h1 R k f) (hw _ _)
  · exact congrArg₂ (· * ·) (h2 R k a) (hw _ _)

end Cert.Proof.RA

end
-- ==== Proof.RB1.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (Q : Fin 20 → Pts 200)

theorem R7_eq (x : FVec Ideal S4000x3 .f32) (hx : ∀ R a, x (ix2 R a) = Q (gs R) (ps R) a)
    (hfin : ∀ g i j, Spec.dist (Q g) i j < ⊤) (g : Fin 20) (i : Fin 200) (k : Fin 15) :
    R7 (F := Ideal) x (ix3 g i k) = BitVec.ofNat 32 (nbr (Q g) i k.val).val := by
  have hx' : ∀ (g : Fin 20) (i : Fin 200) (a : Fin 3) h, x (ix2 ⟨g.val * 200 + i.val, h⟩ a) = Q g i a := fun g i a h => by
    rw [hx]
    refine congrArg₂ (fun g i => Q g i a) (Fin.ext ?_) (Fin.ext ?_)
    · show (g.val * 200 + i.val) / 200 = g.val
      omega
    · show (g.val * 200 + i.val) % 200 = i.val
      omega
  unfold R7
  refine topK3 _ _ (by decide) g i k (Spec.dist (Q g) i) (fun j => ?_) (fun _ j => hfin g i j)
  pointwise []
  refine congrArg Neg.neg ?_
  rw [word_zero]
  unfold Spec.dist
  refine congrArg₂ (· + ·) ?_ ?_
  · simp only [hx', Fin.sum_univ_three]
    rfl
  · rw [bit_eq i j]
    by_cases e : i = j
    · simp [e]
    · simp [e]

theorem R8_eq (w) (hw : ∀ g i k, w (ix3 g i k) = BitVec.ofNat 32 (nbr (Q g) i k.val).val) (R : Fin 4000) (k : Fin 15) :
    R8 w (ix2 R k) = BitVec.ofNat 32 (R.val / 200 * 200 + (nbr (Q (gs R)) (ps R) k.val).val) := by
  pointwise [R8]
  rw [hw, word_add]

end Cert.Proof.RA

end
-- ==== Proof.RB2.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

variable (Q : Fin 20 → Pts 200) (G : Fin 20 → Fin 200 → Fin 20 → EReal)

theorem R9_eq (x : FVec Ideal S20000x20 .f32) (hx : ∀ (g : Fin 20) (i : Fin 200) f, x (ix2 ⟨g.val * 200 + i.val, by omega⟩ f) = G g i f) (w)
    (hw : ∀ R k, w (ix2 R k) = BitVec.ofNat 32 (R.val / 200 * 200 + (nbr (Q (gs R)) (ps R) k.val).val)) (R : Fin 4000) (k : Fin 15) (f : Fin 20) :
    R9 (F := Ideal) x w (ix3 R k f) = G (gs R) (nbr (Q (gs R)) (ps R) k.val) f := by
  have hm := (nbr (Q (gs R)) (ps R) k.val).isLt
  have hR := R.isLt
  unfold R9
  refine (take3_apply _ x _ R k f ⟨R.val / 200 * 200 + (nbr (Q (gs R)) (ps R) k.val).val, by omega⟩ ?_ (by decide)).trans ?_
  · pointwise []
    rw [hw, sel_nonneg _ (by omega)]
  · exact hx (gs R) (nbr (Q (gs R)) (ps R) k.val) f

theorem R11_eq (x : FVec Ideal S20000x20 .f32) (hx : ∀ (g : Fin 20) (i : Fin 200) f, x (ix2 ⟨g.val * 200 + i.val, by omega⟩ f) = G g i f)
    (y) (hy : ∀ (R : Fin 4000) (k : Fin 15) (f : Fin 20), y (ix3 R k f) = G (gs R) (nbr (Q (gs R)) (ps R) k.val) f) (R : Fin 4000) (f : Fin 60) :
    R11 (F := Ideal) (R10a x) (R10b y) (R10c y) (ix2 R f) = cat (Q (gs R)) (G (gs R)) (ps R) f := by
  have ha : ∀ f : Fin 20, R10a (F := Ideal) x (ix2 R f) = G (gs R) (ps R) f := fun f => by
    pointwise [R10a]
    rw [← hx]
    refine congrArg (fun z => x (ix2 z f)) (Fin.ext ?_)
    show R.val = R.val / 200 * 200 + R.val % 200
    omega
  have hb : ∀ f : Fin 20, R10b (F := Ideal) y (ix2 R f) = Ideal.div (∑ k : Fin 15, G (gs R) (nbr (Q (gs R)) (ps R) k.val) f) (Ideal.ofBits .f32 0x41700000#32) := fun f => by
    pointwise [R10b]
    simp only [hy]
  have hc : ∀ f : Fin 20, R10c (F := Ideal) y (ix2 R f) = Finset.univ.fold max ⊥ fun k : Fin 15 => G (gs R) (nbr (Q (gs R)) (ps R) k.val) f := fun f => by
    pointwise [R10c]
    rw [Words.ofBits_ninf]
    simp only [hy]
  pointwise [R11]
  unfold cat
  by_cases h1 : f.val < 20
  · rw [dif_pos h1, dif_pos h1, ha]
  · by_cases h2 : f.val < 40
    · rw [dif_neg h1, dif_pos (show f.val - 20 < 20 from by omega), dif_neg h1, dif_pos h2, hb]
    · rw [dif_neg h1, dif_neg (show ¬ f.val - 20 < 20 from by omega), dif_neg h1, dif_neg h2, hc]

theorem R12_eq (B : PC) (x w b w2 b2) (hx : ∀ (R : Fin 4000) (f : Fin 60), x (ix2 R f) = cat (Q (gs R)) (G (gs R)) (ps R) f)
    (hw : ∀ f y, w (ix2 f y) = B.W3 f y) (hb : ∀ y, b (ix1 y) = B.b3 y) (hw2 : ∀ f y, w2 (ix2 f y) = B.W4 f y) (hb2 : ∀ y, b2 (ix1 y) = B.b4 y)
    (g : Fin 20) (y : Fin 32) : R12 (F := Ideal) x w b w2 b2 (ix2 g y) = pool B (Q g) (G g) y := by
  have hx' : ∀ (i : Fin 200) (f : Fin 60) h, x (ix2 ⟨g.val * 200 + i.val, h⟩ f) = cat (Q g) (G g) i f := fun i f h => by
    rw [hx]
    refine congrArg₂ (fun g i => cat (Q g) (G g) i f) (Fin.ext ?_) (Fin.ext ?_)
    · show (g.val * 200 + i.val) / 200 = g.val
      omega
    · show (g.val * 200 + i.val) % 200 = i.val
      omega
  pointwise [R12]
  simp only [hx', hw, hb, hw2, hb2]
  rfl

end Cert.Proof.RA

end
-- ==== Proof.RB3.lean ====
module

public import proofs.«01_k».proof.Proof.PostDefs
public import proofs.«01_k».proof.Proof.RW
public import Idealize.ShloMosaic.Lib.Pointwise

@[expose] public section
set_option maxRecDepth 16384
noncomputable section
namespace Cert.Proof.RA
open Cert.ReferenceIdeal Cert.ReferenceIdeal.Gen Cert.Proof.Post Cert.Proof.Spec Cert.Proof.Sel
open Idealize.ShloMosaic Idealize.ShloMosaic.TcCoe
open Cert.Proof.RL

theorem R13_eq (H : PH) (x w b w2 b2) (v : Fin 32 → EReal) (g : Fin 20) (hx : ∀ y, x (ix2 g y) = v y)
    (hw : ∀ f y, w (ix2 f y) = H.W5 f y) (hb : ∀ y, b (ix1 y) = H.b5 y) (hw2 : ∀ f y, w2 (ix2 f y) = H.W6 f y) (hb2 : ∀ y, b2 (ix1 y) = H.b6 y)
    (l : Fin 40) : R13 (F := Ideal) x w b w2 b2 (ix2 g l) = head H v l := by
  pointwise [R13]
  simp only [hx, hw, hb, hw2, hb2, Words.ofBits_ninf]
  rfl

end Cert.Proof.RA

end
-- ==== Proof.RTop.lean ====
module

public import proofs.«01_k».proof.Proof.Net
public import proofs.«01_k».proof.Proof.Ref
public import proofs.«01_k».proof.Proof.RLoop
public import proofs.«01_k».proof.Proof.PostTop
public import proofs.«01_k».proof.Proof.RA0
public import proofs.«01_k».proof.Proof.RA1
public import proofs.«01_k».proof.Proof.RA2
public import proofs.«01_k».proof.Proof.RA4
public import proofs.«01_k».proof.Proof.RA5
public import proofs.«01_k».proof.Proof.RA6
public import proofs.«01_k».proof.Proof.RB1
public import proofs.«01_k».proof.Proof.RB2
public import proofs.«01_k».proof.Proof.RB3

/-! The reference computes the network. -/

@[expose] public section

set_option maxRecDepth 16384

noncomputable section

namespace Cert.Proof.RTop

open Cert.ReferenceIdeal Cert.ReferenceIdeal.Gen Cert.ReferenceIdeal.Value Cert.Proof.Spec Cert.Proof.RA Cert.Proof.Post
open Idealize.ShloMosaic Idealize.ShloMosaic.TcCoe Idealize.ShloMosaic.StableHlo

/-- The first level's parameters as the arguments hold them. -/
def prmA (x3 : FVec Ideal S10x5x3 .f32) (x4 : FVec Ideal S33x20 .f32) (x5 : FVec Ideal S20 .f32) (x6 : FVec Ideal S20x20 .f32) (x7 : FVec Ideal S20 .f32) : PA where
  W c u a := x3 (ix3 c u a)
  W1 f y := x4 (ix2 f y)
  b1 y := x5 (ix1 y)
  W2 f y := x6 (ix2 f y)
  b2 y := x7 (ix1 y)
/-- The second level's. -/
def prmC (x8 : FVec Ideal S60x64 .f32) (x9 : FVec Ideal S64 .f32) (x10 : FVec Ideal S64x32 .f32) (x11 : FVec Ideal S32 .f32) : PC where
  W3 f y := x8 (ix2 f y)
  b3 y := x9 (ix1 y)
  W4 f y := x10 (ix2 f y)
  b4 y := x11 (ix1 y)
/-- The head's. -/
def prmH (x12 : FVec Ideal S32x256 .f32) (x13 : FVec Ideal S256 .f32) (x14 : FVec Ideal S256x40 .f32) (x15 : FVec Ideal S40 .f32) : PH where
  W5 f y := x12 (ix2 f y)
  b5 y := x13 (ix1 y)
  W6 f y := x14 (ix2 f y)
  b6 y := x15 (ix1 y)
/-- The points of each graph. -/
def pts (x0 : FVec Ideal S20000x3 .f32) (g : Fin 20) : Pts 1000 := fun i a => x0 (ix2 ⟨g.val * 1000 + i.val, by omega⟩ a)

theorem pts_row (x0 : FVec Ideal S20000x3 .f32) (R : Fin 20000) (a : Fin 3) : x0 (ix2 R a) = pts x0 (gr R) (pr R) a := by
  unfold pts
  refine congrArg (fun z => x0 (ix2 z a)) (Fin.ext ?_)
  show R.val = R.val / 1000 * 1000 + R.val % 1000
  omega

theorem tail_eq (X : Valuation τ sig (Elt Ideal)) (P : Fin 20 → Pts 1000)
    (hfin : ∀ g i a, ∃ r : ℝ, P g i a = (r : EReal))
    (h0 : ∀ R a, (X (Proc.devRef .tc main_arg0) : FVec Ideal S20000x3 .f32) (ix2 R a) = P (gr R) (pr R) a)
    (hv0 : ∀ g i a, (X (Proc.devRef .tc main_v0) : FVec Ideal S20x1000x3 .f32) (ix3 g i a) = P g i a)
    (hw : ∀ (g : Fin 20) (j : Fin 200), (X (Proc.devRef .tc main_v7_4) : IVec S20x200 32) (ix2 g j) = BitVec.ofNat 32 (fps (P g) j.val).1.val)
    (g : Fin 20) (l : Fin 40) :
    (t_v200 X : FVec Ideal S20x40 .f32) (ix2 g l) = net P
      (prmA (X (Proc.devRef .tc main_arg3)) (X (Proc.devRef .tc main_arg4)) (X (Proc.devRef .tc main_arg5)) (X (Proc.devRef .tc main_arg6)) (X (Proc.devRef .tc main_arg7)))
      (prmC (X (Proc.devRef .tc main_arg8)) (X (Proc.devRef .tc main_arg9)) (X (Proc.devRef .tc main_arg10)) (X (Proc.devRef .tc main_arg11)))
      (prmH (X (Proc.devRef .tc main_arg12)) (X (Proc.devRef .tc main_arg13)) (X (Proc.devRef .tc main_arg14)) (X (Proc.devRef .tc main_arg15))) g l := by
  set A := prmA (X (Proc.devRef .tc main_arg3)) (X (Proc.devRef .tc main_arg4)) (X (Proc.devRef .tc main_arg5)) (X (Proc.devRef .tc main_arg6)) (X (Proc.devRef .tc main_arg7)) with hA
  have f1 : ∀ g i j, Spec.dist (P g) i j < ⊤ := fun g => dist_lt_top _ (hfin g)
  have f2 : ∀ g i j, Spec.dist (sub (P g) 200) i j < ⊤ := fun g => dist_lt_top _ fun i a => hfin g _ a
  have e21 : ∀ R a, (t_v21 X : FVec Ideal S4000x3 .f32) (ix2 R a) = sub (P (gs R)) 200 (ps R) a := R0_eq P _ _ h0 hw
  have ei : ∀ g i k, (t_indices X : IVec S20x1000x15 32) (ix3 g i k) = BitVec.ofNat 32 (nbr (P g) i k.val).val := R1_eq P _ hv0 f1
  have e47 := R2_eq P (t_indices X) ei
  have e57 := R3_eq P (X (Proc.devRef .tc main_arg0)) h0 (t_v47 X) e47
  have e87 := R4_eq P (X (Proc.devRef .tc main_arg3)) A (fun _ _ _ => rfl) (t_v57 X) e57
  have e95 := fun R k => R5_eq P (t_v87 X) A e87 (t_v47 X) e47 (t_v57 X) e57 R k
  have e114 : ∀ R y, (t_v114 X : FVec Ideal S20000x20 .f32) (ix2 R y) = lev1 A (P (gr R)) (pr R) y :=
    R6_eq P A (t_v95 X) _ _ _ _ (fun R k => (e95 R k).1) (fun R k => (e95 R k).2) (fun _ _ => rfl) (fun _ => rfl) (fun _ _ => rfl) (fun _ => rfl)
  have ei2 : ∀ g i k, (t_indices_31 X : IVec S20x200x15 32) (ix3 g i k) = BitVec.ofNat 32 (nbr (sub (P g) 200) i k.val).val :=
    R7_eq (fun g => sub (P g) 200) (t_v21 X) e21 f2
  have e141 := R8_eq (fun g => sub (P g) 200) (t_indices_31 X) ei2
  have eG : ∀ (g : Fin 20) (i : Fin 200) (f : Fin 20), (t_v114 X : FVec Ideal S20000x20 .f32) (ix2 ⟨g.val * 200 + i.val, by omega⟩ f) = own A P g i f :=
    fun g i f => e114 _ f
  have e148 := R9_eq (fun g => sub (P g) 200) (own A P) (t_v114 X) eG (t_v141 X) e141
  have e154 := R11_eq (fun g => sub (P g) 200) (own A P) (t_v114 X) eG (t_v148 X) e148
  have e176 := R12_eq (fun g => sub (P g) 200) (own A P) (prmC (X (Proc.devRef .tc main_arg8)) (X (Proc.devRef .tc main_arg9)) (X (Proc.devRef .tc main_arg10)) (X (Proc.devRef .tc main_arg11)))
    (t_v154 X) (X (Proc.devRef .tc main_arg8)) (X (Proc.devRef .tc main_arg9)) (X (Proc.devRef .tc main_arg10)) (X (Proc.devRef .tc main_arg11)) e154
    (fun _ _ => rfl) (fun _ => rfl) (fun _ _ => rfl) (fun _ => rfl)
  exact R13_eq (prmH (X (Proc.devRef .tc main_arg12)) (X (Proc.devRef .tc main_arg13)) (X (Proc.devRef .tc main_arg14)) (X (Proc.devRef .tc main_arg15)))
    (t_v176 X) (X (Proc.devRef .tc main_arg12)) (X (Proc.devRef .tc main_arg13)) (X (Proc.devRef .tc main_arg14)) (X (Proc.devRef .tc main_arg15)) _ g (e176 g)
    (fun _ _ => rfl) (fun _ => rfl) (fun _ _ => rfl) (fun _ => rfl) l

variable (m : (ℓ : Loc nD τ sig) → Buf (Elt Ideal) ℓ)

/-- A buffer the loop and its condition leave, at the loop's end. -/
theorem end_keeps (c : Dev nD) (r : Ref sig .tc) (h : r ∉ condOps_W ∧ r ∉ while0Ops0_W) :
    after condOps (atK m 199 c) (Proc.devRef .tc r) = entryContents preI m c (Proc.devRef .tc r) := by
  rw [after_of_writes_sub condOps _ condOps_writes h.1]
  exact Ref.trip_keeps c r h (entryContents preI m) 199

theorem end_arg (c : Dev nD) (r : Ref sig .tc) (h : Ref.Untouched r) :
    after condOps (atK m 199 c) (Proc.devRef .tc r) = m ((c.tc : Thread nD τ).loc r) := by
  rw [end_keeps m c r ⟨h.2.1, h.2.2.1⟩]
  show after hostOps0 (launchContents m c) (Proc.devRef .tc r) = _
  rw [after_of_writes_sub hostOps0 _ hostOps0_writes h.1]

/-- The reference's result is the network's. -/
theorem value (c : Dev nD) (hfin : ∀ i a, ∃ r : ℝ, (m ((c.tc : Thread nD τ).loc main_arg0) : FVec Ideal S20000x3 .f32) (ix2 i a) = (r : EReal)) (g : Fin 20) (l : Fin 40) :
    (finalContents condOps preI bodyI postI 199 m c (Proc.devRef .tc main_v200) : FVec Ideal S20x40 .f32) (ix2 g l)
      = net (pts (m ((c.tc : Thread nD τ).loc main_arg0)))
      (prmA (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (prmC (m ((c.tc : Thread nD τ).loc main_arg8)) (m ((c.tc : Thread nD τ).loc main_arg9)) (m ((c.tc : Thread nD τ).loc main_arg10)) (m ((c.tc : Thread nD τ).loc main_arg11)))
      (prmH (m ((c.tc : Thread nD τ).loc main_arg12)) (m ((c.tc : Thread nD τ).loc main_arg13)) (m ((c.tc : Thread nD τ).loc main_arg14)) (m ((c.tc : Thread nD τ).loc main_arg15))) g l := by
  have hx := pts_row (m ((c.tc : Thread nD τ).loc main_arg0))
  have e := tail_eq (after condOps (atK m 199 c)) (pts (m ((c.tc : Thread nD τ).loc main_arg0))) (fun g i a => hfin _ a)
    (by rw [end_arg m c main_arg0 (by decide +kernel)]; exact hx)
    (by rw [end_keeps m c main_v0 (by decide +kernel), RLoop.entry_v0]; exact RLoop.posL_eq _ _ hx)
    (by rw [cond_keeps _ main_v7_4 (by decide)]; exact RLoop.words _ m c hx) g l
  rw [end_arg m c main_arg3 (by decide +kernel), end_arg m c main_arg4 (by decide +kernel), end_arg m c main_arg5 (by decide +kernel), end_arg m c main_arg6 (by decide +kernel),
    end_arg m c main_arg7 (by decide +kernel), end_arg m c main_arg8 (by decide +kernel), end_arg m c main_arg9 (by decide +kernel), end_arg m c main_arg10 (by decide +kernel),
    end_arg m c main_arg11 (by decide +kernel), end_arg m c main_arg12 (by decide +kernel), end_arg m c main_arg13 (by decide +kernel), end_arg m c main_arg14 (by decide +kernel),
    end_arg m c main_arg15 (by decide +kernel)] at e
  rw [← e]
  exact congrFun (post_eq (after condOps (atK m 199 c))) (ix2 g l)

end Cert.Proof.RTop

end
-- ==== Proof.KTop.lean ====
module

public import proofs.«01_k».proof.Proof.KWin
public import proofs.«01_k».proof.Proof.KA
public import proofs.«01_k».proof.Proof.KC
public import proofs.«01_k».proof.Proof.KF
public import proofs.«01_k».proof.Proof.RTop

/-! The kernel computes the network. -/

@[expose] public section

set_option maxRecDepth 16384

noncomputable section

namespace Cert.Proof.KTop

open Cert.KernelIdeal Cert.KernelIdeal.Gen
open Idealize.ShloMosaic Idealize.ShloMosaic.TcCoe Idealize.ShloMosaic.Tactic
open Cert.Proof.Clean Cert.Proof.Body Cert.Proof.Track Cert.Proof.Spec Cert.Proof.KWin

variable (m : (ℓ : Loc nD τ sig) → Buf (Elt Ideal) ℓ) (c : Dev nD)

/-- The points of each graph, and the parameters, as the arguments hold them. -/
abbrev PP : Fin 20 → Pts 1000 := RTop.pts (m ((c.tc : Thread nD τ).loc main_arg0))
abbrev AA : PA := RTop.prmA (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev BB : PC := RTop.prmC (m ((c.tc : Thread nD τ).loc main_arg8)) (m ((c.tc : Thread nD τ).loc main_arg9)) (m ((c.tc : Thread nD τ).loc main_arg10)) (m ((c.tc : Thread nD τ).loc main_arg11))
abbrev HH : PH := RTop.prmH (m ((c.tc : Thread nD τ).loc main_arg12)) (m ((c.tc : Thread nD τ).loc main_arg13)) (m ((c.tc : Thread nD τ).loc main_arg14)) (m ((c.tc : Thread nD τ).loc main_arg15))

variable (hfin : ∀ i a, ∃ r : ℝ, (m ((c.tc : Thread nD τ).loc main_arg0) : FVec Ideal S20000x3 .f32) (ix2 i a) = (r : EReal))
  (hfw : ∀ (a : Fin 3) (x : Fin 20), ∃ r : ℝ, (m ((c.tc : Thread nD τ).loc main_arg4) : FVec Ideal S33x20 .f32) (ix2 (Fin.natAdd 30 a : Fin (30 + 3)) x) = (r : EReal))

include hfin hfw in
theorem blkA_eq (t : Fin cfg0.N) (g : Fin 20) (ht : t.val < 4) (hg : g.val = t.val) (r : Fin 1000) (l : Fin 20) :
    blkA m c t (ix2 r l) = lev1 (AA m c) (PP m c g) r l := by
  refine KA.stageA_eq _ _ _ _ _ _ _ (PP m c g) (AA m c) (fun i a => ?_) (fun i a => ?_) (fun q l => ?_) (fun i j => ?_) (fun j => ?_) (fun i j => ?_) (fun j => ?_)
    (fun i a => hfin _ a) hfw r l
  · exact (blk0 m c t ht i a).trans (congrArg (fun z => (m ((c.tc : Thread nD τ).loc main_arg0) : FVec Ideal S20000x3 .f32) (ix2 z a)) (Fin.ext (by show t.val * 1000 + i.val = g.val * 1000 + i.val; rw [hg])))
  · exact (blk2 m c t ht i a).trans (congrArg (fun z => (m ((c.tc : Thread nD τ).loc main_arg0) : FVec Ideal S20000x3 .f32) (ix2 z a)) (Fin.ext (by show t.val * 1000 + i.val = g.val * 1000 + i.val; rw [hg])))
  · exact blk3 m c t q l
  · exact blk4 m c t i j
  · exact blk5 m c t j
  · exact blk6 m c t i j
  · exact blk7 m c t j

/-- The stored features of a row. -/
def row (A : PA) (P : Fin 20 → Pts 1000) (R : Fin 4000) (f : Fin 20) : EReal :=
  lev1 A (P ⟨R.val / 1000, by omega⟩) ⟨R.val % 1000, by omega⟩ f

theorem putA_eq (o : ℕ) (d : FVec Ideal S4000x20 .f32) (v : FVec Ideal S1000x20 .f32) (R : Fin 4000) (f : Fin 20) :
    putA (F := Ideal) o d v (ix2 R f) = if h : o ≤ R.val ∧ R.val < o + 1000 then v (ix2 ⟨R.val - o, by omega⟩ f) else d (ix2 R f) := by
  unfold putA
  by_cases h : o ≤ R.val ∧ R.val < o + 1000
  · have h' : o ≤ ((ix2 R f : S4000x20.Idx) (0 : Fin 2)).val ∧ ((ix2 R f : S4000x20.Idx) (0 : Fin 2)).val < o + 1000 := h
    rw [dif_pos h', dif_pos h]
    refine congrArg v ?_
    funext a
    fin_cases a <;> rfl
  · have h' : ¬ (o ≤ ((ix2 R f : S4000x20.Idx) (0 : Fin 2)).val ∧ ((ix2 R f : S4000x20.Idx) (0 : Fin 2)).val < o + 1000) := h
    rw [dif_neg h', dif_neg h]

include hfin hfw in
theorem fdd_eq : ∀ n, n ≤ 4 → ∀ (R : Fin 4000) (f : Fin 20), R.val < 1000 * n → fdd m c n (ix2 R f) = row (AA m c) (PP m c) R f
  | 0, _, R, f, h => absurd h (by omega)
  | n + 1, hn, R, f, h => by
    have e : fdd m c (n + 1) = putA (1000 * n) (fdd m c n) (blkA m c (pt n (by omega))) := by
      rw [fdd, dif_pos (show n < 25 by omega)]
    rw [e, putA_eq]
    by_cases hb : 1000 * n ≤ R.val ∧ R.val < 1000 * n + 1000
    · rw [dif_pos hb, blkA_eq m c hfin hfw (pt n (by omega)) ⟨n, by omega⟩ (show n < 4 by omega) rfl]
      unfold row
      have e1 : (⟨n, by omega⟩ : Fin 20) = ⟨R.val / 1000, by omega⟩ := Fin.ext (by show n = R.val / 1000; omega)
      have e2 : (⟨R.val - 1000 * n, by omega⟩ : Fin 1000) = ⟨R.val % 1000, by omega⟩ := Fin.ext (by show R.val - 1000 * n = R.val % 1000; omega)
      rw [e1, e2]
    · rw [dif_neg hb]
      exact fdd_eq n (by omega) R f (by omega)

theorem subA_eq (k : ℕ) (hk : k < 20) (d : FVec Ideal S4000x20 .f32) (i : Fin 200) (f : Fin 20) (h : 200 * k + 200 ≤ 4000) :
    subA (F := Ideal) (200 * k) h d (ix2 i f) = d (ix2 ⟨200 * k + i.val, by omega⟩ f) := by
  unfold subA View.ld
  refine congrArg d ?_
  funext a
  fin_cases a
  · exact Fin.ext (by show 200 * k + 1 * i.val = 200 * k + i.val; omega)
  · exact Fin.ext (by show 0 + 1 * f.val = f.val; omega)

theorem coord : ∀ t : Fin cfg0.N, (grid0.coords t 0).val = t.val := (by decide +kernel : ∀ t : Fin grid0.N, (grid0.coords t 0).val = t.val)

theorem step_eq (v : Fin 20 → EReal) (k : ℕ) (hk : k < 20) (r : Fin 20) :
    (if r.val < k then v r else 0) + (if r = ⟨k, hk⟩ then v ⟨k, hk⟩ else 0) = if r.val < k + 1 then v r else 0 := by
  rcases lt_trichotomy r.val k with h | h | h
  · have e : r ≠ ⟨k, hk⟩ := fun e => absurd h (by rw [e]; exact lt_irrefl _)
    rw [if_pos h, if_pos (show r.val < k + 1 by omega), if_neg e, add_zero]
  · have e : r = ⟨k, hk⟩ := Fin.ext h
    rw [if_neg (show ¬ r.val < k by omega), if_pos (show r.val < k + 1 by omega), if_pos e, ← e, zero_add]
  · have e : r ≠ ⟨k, hk⟩ := fun e => absurd h (by rw [e]; exact lt_irrefl _)
    rw [if_neg (show ¬ r.val < k by omega), if_neg (show ¬ r.val < k + 1 by omega), if_neg e, add_zero]

include hfin hfw in
theorem ysum_eq : ∀ k, k ≤ 20 → ∀ (r : Fin 20) (l : Fin 32),
    ysum m c k (ix2 r l) = if r.val < k then pool (BB m c) (sub (PP m c r) 200) (own (AA m c) (PP m c) r) l else 0
  | 0, _, r, l => by
    rw [if_neg (by omega)]
    show zeroY (F := Ideal) (ix2 r l) = 0
    pointwise [zeroY]
  | k + 1, hk, r, l => by
    have hx : ∀ i : Fin 200, (pxyz m c).1 (ix2 ⟨k, by omega⟩ i) = sub (PP m c ⟨k, by omega⟩) 200 i 0 ∧ (pxyz m c).2.1 (ix2 ⟨k, by omega⟩ i) = sub (PP m c ⟨k, by omega⟩) 200 i 1
        ∧ (pxyz m c).2.2 (ix2 ⟨k, by omega⟩ i) = sub (PP m c ⟨k, by omega⟩) 200 i 2 := KF.stageF_eq (iblk m c 1 (pt 4 (by omega))) ⟨k, by omega⟩ (PP m c ⟨k, by omega⟩) (fun l a => blk1 m c _ l a _)
    have e : ysum m c (k + 1) = stageC (grid0.coords (pt (k + 5) (by omega))) (subA (200 * k) (by omega) (fdd m c 4)) (pxyz m c).1 (pxyz m c).2.1 (pxyz m c).2.2
        (iblk m c 8 (pt (k + 5) (by omega))) (iblk m c 9 (pt (k + 5) (by omega))) (iblk m c 10 (pt (k + 5) (by omega))) (iblk m c 11 (pt (k + 5) (by omega))) (ysum m c k) := by
      rw [ysum, dif_pos (show k < 20 by omega)]
    rw [e]
    refine (KC.stageC_eq _ ⟨k, by omega⟩ (coord _) _ _ _ _ _ _ _ _ _ (BB m c) (sub (PP m c ⟨k, by omega⟩) 200) (own (AA m c) (PP m c) ⟨k, by omega⟩)
      (fun i f => ?_) (fun i => (hx i).1) (fun i => (hx i).2.1) (fun i => (hx i).2.2) (fun i j => blk8 m c _ i j) (fun j => blk9 m c _ j) (fun i j => blk10 m c _ i j) (fun j => blk11 m c _ j) r l).trans ?_
    · rw [subA_eq k (by omega), fdd_eq m c hfin hfw 4 le_rfl _ _ (by show 200 * k + i.val < 4000; omega)]
      unfold row own
      have e1 : (⟨(200 * k + i.val) / 1000, by omega⟩ : Fin 20) = ⟨(k * 200 + i.val) / 1000, by omega⟩ := Fin.ext (by show (200 * k + i.val) / 1000 = (k * 200 + i.val) / 1000; rw [Nat.mul_comm])
      have e2 : (⟨(200 * k + i.val) % 1000, by omega⟩ : Fin 1000) = ⟨(k * 200 + i.val) % 1000, by omega⟩ := Fin.ext (by show (200 * k + i.val) % 1000 = (k * 200 + i.val) % 1000; rw [Nat.mul_comm])
      show lev1 _ (PP m c ⟨(200 * k + i.val) / 1000, _⟩) ⟨(200 * k + i.val) % 1000, _⟩ f = lev1 _ (PP m c ⟨(k * 200 + i.val) / 1000, _⟩) ⟨(k * 200 + i.val) % 1000, _⟩ f
      rw [e1, e2]
    · rw [ysum_eq k (by omega) r l]
      exact step_eq (fun r => pool (BB m c) (sub (PP m c r) 200) (own (AA m c) (PP m c) r) l) k (by omega) r

include hfin hfw in
theorem out_eq (t : Fin cfg0.N) (r : Fin 20) (l : Fin 40) : outV m c t (ix2 r l) = net (PP m c) (AA m c) (BB m c) (HH m c) r l := by
  unfold outV net
  refine KC.head_eq _ _ _ _ _ (HH m c) (fun r => pool (BB m c) (sub (PP m c r) 200) (own (AA m c) (PP m c) r)) (fun r y => ?_)
    (fun i j => blk12 m c t i j) (fun j => blk13 m c t j) (fun i j => blk14 m c t i j) (fun j => blk15 m c t j) r l
  rw [ysum_eq m c hfin hfw 20 le_rfl r y, if_pos r.isLt]

theorem idx16 : ∀ t : Fin cfg0.N, win0_16.index t = ![0, 0] := (by decide +kernel : ∀ t : Fin grid0.N, win0_16.index t = ![0, 0])

/-- The result as an array. -/
def res : FVec Ideal S20x40 .f32 := fun j => net (PP m c) (AA m c) (BB m c) (HH m c) (j 0) (j 1)

include hfin hfw in
theorem arr_eq : (dats m 0 c).arrAt 16 (cfgs 0).N = res m c := by
  refine (dats m 0 c).arrAt_eq_of_after_last 16 (pt 24 (by omega)) (by decide +kernel) _ fun j => ?_
  blk_simp
  rw [after0_16]
  have h := out_eq m c hfin hfw (pt 24 (by omega)) (j 0) (j 1)
  exact (congrArg (outV m c (pt 24 (by omega))) (eq_ix2 j)).trans h

end Cert.Proof.KTop
-- ==== Proof.Alg.lean ====
module

public import proofs.«01_k».proof.Defs
public import proofs.«01_k».proof.Proof.Pre
public import proofs.«01_k».proof.Proof.KTop
public import proofs.«01_k».proof.Proof.Frames
public import Idealize.ShloMosaic.Lib.Claim

/-! The two programs compute one result. -/

@[expose] public section

set_option maxRecDepth 16384

noncomputable section

namespace Cert.Proof.Alg

open Idealize.ShloMosaic Idealize.ShloMosaic.TcCoe Idealize.ShloMosaic.StableHlo Idealize.SL.Sem Cert.Proof.Spec
open Cert.ReferenceIdeal.Value Cert.ReferenceIdeal.Gen

/-- The network on equal arguments is one network. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hfin : ∀ i a, ∃ r : ℝ, (m ((c.tc : Thread Cert.KernelIdeal.nD Cert.KernelIdeal.τ).loc Cert.KernelIdeal.main_arg0) : FVec Ideal Cert.KernelIdeal.S20000x3 .f32) (ix2 i a) = (r : EReal))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    finalContents condOps preI bodyI postI 199 m' c (Proc.devRef .tc Cert.ReferenceIdeal.main_v200) = KTop.res m c := by
  refine funext fun j => ?_
  have hv := RTop.value m' c (fun i a => by rw [h0]; exact hfin i a) (j 0) (j 1)
  rw [h0, h3, h4, h5, h6, h7, h8, h9, h10, h11, h12, h13, h14, h15] at hv
  exact (congrArg (finalContents condOps preI bodyI postI 199 m' c (Proc.devRef .tc Cert.ReferenceIdeal.main_v200)) (eq_ix2 j)).trans hv

/-- The kernel's run leaves the network's result. -/
theorem kernel_run (m : (ℓ : Loc Cert.KernelIdeal.nD Cert.KernelIdeal.τ Cert.KernelIdeal.sig) → Buf (Elt Ideal) ℓ) (g : Dev Cert.KernelIdeal.nD → PrngReg)
    (hfin : ∀ c : Dev Cert.KernelIdeal.nD, ∀ i a, ∃ r : ℝ, (m ((c.tc : Thread Cert.KernelIdeal.nD Cert.KernelIdeal.τ).loc Cert.KernelIdeal.main_arg0) : FVec Ideal Cert.KernelIdeal.S20000x3 .f32) (ix2 i a) = (r : EReal))
    (hfw : ∀ c : Dev Cert.KernelIdeal.nD, ∀ (a : Fin 3) (x : Fin 20), ∃ r : ℝ, (m ((c.tc : Thread Cert.KernelIdeal.nD Cert.KernelIdeal.τ).loc Cert.KernelIdeal.main_arg4) : FVec Ideal Cert.KernelIdeal.S33x20 .f32) (ix2 (Fin.natAdd 30 a : Fin (30 + 3)) x) = (r : EReal)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v24) = KTop.res m c) :=
  (θ_run Cert.KernelIdeal.defs _ _).mono (fun r h c => ((h c).1 16).trans (KTop.arr_eq m c (hfin c) (hfw c))) (Track.run_main m g)

theorem algebraic : Cert.algebraic_KernelIdeal_ReferenceIdeal_pre_finite (hKernelIdeal := Cert.KernelIdeal.Gen.facts) (hReferenceIdeal := Cert.ReferenceIdeal.Gen.facts) (hPre_finite := Pre.facts) := by
  intro m g m' g' hpre hargs
  refine ⟨fun c => KTop.res m c, ?_, ?_⟩
  · exact (θ_run Cert.KernelIdeal.defs _ _).mono (fun r h c => ⟨h.1 c, h.2 c⟩) (θ_run_and
      (kernel_run m g (fun c => (Pre.decode Pre.facts _ _ _ _ _ _ _ _ _ _ _ _ _ _ _ _ (hpre c)).1) (fun c => (Pre.decode Pre.facts _ _ _ _ _ _ _ _ _ _ _ _ _ _ _ _ (hpre c)).2))
      (Cert.KernelIdeal.Gen.frame_of m g (Track.dats m) (Track.A_eq m) (Track.run_main m g)))
  · refine (θ_run Cert.ReferenceIdeal.defs _ _).mono (fun r h c => ⟨(h c).1.trans ?_, (h c).2⟩) (Ref.run_result m' g')
    have hd := Pre.decode Pre.facts _ _ _ _ _ _ _ _ _ _ _ _ _ _ _ _ (hpre c)
    obtain ⟨h0, h1, h2, h3, h4, h5, h6, h7, h8, h9, h10, h11, h12, h13, h14, h15⟩ := hargs c
    exact value m m' c hd.1 h0 h3 h4 h5 h6 h7 h8 h9 h10 h11 h12 h13 h14 h15

end Cert.Proof.Alg
-- ==== Proof.lean ====
module

public import proofs.«01_k».proof.Defs
public import proofs.«01_k».proof.Proof.Frames
public import proofs.«01_k».proof.Proof.Alg

/-! The claims, assembled. -/

@[expose] public section

noncomputable section

namespace Cert.Proof

open Idealize.ShloMosaic

/-- Every claim holds. -/
theorem claim : Cert.Claim := ⟨Cert.Kernel.Gen.facts, Cert.KernelIdeal.Gen.facts, Cert.ReferenceIdeal.Gen.facts, Pre.facts,
  fun m g _ => Frames.kernel m g, fun m g _ => Frames.kernelIdeal m g, fun m g _ => Frames.kernelIdeal m g,
  fun m g _ => Ref.frame m g, fun m g _ => Ref.frame m g, Frames.preserves, Alg.algebraic⟩

end Cert.Proof

end
